-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v37_0)) (v1 : (c : Dev Cert.Kernel2Ideal.nD) → Buf (Elt Ideal) ((c.tc : Thread Cert.Kernel2Ideal.nD Cert.Kernel2Ideal.τ).loc Cert.Kernel2Ideal.main_v37_1)) (v2 : (c : Dev Cert.Kernel2Ideal.nD) → Buf (Elt Ideal) ((c.tc : Thread Cert.Kernel2Ideal.nD Cert.Kernel2Ideal.τ).loc Cert.Kernel2Ideal.main_v37_2)) (v3 : (c : Dev Cert.Kernel2Ideal.nD) → Buf (Elt Ideal) ((c.tc : Thread Cert.Kernel2Ideal.nD Cert.Kernel2Ideal.τ).loc Cert.Kernel2Ideal.main_v37_3)) (v4 : (c : Dev Cert.Kernel2Ideal.nD) → Buf (Elt Ideal) ((c.tc : Thread Cert.Kernel2Ideal.nD Cert.Kernel2Ideal.τ).loc Cert.Kernel2Ideal.main_v37_4)) (v5 : (c : Dev Cert.Kernel2Ideal.nD) → Buf (Elt Ideal) ((c.tc : Thread Cert.Kernel2Ideal.nD Cert.Kernel2Ideal.τ).loc Cert.Kernel2Ideal.main_v37_5)) (v6 : (c : Dev Cert.Kernel2Ideal.nD) → Buf (Elt Ideal) ((c.tc : Thread Cert.Kernel2Ideal.nD Cert.Kernel2Ideal.τ).loc Cert.Kernel2Ideal.main_v37_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37_0) = v0 c
          ∧ r.2.mem ((c.tc : Thread Cert.Kernel2Ideal.nD Cert.Kernel2Ideal.τ).loc Cert.Kernel2Ideal.main_v37_1) = v1 c
          ∧ r.2.mem ((c.tc : Thread Cert.Kernel2Ideal.nD Cert.Kernel2Ideal.τ).loc Cert.Kernel2Ideal.main_v37_2) = v2 c
          ∧ r.2.mem ((c.tc : Thread Cert.Kernel2Ideal.nD Cert.Kernel2Ideal.τ).loc Cert.Kernel2Ideal.main_v37_3) = v3 c
          ∧ r.2.mem ((c.tc : Thread Cert.Kernel2Ideal.nD Cert.Kernel2Ideal.τ).loc Cert.Kernel2Ideal.main_v37_4) = v4 c
          ∧ r.2.mem ((c.tc : Thread Cert.Kernel2Ideal.nD Cert.Kernel2Ideal.τ).loc Cert.Kernel2Ideal.main_v37_5) = v5 c
          ∧ r.2.mem ((c.tc : Thread Cert.Kernel2Ideal.nD Cert.Kernel2Ideal.τ).loc Cert.Kernel2Ideal.main_v37_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_v95) = v1 c
          ∧ r.2.mem ((c.tc : Thread Cert.Reference2Ideal.nD Cert.Reference2Ideal.τ).loc Cert.Reference2Ideal.main_v98) = v2 c
          ∧ r.2.mem ((c.tc : Thread Cert.Reference2Ideal.nD Cert.Reference2Ideal.τ).loc Cert.Reference2Ideal.main_v86) = v3 c
          ∧ r.2.mem ((c.tc : Thread Cert.Reference2Ideal.nD Cert.Reference2Ideal.τ).loc Cert.Reference2Ideal.main_v87) = v4 c
          ∧ r.2.mem ((c.tc : Thread Cert.Reference2Ideal.nD Cert.Reference2Ideal.τ).loc Cert.Reference2Ideal.main_v88) = v5 c
          ∧ r.2.mem ((c.tc : Thread Cert.Reference2Ideal.nD Cert.Reference2Ideal.τ).loc Cert.Reference2Ideal.main_v89) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)) (v3 : (c : Dev Cert.Kernel3Ideal.nD) → Buf (Elt Ideal) ((c.tc : Thread Cert.Kernel3Ideal.nD Cert.Kernel3Ideal.τ).loc Cert.Kernel3Ideal.main_v49_3)) (v4 : (c : Dev Cert.Kernel3Ideal.nD) → Buf (Elt Ideal) ((c.tc : Thread Cert.Kernel3Ideal.nD Cert.Kernel3Ideal.τ).loc Cert.Kernel3Ideal.main_v49_4)) (v5 : (c : Dev Cert.Kernel3Ideal.nD) → Buf (Elt Ideal) ((c.tc : Thread Cert.Kernel3Ideal.nD Cert.Kernel3Ideal.τ).loc Cert.Kernel3Ideal.main_v49_5)) (v6 : (c : Dev Cert.Kernel3Ideal.nD) → Buf (Elt Ideal) ((c.tc : Thread Cert.Kernel3Ideal.nD Cert.Kernel3Ideal.τ).loc Cert.Kernel3Ideal.main_v49_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_v49_3) = v3 c
          ∧ r.2.mem ((c.tc : Thread Cert.Kernel3Ideal.nD Cert.Kernel3Ideal.τ).loc Cert.Kernel3Ideal.main_v49_4) = v4 c
          ∧ r.2.mem ((c.tc : Thread Cert.Kernel3Ideal.nD Cert.Kernel3Ideal.τ).loc Cert.Kernel3Ideal.main_v49_5) = v5 c
          ∧ r.2.mem ((c.tc : Thread Cert.Kernel3Ideal.nD Cert.Kernel3Ideal.τ).loc Cert.Kernel3Ideal.main_v49_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_v99) = v2 c
          ∧ r.2.mem ((c.tc : Thread Cert.Reference3Ideal.nD Cert.Reference3Ideal.τ).loc Cert.Reference3Ideal.main_v100) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_v102) = v5 c
          ∧ r.2.mem ((c.tc : Thread Cert.Reference3Ideal.nD Cert.Reference3Ideal.τ).loc Cert.Reference3Ideal.main_v103) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "cubic" .f32 0xBDD2D3E8#32 (((-((2 * (6693141 / 8388608)) * (Real.log 2)⁻¹)) * (12003091 / 268435456) : ℝ) : EReal)
  ∧ IdealRules.named_const.Statement Cert.Kernel6Ideal.κ "slope" .f32 0xC0135761#32 ((-((2 * (6693141 / 8388608)) * (Real.log 2)⁻¹) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v144) = v0 c
          ∧ r.2.mem ((c.tc : Thread Cert.Reference6Ideal.nD Cert.Reference6Ideal.τ).loc Cert.Reference6Ideal.main_v145) = v1 c
          ∧ r.2.mem ((c.tc : Thread Cert.Reference6Ideal.nD Cert.Reference6Ideal.τ).loc Cert.Reference6Ideal.main_v146) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_arguments.lean ====
abbrev S1x64 : Shape := ⟨2, ![1, 64]⟩
abbrev S1x128 : Shape := ⟨2, ![1, 128]⟩
abbrev S8x4x4x128x512 : Shape := ⟨5, ![8, 4, 4, 128, 512]⟩
abbrev S8x2048x512 : Shape := ⟨3, ![8, 2048, 512]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bitsLt_bf16_f32 : FTy.bits .bf16 < FTy.bits .f32
  bcast_S_S8x4x4x128x512 : S_.BroadcastsInDim S8x4x4x128x512 (![] : Fin 0 → Fin S8x4x4x128x512.rank)
  reducesTo_S8x4x4x128x512_S_d0_1_2_3_4 : S8x4x4x128x512.ReducesTo [0, 1, 2, 3, 4] S_
  bcast_S_S8x2048x512 : S_.BroadcastsInDim S8x2048x512 (![] : Fin 0 → Fin S8x2048x512.rank)
  reducesTo_S8x2048x512_S_d0_1_2 : S8x2048x512.ReducesTo [0, 1, 2] S_

variable [Facts]

def fn_part2 {F : FTy → Type} [FloatOps F] (main_v20 : IVec S_ 1) (main_v25 : IVec S_ 1) (main_v30 : IVec S_ 1) (main_v33 : IVec S_ 1) : IVec S_ 1 :=
  let main_v34 : IVec S_ 1 := andi main_v33 main_v20
  let main_v35 : IVec S_ 1 := andi main_v34 main_v25
  let main_v36 : IVec S_ 1 := andi main_v35 main_v30
  main_v36

def fn_part1 {F : FTy → Type} [FloatOps F] (main_arg5 : FVec F S8x4x4x128x512 .bf16) (main_arg6 : FVec F S8x2048x512 .bf16) (main_arg7 : FVec F S8x4x4x128x512 .bf16) (main_v3 : IVec S_ 1) (main_v7 : IVec S_ 1) (main_v11 : IVec S_ 1) (main_v15 : IVec S_ 1) : IVec S_ 1 :=
  let main_v16 : FVec F S8x4x4x128x512 .f32 := (extf .f32 · bitsLt_bf16_f32) main_arg5
  let main_v17 : FVec F S8x4x4x128x512 .f32 := Host.absf main_v16
  let main_cst_6 : FVec F S_ .f32 := constant S_ .f32 0x7F800000#32
  let main_v18 : FVec F S8x4x4x128x512 .f32 := broadcastInDim S8x4x4x128x512 ![] bcast_S_S8x4x4x128x512 main_cst_6
  let main_v19 : IVec S8x4x4x128x512 1 := cmpf .olt main_v17 main_v18
  let main_c_7 : IVec S_ 1 := constantI S_ 1 1#1
  let main_v20 : IVec S_ 1 := (fun x v => Host.reduce IntOp.andi x v reducesTo_S8x4x4x128x512_S_d0_1_2_3_4 h_S_) main_v19 main_c_7
  let main_v21 : FVec F S8x2048x512 .f32 := (extf .f32 · bitsLt_bf16_f32) main_arg6
  let main_v22 : FVec F S8x2048x512 .f32 := Host.absf main_v21
  let main_cst_8 : FVec F S_ .f32 := constant S_ .f32 0x7F800000#32
  let main_v23 : FVec F S8x2048x512 .f32 := broadcastInDim S8x2048x512 ![] bcast_S_S8x2048x512 main_cst_8
  let main_v24 : IVec S8x2048x512 1 := cmpf .olt main_v22 main_v23
  let main_c_9 : IVec S_ 1 := constantI S_ 1 1#1
  let main_v25 : IVec S_ 1 := (fun x v => Host.reduce IntOp.andi x v reducesTo_S8x2048x512_S_d0_1_2 h_S_) main_v24 main_c_9
  let main_v26 : FVec F S8x4x4x128x512 .f32 := (extf .f32 · bitsLt_bf16_f32) main_arg7
  let main_v27 : FVec F S8x4x4x128x512 .f32 := Host.absf main_v26
  let main_cst_10 : FVec F S_ .f32 := constant S_ .f32 0x7F800000#32
  let main_v28 : FVec F S8x4x4x128x512 .f32 := broadcastInDim S8x4x4x128x512 ![] bcast_S_S8x4x4x128x512 main_cst_10
  let main_v29 : IVec S8x4x4x128x512 1 := cmpf .olt main_v27 main_v28
  let main_c_11 : IVec S_ 1 := constantI S_ 1 1#1
  let main_v30 : IVec S_ 1 := (fun x v => Host.reduce IntOp.andi x v reducesTo_S8x4x4x128x512_S_d0_1_2_3_4 h_S_) main_v29 main_c_11
  let main_v31 : IVec S_ 1 := andi main_v3 main_v7
  let main_v32 : IVec S_ 1 := andi main_v31 main_v11
  let main_v33 : IVec S_ 1 := andi main_v32 main_v15
  fn_part2 (F := F) main_v20 main_v25 main_v30 main_v33

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S8x4x4x128x512 .bf16) (main_arg6 : FVec F S8x2048x512 .bf16) (main_arg7 : FVec F S8x4x4x128x512 .bf16) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : FVec F S1x64 .f32 := Host.absf main_arg2
  let main_cst_2 : FVec F S_ .f32 := constant S_ .f32 0x7F800000#32
  let main_v9 : FVec F S1x64 .f32 := broadcastInDim S1x64 ![] bcast_S_S1x64 main_cst_2
  let main_v10 : IVec S1x64 1 := cmpf .olt main_v8 main_v9
  let main_c_3 : IVec S_ 1 := constantI S_ 1 1#1
  let main_v11 : IVec S_ 1 := (fun x v => Host.reduce IntOp.andi x v reducesTo_S1x64_S_d0_1 h_S_) main_v10 main_c_3
  let main_v12 : FVec F S1x64 .f32 := Host.absf main_arg3
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg5 main_arg6 main_arg7 main_v3 main_v7 main_v11 main_v15
-- ==== Kernel.lean ====
abbrev S1x64 : Shape := ⟨2, ![1, 64]⟩
abbrev S1x128 : Shape := ⟨2, ![1, 128]⟩
abbrev S8x4x4x128x512 : Shape := ⟨5, ![8, 4, 4, 128, 512]⟩
abbrev S8x2048x512 : Shape := ⟨3, ![8, 2048, 512]⟩
abbrev S1x4x1x128x512 : Shape := ⟨5, ![1, 4, 1, 128, 512]⟩
abbrev S1x2048x512 : Shape := ⟨3, ![1, 2048, 512]⟩
abbrev S1x4x4x128x512 : Shape := ⟨5, ![1, 4, 4, 128, 512]⟩
abbrev S1x512x512 : Shape := ⟨3, ![1, 512, 512]⟩
abbrev S1x1x1x128x512 : Shape := ⟨5, ![1, 1, 1, 128, 512]⟩
abbrev S128x512 : Shape := ⟨2, ![128, 512]⟩
abbrev S128x1024 : Shape := ⟨2, ![128, 1024]⟩
abbrev S1x1024 : Shape := ⟨2, ![1, 1024]⟩
abbrev S1x512x128 : Shape := ⟨3, ![1, 512, 128]⟩
abbrev S512x128 : Shape := ⟨2, ![512, 128]⟩
abbrev S512x1024 : Shape := ⟨2, ![512, 1024]⟩
abbrev S1024 : Shape := ⟨1, ![1024]⟩
abbrev S1 : Shape := ⟨1, ![1]⟩
abbrev S1x1 : Shape := ⟨2, ![1, 1]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S8x4x4x128x512, .bf16⟩
  | .hbm, ⟨6, _⟩ => ⟨S8x2048x512, .bf16⟩
  | .hbm, ⟨7, _⟩ => ⟨S8x4x4x128x512, .bf16⟩
  | .hbm, ⟨8, _⟩ => ⟨S8x2048x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x4x1x128x512, .bf16⟩
  | .local _ .vmem, ⟨6, _⟩ => ⟨S1x4x1x128x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x4x4x128x512, .bf16⟩
  | .local _ .vmem, ⟨10, _⟩ => ⟨S1x4x4x128x512, .bf16⟩
  | .local _ .vmem, ⟨11, _⟩ => ⟨S1x512x512, .bf16⟩
  | .local _ .vmem, ⟨12, _⟩ => ⟨S1x512x512, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_38 : BitVec 32 := 1#32
  ⟨c0_i32, v60, c1_i32_38⟩
def k0_mult1 (i : grid0.Coords) (k0_t1 : Fin (k0_t1_loop i).trips) : BitVec 32 :=
  let c0_i32 : BitVec 32 := 0#32
  let c1_i32_38 : BitVec 32 := 1#32
  let arg11 : BitVec 32 := Scf.iv c0_i32 c1_i32_38 k0_t1
  let c512_i32_136 : BitVec 32 := 512#32
  let v340 : BitVec 32 := Scalar.muli arg11 c512_i32_136
  v340
def k0_off1 (i : grid0.Coords) (k0_t1 : Fin (k0_t1_loop i).trips) : Fin 3 → Nat :=
  let c0_137 : Index := 0#32
  let c0_i32 : BitVec 32 := 0#32
  let c1_i32_38 : BitVec 32 := 1#32
  let arg11 : BitVec 32 := Scf.iv c0_i32 c1_i32_38 k0_t1
  let c512_i32_136 : BitVec 32 := 512#32
  let v340 : BitVec 32 := Scalar.muli arg11 c512_i32_136
  let v341 : BitVec 32 := v340
  let v342 : Index := Scalar.indexCast v341
  let c0_138 : Index := 0#32
  ![0, v342.toNat, 0]
def k0_off2 (i : grid0.Coords) (k0_t1 : Fin (k0_t1_loop i).trips) : Fin 3 → Nat :=
  let c0_140 : Index := 0#32
  let c0_i32 : BitVec 32 := 0#32
  let c1_i32_38 : BitVec 32 := 1#32
  let arg11 : BitVec 32 := Scf.iv c0_i32 c1_i32_38 k0_t1
  let c512_i32_136 : BitVec 32 := 512#32
  let v340 : BitVec 32 := Scalar.muli arg11 c512_i32_136
  let v341 : BitVec 32 := v340
  let v346 : Index := Scalar.indexCast v341
  let c128_141 : Index := 128#32
  ![0, v346.toNat, 128]
def k0_off3 (i : grid0.Coords) (k0_t1 : Fin (k0_t1_loop i).trips) : Fin 3 → Nat :=
  let c0_143 : Index := 0#32
  let c0_i32 : BitVec 32 := 0#32
  let c1_i32_38 : BitVec 32 := 1#32
  let arg11 : BitVec 32 := Scf.iv c0_i32 c1_i32_38 k0_t1
  let c512_i32_136 : BitVec 32 := 512#32
  let v340 : BitVec 32 := Scalar.muli arg11 c512_i32_136
  let v341 : BitVec 32 := v340
  let v350 : Index := Scalar.indexCast v341
  let c256_144 : Index := 256#32
  ![0, v350.toNat, 256]
def k0_off4 (i : grid0.Coords) (k0_t1 : Fin (k0_t1_loop i).trips) : Fin 3 → Nat :=
  let c0_146 : Index := 0#32
  let c0_i32 : BitVec 32 := 0#32
  let c1_i32_38 : BitVec 32 := 1#32
  let arg11 : BitVec 32 := Scf.iv c0_i32 c1_i32_38 k0_t1
  let c512_i32_136 : BitVec 32 := 512#32
  let v340 : BitVec 32 := Scalar.muli arg11 c512_i32_136
  let v341 : BitVec 32 := v340
  let v354 : Index := Scalar.indexCast v341
  let c384_147 : Index := 384#32
  ![0, v354.toNat, 384]
def k0_off5 (i : grid0.Coords) (k0_t1 : Fin (k0_t1_loop i).trips) : Fin 5 → Nat :=
  let c0_157 : Index := 0#32
  let c0_158 : Index := 0#32
  let c0_i32 : BitVec 32 := 0#32
  let c1_i32_38 : BitVec 32 := 1#32
  let arg11 : BitVec 32 := Scf.iv c0_i32 c1_i32_38 k0_t1
  let v412 : Index := Scalar.indexCast arg11
  let c0_159 : Index := 0#32
  let c0_160 : Index := 0#32
  ![0, 0, v412.toNat, 0, 0]
def k0_off6 (i : grid0.Coords) (k0_t1 : Fin (k0_t1_loop i).trips) : Fin 5 → Nat :=
  let c0_162 : Index := 0#32
  let c1_163 : Index := 1#32
  let c0_i32 : BitVec 32 := 0#32
  let c1_i32_38 : BitVec 32 := 1#32
  let arg11 : BitVec 32 := Scf.iv c0_i32 c1_i32_38 k0_t1
  let v419 : Index := Scalar.indexCast arg11
  let c0_164 : Index := 0#32
  let c0_165 : Index := 0#32
  ![0, 1, v419.toNat, 0, 0]
def k0_off7 (i : grid0.Coords) (k0_t1 : Fin (k0_t1_loop i).trips) : Fin 5 → Nat :=
  let c0_167 : Index := 0#32
  let c2_168 : Index := 2#32
  let c0_i32 : BitVec 32 := 0#32
  let c1_i32_38 : BitVec 32 := 1#32
  let arg11 : BitVec 32 := Scf.iv c0_i32 c1_i32_38 k0_t1
  let v426 : Index := Scalar.indexCast arg11
  let c0_169 : Index := 0#32
  let c0_170 : Index := 0#32
  ![0, 2, v426.toNat, 0, 0]
def k0_off8 (i : grid0.Coords) (k0_t1 : Fin (k0_t1_loop i).trips) : Fin 5 → Nat :=
  let c0_172 : Index := 0#32
  let c3_173 : Index := 3#32
  let c0_i32 : BitVec 32 := 0#32
  let c1_i32_38 : BitVec 32 := 1#32
  let arg11 : BitVec 32 := Scf.iv c0_i32 c1_i32_38 k0_t1
  let v433 : Index := Scalar.indexCast arg11
  let c0_174 : Index := 0#32
  let c0_175 : Index := 0#32
  ![0, 3, v433.toNat, 0, 0]
@[reducible] def k0_t2_loop (i : grid0.Coords) : Scf.Loop 32 :=
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let v57 : BitVec 32 := Scalar.addi c0_i32 v56
  let c1_i32_39 : BitVec 32 := 1#32
  ⟨v60, v57, c1_i32_39⟩
def k0_mult2 (i : grid0.Coords) (k0_t2 : Fin (k0_t2_loop i).trips) : BitVec 32 :=
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let c512_i32_136 : BitVec 32 := 512#32
  let v340 : BitVec 32 := Scalar.muli arg11 c512_i32_136
  v340
def k0_off9 (i : grid0.Coords) (k0_t2 : Fin (k0_t2_loop i).trips) : Fin 3 → Nat :=
  let c0_137 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let c512_i32_136 : BitVec 32 := 512#32
  let v340 : BitVec 32 := Scalar.muli arg11 c512_i32_136
  let v341 : BitVec 32 := v340
  let v342 : Index := Scalar.indexCast v341
  let c0_138 : Index := 0#32
  ![0, v342.toNat, 0]
def k0_off10 (i : grid0.Coords) (k0_t2 : Fin (k0_t2_loop i).trips) : Fin 3 → Nat :=
  let c0_140 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let c512_i32_136 : BitVec 32 := 512#32
  let v340 : BitVec 32 := Scalar.muli arg11 c512_i32_136
  let v341 : BitVec 32 := v340
  let v346 : Index := Scalar.indexCast v341
  let c128_141 : Index := 128#32
  ![0, v346.toNat, 128]
def k0_off11 (i : grid0.Coords) (k0_t2 : Fin (k0_t2_loop i).trips) : Fin 3 → Nat :=
  let c0_143 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let c512_i32_136 : BitVec 32 := 512#32
  let v340 : BitVec 32 := Scalar.muli arg11 c512_i32_136
  let v341 : BitVec 32 := v340
  let v350 : Index := Scalar.indexCast v341
  let c256_144 : Index := 256#32
  ![0, v350.toNat, 256]
def k0_off12 (i : grid0.Coords) (k0_t2 : Fin (k0_t2_loop i).trips) : Fin 3 → Nat :=
  let c0_146 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let c512_i32_136 : BitVec 32 := 512#32
  let v340 : BitVec 32 := Scalar.muli arg11 c512_i32_136
  let v341 : BitVec 32 := v340
  let v354 : Index := Scalar.indexCast v341
  let c384_147 : Index := 384#32
  ![0, v354.toNat, 384]
def k0_off13 (i : grid0.Coords) (k0_t2 : Fin (k0_t2_loop i).trips) : Fin 5 → Nat :=
  let c0_157 : Index := 0#32
  let c0_158 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let v412 : Index := Scalar.indexCast arg11
  let c0_159 : Index := 0#32
  let c0_160 : Index := 0#32
  ![0, 0, v412.toNat, 0, 0]
def k0_off14 (i : grid0.Coords) (k0_t2 : Fin (k0_t2_loop i).trips) : Fin 5 → Nat :=
  let c0_162 : Index := 0#32
  let c1_163 : Index := 1#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let v419 : Index := Scalar.indexCast arg11
  let c0_164 : Index := 0#32
  let c0_165 : Index := 0#32
  ![0, 1, v419.toNat, 0, 0]
def k0_off15 (i : grid0.Coords) (k0_t2 : Fin (k0_t2_loop i).trips) : Fin 5 → Nat :=
  let c0_167 : Index := 0#32
  let c2_168 : Index := 2#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let v426 : Index := Scalar.indexCast arg11
  let c0_169 : Index := 0#32
  let c0_170 : Index := 0#32
  ![0, 2, v426.toNat, 0, 0]
def k0_off16 (i : grid0.Coords) (k0_t2 : Fin (k0_t2_loop i).trips) : Fin 5 → Nat :=
  let c0_172 : Index := 0#32
  let c3_173 : Index := 3#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_39 : BitVec 32 := 1#32
  let arg11 : BitVec 32 := Scf.iv v60 c1_i32_39 k0_t2
  let v433 : Index := Scalar.indexCast arg11
  let c0_174 : Index := 0#32
  let c0_175 : Index := 0#32
  ![0, 3, v433.toNat, 0, 0]
def k0_mult3 (i : grid0.Coords) : BitVec 32 :=
  let arg1 : BitVec 32 := BitVec.ofNat 32 (i 1).val
  let c512_i32 : BitVec 32 := 512#32
  let v63 : BitVec 32 := Scalar.muli arg1 c512_i32
  v63
def k0_off17 (i : grid0.Coords) : Fin 3 → Nat :=
  let c0_40 : Index := 0#32
  let arg1 : BitVec 32 := BitVec.ofNat 32 (i 1).val
  let c512_i32 : BitVec 32 := 512#32
  let v63 : BitVec 32 := Scalar.muli arg1 c512_i32
  let v64 : BitVec 32 := v63
  let v65 : Index := Scalar.indexCast v64
  let c0_41 : Index := 0#32
  ![0, v65.toNat, 0]
def k0_off18 (i : grid0.Coords) : Fin 3 → Nat :=
  let c0_43 : Index := 0#32
  let arg1 : BitVec 32 := BitVec.ofNat 32 (i 1).val
  let c512_i32 : BitVec 32 := 512#32
  let v63 : BitVec 32 := Scalar.muli arg1 c512_i32
  let v64 : BitVec 32 := v63
  let v69 : Index := Scalar.indexCast v64
  let c128 : Index := 128#32
  ![0, v69.toNat, 128]
def k0_off19 (i : grid0.Coords) : Fin 3 → Nat :=
  let c0_45 : Index := 0#32
  let arg1 : BitVec 32 := BitVec.ofNat 32 (i 1).val
  let c512_i32 : BitVec 32 := 512#32
  let v63 : BitVec 32 := Scalar.muli arg1 c512_i32
  let v64 : BitVec 32 := v63
  let v73 : Index := Scalar.indexCast v64
  let c256 : Index := 256#32
  ![0, v73.toNat, 256]
def k0_off20 (i : grid0.Coords) : Fin 3 → Nat :=
  let c0_47 : Index := 0#32
  let arg1 : BitVec 32 := BitVec.ofNat 32 (i 1).val
  let c512_i32 : BitVec 32 := 512#32
  let v63 : BitVec 32 := Scalar.muli arg1 c512_i32
  let v64 : BitVec 32 := v63
  let v77 : Index := Scalar.indexCast v64
  let c384 : Index := 384#32
  ![0, v77.toNat, 384]
def k0_off21 (i : grid0.Coords) : Fin 5 → Nat :=
  let c0_69 : Index := 0#32
  let c0_70 : Index := 0#32
  let arg1 : BitVec 32 := BitVec.ofNat 32 (i 1).val
  let v175 : Index := Scalar.indexCast arg1
  let c0_71 : Index := 0#32
  let c0_72 : Index := 0#32
  ![0, 0, v175.toNat, 0, 0]
def k0_off22 (i : grid0.Coords) : Fin 5 → Nat :=
  let c0_74 : Index := 0#32
  let c1_75 : Index := 1#32
  let arg1 : BitVec 32 := BitVec.ofNat 32 (i 1).val
  let v182 : Index := Scalar.indexCast arg1
  let c0_76 : Index := 0#32
  let c0_77 : Index := 0#32
  ![0, 1, v182.toNat, 0, 0]
def k0_off23 (i : grid0.Coords) : Fin 5 → Nat :=
  let c0_79 : Index := 0#32
  let c2_80 : Index := 2#32
  let arg1 : BitVec 32 := BitVec.ofNat 32 (i 1).val
  let v189 : Index := Scalar.indexCast arg1
  let c0_81 : Index := 0#32
  let c0_82 : Index := 0#32
  ![0, 2, v189.toNat, 0, 0]
def k0_off24 (i : grid0.Coords) : Fin 5 → Nat :=
  let c0_84 : Index := 0#32
  let c3_85 : Index := 3#32
  let arg1 : BitVec 32 := BitVec.ofNat 32 (i 1).val
  let v196 : Index := Scalar.indexCast arg1
  let c0_86 : Index := 0#32
  let c0_87 : Index := 0#32
  ![0, 3, v196.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1x64 : Shape := ⟨2, ![1, 64]⟩
abbrev S1x128 : Shape := ⟨2, ![1, 128]⟩
abbrev S8x4x4x128x512 : Shape := ⟨5, ![8, 4, 4, 128, 512]⟩
abbrev S8x2048x512 : Shape := ⟨3, ![8, 2048, 512]⟩
abbrev S8x4x512x4x128 : Shape := ⟨5, ![8, 4, 512, 4, 128]⟩
abbrev S8x2048x4x2x64 : Shape := ⟨5, ![8, 2048, 4, 2, 64]⟩
abbrev S8x2048x4x128 : Shape := ⟨4, ![8, 2048, 4, 128]⟩
abbrev S_ : Shape := ⟨0, ![]⟩
abbrev S2048 : Shape := ⟨1, ![2048]⟩
abbrev S8x4x2x2048x2048 : Shape := ⟨5, ![8, 4, 2, 2048, 2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S8x4x4x128x512, .bf16⟩
  | .hbm, ⟨6, _⟩ => ⟨S8x2048x512, .bf16⟩
  | .hbm, ⟨7, _⟩ => ⟨S8x4x4x128x512, .bf16⟩
  | .hbm, ⟨8, _⟩ => ⟨S8x4x4x128x512, .f32⟩
  | .hbm, ⟨9, _⟩ => ⟨S8x4x512x4x128, .f32⟩
  | .hbm, ⟨10, _⟩ => ⟨S8x2048x4x2x64, .f32⟩
  | .hbm, ⟨11, _⟩ => ⟨S8x2048x512, .f32⟩
  | .hbm, ⟨12, _⟩ => ⟨S8x2048x4x2x64, .f32⟩
  | .hbm, ⟨13, _⟩ => ⟨S8x4x4x128x512, .f32⟩
  | .hbm, ⟨14, _⟩ => ⟨S8x4x512x4x128, .f32⟩
  | .hbm, ⟨15, _⟩ => ⟨S8x2048x4x128, .f32⟩
  | .hbm, ⟨16, _⟩ => ⟨S1x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048, .i32⟩
  | .hbm, ⟨28, _⟩ => ⟨S8x4x2x2048x2048, .f32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S8x4x2x2048x2048, .i1⟩
  | .hbm, ⟨37, _⟩ => ⟨S8x4x2x2048x2048, .f32⟩
  | .hbm, ⟨38, _⟩ => ⟨S8x4x2x2048x2048, .f32⟩
  | .hbm, ⟨39, _⟩ => ⟨S_, .f32⟩
  | .hbm, ⟨40, _⟩ => ⟨S8x4x2x2048, .f32⟩
  | .hbm, ⟨41, _⟩ => ⟨S_, .f32⟩
  | .hbm, ⟨42, _⟩ => ⟨S8x4x2x2048, .f32⟩
  | .hbm, ⟨43, _⟩ => ⟨S8x4x2x2048, .f32⟩
  | .hbm, ⟨44, _⟩ => ⟨S8x4x2x2048x1, .f32⟩
  | .hbm, ⟨45, _⟩ => ⟨S8x4x2x2048x2048, .f32⟩
  | .hbm, ⟨46, _⟩ => ⟨S8x4x2x2048x2048, .f32⟩
  | .hbm, ⟨47, _⟩ => ⟨S8x4x2x2048x2048, .f32⟩
  | .hbm, ⟨48, _⟩ => ⟨S_, .f32⟩
  | .hbm, ⟨49, _⟩ => ⟨S8x4x2x2048, .f32⟩
  | .hbm, ⟨50, _⟩ => ⟨S8x4x2x2048x1, .f32⟩
  | .hbm, ⟨51, _⟩ => ⟨S8x4x2x2048x2048, .f32⟩
  | .hbm, ⟨52, _⟩ => ⟨S8x4x2x2048x2048, .f32⟩
  | .hbm, ⟨53, _⟩ => ⟨S8x4x1x2048x2048, .f32⟩
  | .hbm, ⟨54, _⟩ => ⟨S8x4x2048x2048, .f32⟩
  | .hbm, ⟨55, _⟩ => ⟨S8x4x1x2048x2048, .f32⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S8x4x2048x2048, .f32⟩
  | .hbm, ⟨60, _⟩ => ⟨S8x4x128x2048, .f32⟩
  | .hbm, ⟨61, _⟩ => ⟨S8x2048x4x128, .f32⟩
  | .hbm, ⟨62, _⟩ => ⟨S8x2048x4x128, .f32⟩
  | .hbm, ⟨63, _⟩ => ⟨S_, .f32⟩
  | .hbm, ⟨64, _⟩ => ⟨S8x2048x4, .f32⟩
  | .hbm, ⟨65, _⟩ => ⟨S8x2048x4x1, .f32⟩
  | .hbm, ⟨66, _⟩ => ⟨S_, .f32⟩
  | .hbm, ⟨67, _⟩ => ⟨S8x2048x4x1, .f32⟩
  | .hbm, ⟨68, _⟩ => ⟨S8x2048x4x1, .f32⟩
  | .hbm, ⟨69, _⟩ => ⟨S_, .f32⟩
  | .hbm, ⟨70, _⟩ => ⟨S8x2048x4x1, .f32⟩
  | .hbm, ⟨71, _⟩ => ⟨S8x2048x4x1, .f32⟩
  | .hbm, ⟨72, _⟩ => ⟨S8x2048x4x1, .f32⟩
  | .hbm, ⟨73, _⟩ => ⟨S8x2048x4x128, .f32⟩
  | .hbm, ⟨74, _⟩ => ⟨S8x2048x4x128, .f32⟩
  | .hbm, ⟨75, _⟩ => ⟨S_, .f32⟩
  | .hbm, ⟨76, _⟩ => ⟨S8x2048x4x128, .f32⟩
  | .hbm, ⟨77, _⟩ => ⟨S8x2048x4x128, .f32⟩
  | .hbm, ⟨78, _⟩ => ⟨S128, .f32⟩
  | .hbm, ⟨79, _⟩ => ⟨S1x1x1x128, .f32⟩
  | .hbm, ⟨80, _⟩ => ⟨S8x2048x4x128, .f32⟩
  | .hbm, ⟨81, _⟩ => ⟨S8x2048x4x128, .f32⟩
  | .hbm, ⟨82, _⟩ => ⟨S8x2048x512, .f32⟩
  | .hbm, ⟨83, _⟩ => ⟨S8x2048x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024x2560 : Shape := ⟨3, ![1, 1024, 2560]⟩
abbrev S1024x2560 : Shape := ⟨2, ![1024, 2560]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8x4x4x128x512 : Shape := ⟨5, ![8, 4, 4, 128, 512]⟩
abbrev S8x2048x512 : Shape := ⟨3, ![8, 2048, 512]⟩
abbrev S1x512x1024 : Shape := ⟨3, ![1, 512, 1024]⟩
abbrev S512x128 : Shape := ⟨2, ![512, 128]⟩
abbrev S1x4x1x128x512 : Shape := ⟨5, ![1, 4, 1, 128, 512]⟩
abbrev S1x512x512 : Shape := ⟨3, ![1, 512, 512]⟩
abbrev S512x1024 : Shape := ⟨2, ![512, 1024]⟩
abbrev S1024x1024 : Shape := ⟨2, ![1024, 1024]⟩
abbrev S128x512 : Shape := ⟨2, ![128, 512]⟩
abbrev S1x1x1x128x512 : Shape := ⟨5, ![1, 1, 1, 128, 512]⟩
abbrev S1x512x128 : Shape := ⟨3, ![1, 512, 128]⟩
abbrev S1024x512 : Shape := ⟨2, ![1024, 512]⟩
abbrev S512x512 : Shape := ⟨2, ![512, 512]⟩

abbrev nBuf : Space → Nat
  | .hbm => 53
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1024x2560, .f32⟩
  | .hbm, ⟨3, _⟩ => ⟨S1024x2560, .bf16⟩
  | .hbm, ⟨4, _⟩ => ⟨S2048, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S_, .f32⟩
  | .hbm, ⟨30, _⟩ => ⟨S2048x8, .f32⟩
  | .hbm, ⟨31, _⟩ => ⟨S_, .f32⟩
  | .hbm, ⟨32, _⟩ => ⟨S2048x48, .f32⟩
  | .hbm, ⟨33, _⟩ => ⟨S2048x64, .f32⟩
  | .hbm, ⟨34, _⟩ => ⟨S2048x64, .f32⟩
  | .hbm, ⟨35, _⟩ => ⟨S2048x8, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S8x4x4x128x512, .bf16⟩
  | .hbm, ⟨47, _⟩ => ⟨S8x2048x512, .bf16⟩
  | .hbm, ⟨48, _⟩ => ⟨S8x4x4x128x512, .bf16⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x4x1x128x512, .bf16⟩
  | .local _ .vmem, ⟨10, _⟩ => ⟨S1x4x1x128x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x4x1x128x512, .bf16⟩
  | .local _ .vmem, ⟨14, _⟩ => ⟨S1x4x1x128x512, .bf16⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev main_v37_3 : Ref sig .tc := ⟨.hbm, 49, rfl⟩
abbrev main_v37_4 : Ref sig .tc := ⟨.hbm, 50, rfl⟩
abbrev main_v37_5 : Ref sig .tc := ⟨.hbm, 51, rfl⟩
abbrev main_v37_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S1x1024x2560 : Shape := ⟨3, ![1, 1024, 2560]⟩
abbrev S1024x2560 : Shape := ⟨2, ![1024, 2560]⟩
abbrev S2048 : Shape := ⟨1, ![2048]⟩
abbrev S8x2048x2560 : Shape := ⟨3, ![8, 2048, 2560]⟩
abbrev S8x2048x512 : Shape := ⟨3, ![8, 2048, 512]⟩
abbrev S8x2048x4x2x64 : Shape := ⟨5, ![8, 2048, 4, 2, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x1x1x8 : Shape := ⟨4, ![2048, 1, 1, 8]⟩
abbrev S8x2048x4x2x8 : Shape := ⟨5, ![8, 2048, 4, 2, 8]⟩
abbrev S1x2048x1x1x8 : Shape := ⟨5, ![1, 2048, 1, 1, 8]⟩
abbrev S8x2048x4x2x16 : Shape := ⟨5, ![8, 2048, 4, 2, 16]⟩
abbrev S8x2048x4x2x48 : Shape := ⟨5, ![8, 2048, 4, 2, 48]⟩
abbrev S8x4x512x4x128 : Shape := ⟨5, ![8, 4, 512, 4, 128]⟩
abbrev S8x4x4x128x512 : Shape := ⟨5, ![8, 4, 4, 128, 512]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2560, .f32⟩
  | .hbm, ⟨2, _⟩ => ⟨S1024x2560, .f32⟩
  | .hbm, ⟨3, _⟩ => ⟨S2048, .i32⟩
  | .hbm, ⟨4, _⟩ => ⟨S8x2048x2560, .f32⟩
  | .hbm, ⟨5, _⟩ => ⟨S8x2048x512, .f32⟩
  | .hbm, ⟨6, _⟩ => ⟨S8x2048x4x2x64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048, .f32⟩
  | .hbm, ⟨22, _⟩ => ⟨S2048x1, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x1x1x8, .f32⟩
  | .hbm, ⟨29, _⟩ => ⟨S2048x8, .f32⟩
  | .hbm, ⟨30, _⟩ => ⟨S2048x1x1x8, .f32⟩
  | .hbm, ⟨31, _⟩ => ⟨S8x2048x4x2x8, .f32⟩
  | .hbm, ⟨32, _⟩ => ⟨S8x2048x4x2x8, .f32⟩
  | .hbm, ⟨33, _⟩ => ⟨S1x2048x1x1x8, .f32⟩
  | .hbm, ⟨34, _⟩ => ⟨S8x2048x4x2x8, .f32⟩
  | .hbm, ⟨35, _⟩ => ⟨S8x2048x4x2x8, .f32⟩
  | .hbm, ⟨36, _⟩ => ⟨S1x2048x1x1x8, .f32⟩
  | .hbm, ⟨37, _⟩ => ⟨S8x2048x4x2x8, .f32⟩
  | .hbm, ⟨38, _⟩ => ⟨S8x2048x4x2x8, .f32⟩
  | .hbm, ⟨39, _⟩ => ⟨S8x2048x4x2x8, .f32⟩
  | .hbm, ⟨40, _⟩ => ⟨S1x2048x1x1x8, .f32⟩
  | .hbm, ⟨41, _⟩ => ⟨S8x2048x4x2x8, .f32⟩
  | .hbm, ⟨42, _⟩ => ⟨S8x2048x4x2x8, .f32⟩
  | .hbm, ⟨43, _⟩ => ⟨S1x2048x1x1x8, .f32⟩
  | .hbm, ⟨44, _⟩ => ⟨S8x2048x4x2x8, .f32⟩
  | .hbm, ⟨45, _⟩ => ⟨S8x2048x4x2x8, .f32⟩
  | .hbm, ⟨46, _⟩ => ⟨S8x2048x4x2x8, .f32⟩
  | .hbm, ⟨47, _⟩ => ⟨S8x2048x4x2x16, .f32⟩
  | .hbm, ⟨48, _⟩ => ⟨S8x2048x4x2x48, .f32⟩
  | .hbm, ⟨49, _⟩ => ⟨S8x2048x4x2x64, .f32⟩
  | .hbm, ⟨50, _⟩ => ⟨S8x2048x512, .f32⟩
  | .hbm, ⟨51, _⟩ => ⟨S8x2048x512, .f32⟩
  | .hbm, ⟨52, _⟩ => ⟨S8x2048x4x2x64, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S2048, .f32⟩
  | .hbm, ⟨68, _⟩ => ⟨S2048x1, .f32⟩
  | .hbm, ⟨69, _⟩ => ⟨S1x8, .f32⟩
  | .hbm, ⟨70, _⟩ => ⟨S2048x8, .f32⟩
  | .hbm, ⟨71, _⟩ => ⟨S2048x8, .f32⟩
  | .hbm, ⟨72, _⟩ => ⟨S2048x8, .f32⟩
  | .hbm, ⟨73, _⟩ => ⟨S2048x8, .f32⟩
  | .hbm, ⟨74, _⟩ => ⟨S2048x1x1x8, .f32⟩
  | .hbm, ⟨75, _⟩ => ⟨S2048x8, .f32⟩
  | .hbm, ⟨76, _⟩ => ⟨S2048x1x1x8, .f32⟩
  | .hbm, ⟨77, _⟩ => ⟨S8x2048x4x2x8, .f32⟩
  | .hbm, ⟨78, _⟩ => ⟨S8x2048x4x2x8, .f32⟩
  | .hbm, ⟨79, _⟩ => ⟨S1x2048x1x1x8, .f32⟩
  | .hbm, ⟨80, _⟩ => ⟨S8x2048x4x2x8, .f32⟩
  | .hbm, ⟨81, _⟩ => ⟨S8x2048x4x2x8, .f32⟩
  | .hbm, ⟨82, _⟩ => ⟨S1x2048x1x1x8, .f32⟩
  | .hbm, ⟨83, _⟩ => ⟨S8x2048x4x2x8, .f32⟩
  | .hbm, ⟨84, _⟩ => ⟨S8x2048x4x2x8, .f32⟩
  | .hbm, ⟨85, _⟩ => ⟨S8x2048x4x2x8, .f32⟩
  | .hbm, ⟨86, _⟩ => ⟨S1x2048x1x1x8, .f32⟩
  | .hbm, ⟨87, _⟩ => ⟨S8x2048x4x2x8, .f32⟩
  | .hbm, ⟨88, _⟩ => ⟨S8x2048x4x2x8, .f32⟩
  | .hbm, ⟨89, _⟩ => ⟨S1x2048x1x1x8, .f32⟩
  | .hbm, ⟨90, _⟩ => ⟨S8x2048x4x2x8, .f32⟩
  | .hbm, ⟨91, _⟩ => ⟨S8x2048x4x2x8, .f32⟩
  | .hbm, ⟨92, _⟩ => ⟨S8x2048x4x2x8, .f32⟩
  | .hbm, ⟨93, _⟩ => ⟨S8x2048x4x2x16, .f32⟩
  | .hbm, ⟨94, _⟩ => ⟨S8x2048x4x2x48, .f32⟩
  | .hbm, ⟨95, _⟩ => ⟨S8x2048x4x2x64, .f32⟩
  | .hbm, ⟨96, _⟩ => ⟨S8x2048x512, .f32⟩
  | .hbm, ⟨97, _⟩ => ⟨S8x2048x512, .f32⟩
  | .hbm, ⟨98, _⟩ => ⟨S8x2048x512, .f32⟩
  | .hbm, ⟨99, _⟩ => ⟨S8x2048x512, .f32⟩
  | .hbm, ⟨100, _⟩ => ⟨S_, .f32⟩
  | .hbm, ⟨101, _⟩ => ⟨S8x2048x512, .f32⟩
  | .hbm, ⟨102, _⟩ => ⟨S8x2048x512, .f32⟩
  | .hbm, ⟨103, _⟩ => ⟨S8x4x512x4x128, .f32⟩
  | .hbm, ⟨104, _⟩ => ⟨S8x4x4x128x512, .f32⟩
  | .hbm, ⟨105, _⟩ => ⟨S8x4x4x128x512, .bf16⟩
  | .hbm, ⟨106, _⟩ => ⟨S8x2048x512, .bf16⟩
  | .hbm, ⟨107, _⟩ => ⟨S8x4x512x4x128, .f32⟩
  | .hbm, ⟨108, _⟩ => ⟨S8x4x4x128x512, .f32⟩
  | .hbm, ⟨109, _⟩ => ⟨S8x4x4x128x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_3 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_5 : Ref sig .tc := ⟨.hbm, 61, rfl⟩
abbrev main_v53 : Ref sig .tc := ⟨.hbm, 62, rfl⟩
abbrev main_v54 : Ref sig .tc := ⟨.hbm, 63, rfl⟩
abbrev main_cst_6 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_7 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩

abbrev nD : Nat := 1
abbrev τ : Topo := Topo.v7x

variable {F : FTy → Type} [FloatOps F]
-- ==== Kernel3.lean ====
abbrev S32x8x1024 : Shape := ⟨3, ![32, 8, 1024]⟩
abbrev S1x1024x2560 : Shape := ⟨3, ![1, 1024, 2560]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S1x256x1024 : Shape := ⟨3, ![1, 256, 1024]⟩
abbrev S1024x2560 : Shape := ⟨2, ![1024, 2560]⟩
abbrev S1x256x512 : Shape := ⟨3, ![1, 256, 512]⟩
abbrev S256x1024 : Shape := ⟨2, ![256, 1024]⟩
abbrev S1024x1024 : Shape := ⟨2, ![1024, 1024]⟩
abbrev S1x256x128 : Shape := ⟨3, ![1, 256, 128]⟩
abbrev S1024x512 : Shape := ⟨2, ![1024, 512]⟩
abbrev S256x512 : Shape := ⟨2, ![256, 512]⟩

abbrev nBuf : Space → Nat
  | .hbm => 66
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S1x1024x2560, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8x1, .f32⟩
  | .hbm, ⟨22, _⟩ => ⟨S1x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S8x8, .f32⟩
  | .hbm, ⟨27, _⟩ => ⟨S8x8, .f32⟩
  | .hbm, ⟨28, _⟩ => ⟨S_, .f32⟩
  | .hbm, ⟨29, _⟩ => ⟨S8x48, .f32⟩
  | .hbm, ⟨30, _⟩ => ⟨S_, .f32⟩
  | .hbm, ⟨31, _⟩ => ⟨S8x8, .f32⟩
  | .hbm, ⟨32, _⟩ => ⟨S_, .f32⟩
  | .hbm, ⟨33, _⟩ => ⟨S8x48, .f32⟩
  | .hbm, ⟨34, _⟩ => ⟨S8x64, .f32⟩
  | .hbm, ⟨35, _⟩ => ⟨S8x64, .f32⟩
  | .hbm, ⟨36, _⟩ => ⟨S8x8, .f32⟩
  | .hbm, ⟨37, _⟩ => ⟨S8x64, .f32⟩
  | .hbm, ⟨38, _⟩ => ⟨S1x8x1x64, .f32⟩
  | .hbm, ⟨39, _⟩ => ⟨S1x8x2x64, .f32⟩
  | .hbm, ⟨40, _⟩ => ⟨S8x128, .f32⟩
  | .hbm, ⟨41, _⟩ => ⟨S1x8x1x64, .f32⟩
  | .hbm, ⟨42, _⟩ => ⟨S1x8x2x64, .f32⟩
  | .hbm, ⟨43, _⟩ => ⟨S8x128, .f32⟩
  | .hbm, ⟨44, _⟩ => ⟨S1x8x1x64, .f32⟩
  | .hbm, ⟨45, _⟩ => ⟨S1x8x2x64, .f32⟩
  | .hbm, ⟨46, _⟩ => ⟨S8x128, .f32⟩
  | .hbm, ⟨47, _⟩ => ⟨S1x8x1x128, .f32⟩
  | .hbm, ⟨48, _⟩ => ⟨S32x8x1x128, .f32⟩
  | .hbm, ⟨49, _⟩ => ⟨S256x128, .f32⟩
  | .hbm, ⟨50, _⟩ => ⟨S1x8x1x128, .f32⟩
  | .hbm, ⟨51, _⟩ => ⟨S32x8x1x128, .f32⟩
  | .hbm, ⟨52, _⟩ => ⟨S256x128, .f32⟩
  | .hbm, ⟨53, _⟩ => ⟨S1x8x1x128, .f32⟩
  | .hbm, ⟨54, _⟩ => ⟨S32x8x1x128, .f32⟩
  | .hbm, ⟨55, _⟩ => ⟨S256x128, .f32⟩
  | .hbm, ⟨56, _⟩ => ⟨S1x256x1024, .f32⟩
  | .hbm, ⟨57, _⟩ => ⟨S1024x2560, .f32⟩
  | .hbm, ⟨58, _⟩ => ⟨S1024x2560, .bf16⟩
  | .hbm, ⟨59, _⟩ => ⟨S1x256x512, .bf16⟩
  | .hbm, ⟨60, _⟩ => ⟨S1x256x512, .bf16⟩
  | .hbm, ⟨61, _⟩ => ⟨S1x256x512, .bf16⟩
  | .hbm, ⟨62, _⟩ => ⟨S1x256x512, .f32⟩
  | .hbm, ⟨63, _⟩ => ⟨S1x256x512, .f32⟩
  | .hbm, ⟨64, _⟩ => ⟨S1x256x512, .f32⟩
  | .hbm, ⟨65, _⟩ => ⟨S1x256x512, .f32⟩
  | .local _ .vmem, ⟨0, _⟩ => ⟨S1x256x1024, .f32⟩
  | .local _ .vmem, ⟨1, _⟩ => ⟨S1024x2560, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49_0 : Ref sig .tc := ⟨.hbm, 59, rfl⟩
abbrev main_v49_1 : Ref sig .tc := ⟨.hbm, 60, rfl⟩
abbrev main_v49_2 : Ref sig .tc := ⟨.hbm, 61, rfl⟩
abbrev main_v49_3 : Ref sig .tc := ⟨.hbm, 62, rfl⟩
abbrev main_v49_4 : Ref sig .tc := ⟨.hbm, 63, rfl⟩
abbrev main_v49_5 : Ref sig .tc := ⟨.hbm, 64, rfl⟩
abbrev main_v49_6 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference3Ideal.lean ====
abbrev S32x8x1024 : Shape := ⟨3, ![32, 8, 1024]⟩
abbrev S1x1024x2560 : Shape := ⟨3, ![1, 1024, 2560]⟩
abbrev S1024x2560 : Shape := ⟨2, ![1024, 2560]⟩
abbrev S8 : Shape := ⟨1, ![8]⟩
abbrev S_ : Shape := ⟨0, ![]⟩
abbrev S32x8x2560 : Shape := ⟨3, ![32, 8, 2560]⟩
abbrev S32x8x512 : Shape := ⟨3, ![32, 8, 512]⟩
abbrev S32x8x4x2x64 : Shape := ⟨5, ![32, 8, 4, 2, 64]⟩
abbrev S8x1 : Shape := ⟨2, ![8, 1]⟩
abbrev S1x8 : Shape := ⟨2, ![1, 8]⟩
abbrev S8x8 : Shape := ⟨2, ![8, 8]⟩
abbrev S8x1x1x8 : Shape := ⟨4, ![8, 1, 1, 8]⟩
abbrev S32x8x4x2x8 : Shape := ⟨5, ![32, 8, 4, 2, 8]⟩
abbrev S1x8x1x1x8 : Shape := ⟨5, ![1, 8, 1, 1, 8]⟩
abbrev S32x8x4x2x16 : Shape := ⟨5, ![32, 8, 4, 2, 16]⟩
abbrev S32x8x4x2x48 : Shape := ⟨5, ![32, 8, 4, 2, 48]⟩
abbrev S1x256x512 : Shape := ⟨3, ![1, 256, 512]⟩

abbrev nBuf : Space → Nat
  | .hbm => 116
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x2560, .f32⟩
  | .hbm, ⟨2, _⟩ => ⟨S1024x2560, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32x8x2560, .f32⟩
  | .hbm, ⟨8, _⟩ => ⟨S32x8x512, .f32⟩
  | .hbm, ⟨9, _⟩ => ⟨S32x8x4x2x64, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8x1, .f32⟩
  | .hbm, ⟨26, _⟩ => ⟨S1x8, .f32⟩
  | .hbm, ⟨27, _⟩ => ⟨S8x8, .f32⟩
  | .hbm, ⟨28, _⟩ => ⟨S8x8, .f32⟩
  | .hbm, ⟨29, _⟩ => ⟨S8x8, .f32⟩
  | .hbm, ⟨30, _⟩ => ⟨S8x8, .f32⟩
  | .hbm, ⟨31, _⟩ => ⟨S8x1x1x8, .f32⟩
  | .hbm, ⟨32, _⟩ => ⟨S8x8, .f32⟩
  | .hbm, ⟨33, _⟩ => ⟨S8x1x1x8, .f32⟩
  | .hbm, ⟨34, _⟩ => ⟨S32x8x4x2x8, .f32⟩
  | .hbm, ⟨35, _⟩ => ⟨S32x8x4x2x8, .f32⟩
  | .hbm, ⟨36, _⟩ => ⟨S1x8x1x1x8, .f32⟩
  | .hbm, ⟨37, _⟩ => ⟨S32x8x4x2x8, .f32⟩
  | .hbm, ⟨38, _⟩ => ⟨S32x8x4x2x8, .f32⟩
  | .hbm, ⟨39, _⟩ => ⟨S1x8x1x1x8, .f32⟩
  | .hbm, ⟨40, _⟩ => ⟨S32x8x4x2x8, .f32⟩
  | .hbm, ⟨41, _⟩ => ⟨S32x8x4x2x8, .f32⟩
  | .hbm, ⟨42, _⟩ => ⟨S32x8x4x2x8, .f32⟩
  | .hbm, ⟨43, _⟩ => ⟨S1x8x1x1x8, .f32⟩
  | .hbm, ⟨44, _⟩ => ⟨S32x8x4x2x8, .f32⟩
  | .hbm, ⟨45, _⟩ => ⟨S32x8x4x2x8, .f32⟩
  | .hbm, ⟨46, _⟩ => ⟨S1x8x1x1x8, .f32⟩
  | .hbm, ⟨47, _⟩ => ⟨S32x8x4x2x8, .f32⟩
  | .hbm, ⟨48, _⟩ => ⟨S32x8x4x2x8, .f32⟩
  | .hbm, ⟨49, _⟩ => ⟨S32x8x4x2x8, .f32⟩
  | .hbm, ⟨50, _⟩ => ⟨S32x8x4x2x16, .f32⟩
  | .hbm, ⟨51, _⟩ => ⟨S32x8x4x2x48, .f32⟩
  | .hbm, ⟨52, _⟩ => ⟨S32x8x4x2x64, .f32⟩
  | .hbm, ⟨53, _⟩ => ⟨S32x8x512, .f32⟩
  | .hbm, ⟨54, _⟩ => ⟨S32x8x512, .f32⟩
  | .hbm, ⟨55, _⟩ => ⟨S32x8x4x2x64, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S8, .f32⟩
  | .hbm, ⟨71, _⟩ => ⟨S8x1, .f32⟩
  | .hbm, ⟨72, _⟩ => ⟨S1x8, .f32⟩
  | .hbm, ⟨73, _⟩ => ⟨S8x8, .f32⟩
  | .hbm, ⟨74, _⟩ => ⟨S8x8, .f32⟩
  | .hbm, ⟨75, _⟩ => ⟨S8x8, .f32⟩
  | .hbm, ⟨76, _⟩ => ⟨S8x8, .f32⟩
  | .hbm, ⟨77, _⟩ => ⟨S8x1x1x8, .f32⟩
  | .hbm, ⟨78, _⟩ => ⟨S8x8, .f32⟩
  | .hbm, ⟨79, _⟩ => ⟨S8x1x1x8, .f32⟩
  | .hbm, ⟨80, _⟩ => ⟨S32x8x4x2x8, .f32⟩
  | .hbm, ⟨81, _⟩ => ⟨S32x8x4x2x8, .f32⟩
  | .hbm, ⟨82, _⟩ => ⟨S1x8x1x1x8, .f32⟩
  | .hbm, ⟨83, _⟩ => ⟨S32x8x4x2x8, .f32⟩
  | .hbm, ⟨84, _⟩ => ⟨S32x8x4x2x8, .f32⟩
  | .hbm, ⟨85, _⟩ => ⟨S1x8x1x1x8, .f32⟩
  | .hbm, ⟨86, _⟩ => ⟨S32x8x4x2x8, .f32⟩
  | .hbm, ⟨87, _⟩ => ⟨S32x8x4x2x8, .f32⟩
  | .hbm, ⟨88, _⟩ => ⟨S32x8x4x2x8, .f32⟩
  | .hbm, ⟨89, _⟩ => ⟨S1x8x1x1x8, .f32⟩
  | .hbm, ⟨90, _⟩ => ⟨S32x8x4x2x8, .f32⟩
  | .hbm, ⟨91, _⟩ => ⟨S32x8x4x2x8, .f32⟩
  | .hbm, ⟨92, _⟩ => ⟨S1x8x1x1x8, .f32⟩
  | .hbm, ⟨93, _⟩ => ⟨S32x8x4x2x8, .f32⟩
  | .hbm, ⟨94, _⟩ => ⟨S32x8x4x2x8, .f32⟩
  | .hbm, ⟨95, _⟩ => ⟨S32x8x4x2x8, .f32⟩
  | .hbm, ⟨96, _⟩ => ⟨S32x8x4x2x16, .f32⟩
  | .hbm, ⟨97, _⟩ => ⟨S32x8x4x2x48, .f32⟩
  | .hbm, ⟨98, _⟩ => ⟨S32x8x4x2x64, .f32⟩
  | .hbm, ⟨99, _⟩ => ⟨S32x8x512, .f32⟩
  | .hbm, ⟨100, _⟩ => ⟨S32x8x512, .f32⟩
  | .hbm, ⟨101, _⟩ => ⟨S32x8x512, .f32⟩
  | .hbm, ⟨102, _⟩ => ⟨S32x8x512, .f32⟩
  | .hbm, ⟨103, _⟩ => ⟨S_, .f32⟩
  | .hbm, ⟨104, _⟩ => ⟨S32x8x512, .f32⟩
  | .hbm, ⟨105, _⟩ => ⟨S32x8x512, .f32⟩
  | .hbm, ⟨106, _⟩ => ⟨S1x256x512, .f32⟩
  | .hbm, ⟨107, _⟩ => ⟨S1x256x512, .bf16⟩
  | .hbm, ⟨108, _⟩ => ⟨S1x256x512, .f32⟩
  | .hbm, ⟨109, _⟩ => ⟨S1x256x512, .bf16⟩
  | .hbm, ⟨110, _⟩ => ⟨S1x256x512, .f32⟩
  | .hbm, ⟨111, _⟩ => ⟨S1x256x512, .bf16⟩
  | .hbm, ⟨112, _⟩ => ⟨S1x256x512, .f32⟩
  | .hbm, ⟨113, _⟩ => ⟨S1x256x512, .f32⟩
  | .hbm, ⟨114, _⟩ => ⟨S1x256x512, .f32⟩
  | .hbm, ⟨115, _⟩ => ⟨S1x256x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_7 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩

abbrev nD : Nat := 1
abbrev τ : Topo := Topo.v7x

variable {F : FTy → Type} [FloatOps F]
-- ==== Kernel4.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S256x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1x1024 : Shape := ⟨2, ![1, 1024]⟩
abbrev S1024x16384 : Shape := ⟨2, ![1024, 16384]⟩
abbrev S512x1024 : Shape := ⟨2, ![512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1024x16384, .f32⟩
  | .hbm, ⟨44, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S32x8x512 : Shape := ⟨3, ![32, 8, 512]⟩
abbrev S32x512 : Shape := ⟨2, ![32, 512]⟩
abbrev S32x3x512 : Shape := ⟨3, ![32, 3, 512]⟩
abbrev S4x512 : Shape := ⟨2, ![4, 512]⟩
abbrev S512 : Shape := ⟨1, ![512]⟩
abbrev S8x64x64 : Shape := ⟨3, ![8, 64, 64]⟩
abbrev S32x1x512 : Shape := ⟨3, ![32, 1, 512]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x8x512 : Shape := ⟨3, ![1, 8, 512]⟩
abbrev S1x1x512 : Shape := ⟨3, ![1, 1, 512]⟩
abbrev S1x3x512 : Shape := ⟨3, ![1, 3, 512]⟩
abbrev S16x512 : Shape := ⟨2, ![16, 512]⟩
abbrev S8x512 : Shape := ⟨2, ![8, 512]⟩
abbrev S5x512 : Shape := ⟨2, ![5, 512]⟩
abbrev S3x512 : Shape := ⟨2, ![3, 512]⟩

abbrev nBuf : Space → Nat
  | .hbm => 47
  | .vmem => 25
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x512, .f32⟩
  | .hbm, ⟨3, _⟩ => ⟨S32x3x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S32x1x512, .f32⟩
  | .hbm, ⟨12, _⟩ => ⟨S1x512, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x1x8x1, .f32⟩
  | .hbm, ⟨21, _⟩ => ⟨S8x64x1x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S1x512, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S8x1x8x1, .f32⟩
  | .hbm, ⟨36, _⟩ => ⟨S8x64x1x64, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S1x512, .f32⟩
  | .hbm, ⟨43, _⟩ => ⟨S1x512, .f32⟩
  | .hbm, ⟨44, _⟩ => ⟨S32x8x512, .bf16⟩
  | .hbm, ⟨45, _⟩ => ⟨S32x1x512, .f32⟩
  | .hbm, ⟨46, _⟩ => ⟨S32x3x512, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x1x512, .f32⟩
  | .local _ .vmem, ⟨5, _⟩ => ⟨S1x1x512, .f32⟩
  | .local _ .vmem, ⟨6, _⟩ => ⟨S1x3x512, .f32⟩
  | .local _ .vmem, ⟨7, _⟩ => ⟨S1x3x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x8x512, .bf16⟩
  | .local _ .vmem, ⟨16, _⟩ => ⟨S1x8x512, .bf16⟩
  | .local _ .vmem, ⟨17, _⟩ => ⟨S1x1x512, .f32⟩
  | .local _ .vmem, ⟨18, _⟩ => ⟨S1x1x512, .f32⟩
  | .local _ .vmem, ⟨19, _⟩ => ⟨S1x3x512, .f32⟩
  | .local _ .vmem, ⟨20, _⟩ => ⟨S1x3x512, .f32⟩
  | .local _ .vmem, ⟨21, _⟩ => ⟨S16x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def k0_mult1 : BitVec 32 :=
  let c0_i32_56 : BitVec 32 := 0#32
  let c0_i32 : BitVec 32 := 0#32
  let c8_i32 : BitVec 32 := 8#32
  let v106 : BitVec 32 := Scalar.muli c0_i32 c8_i32
  let v107 : BitVec 32 := Scalar.addi c0_i32_56 v106
  v107
def k0_off1 : Fin 2 → Nat :=
  let c0_i32_56 : BitVec 32 := 0#32
  let c0_i32 : BitVec 32 := 0#32
  let c8_i32 : BitVec 32 := 8#32
  let v106 : BitVec 32 := Scalar.muli c0_i32 c8_i32
  let v107 : BitVec 32 := Scalar.addi c0_i32_56 v106
  let v108 : BitVec 32 := v107
  let v109 : Index := Scalar.indexCast v108
  let c0_57 : Index := 0#32
  ![v109.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel6Ideal.lean ====
variable {F : FTy → Type} [FloatOps F] [Named F]
def κ : String → Option EReal := fun
  | "cubic" => some (((-((2 * (6693141 / 8388608)) * (Real.log 2)⁻¹)) * (12003091 / 268435456) : ℝ) : EReal)
  | "slope" => some ((-((2 * (6693141 / 8388608)) * (Real.log 2)⁻¹) : ℝ) : EReal)
  | _ => none
-- ==== Reference6Ideal.lean ====
abbrev S32x8x512 : Shape := ⟨3, ![32, 8, 512]⟩
abbrev S32x512 : Shape := ⟨2, ![32, 512]⟩
abbrev S32x3x512 : Shape := ⟨3, ![32, 3, 512]⟩
abbrev S4x512 : Shape := ⟨2, ![4, 512]⟩
abbrev S512 : Shape := ⟨1, ![512]⟩
abbrev S8x64x64 : Shape := ⟨3, ![8, 64, 64]⟩
abbrev S32x11x512 : Shape := ⟨3, ![32, 11, 512]⟩
abbrev S1x512 : Shape := ⟨2, ![1, 512]⟩
abbrev S1x1x512 : Shape := ⟨3, ![1, 1, 512]⟩
abbrev S_ : Shape := ⟨0, ![]⟩
abbrev S32x8x8x64 : Shape := ⟨4, ![32, 8, 8, 64]⟩
abbrev S8x64x32x8 : Shape := ⟨4, ![8, 64, 32, 8]⟩
abbrev S32x1x512 : Shape := ⟨3, ![32, 1, 512]⟩

abbrev nBuf : Space → Nat
  | .hbm => 182
  | .vmem => 0
  | .smem => 0
  | _ => 0

abbrev hbmTy0_0 (i : Nat) : BufTy := match i % 128 with
  | 0 => ⟨S32x8x512, .f32⟩
  | 1 => ⟨S32x8x512, .f32⟩
  | 2 => ⟨S32x512, .f32⟩
  | 3 => ⟨S32x3x512, .f32⟩
  | 4 => ⟨S4x512, .f32⟩
  | 5 => ⟨S512, .f32⟩
  | 6 => ⟨S8x64x64, .f32⟩
  | 7 => ⟨S512, .f32⟩
  | 8 => ⟨S8x64x64, .f32⟩
  | 9 => ⟨S512, .f32⟩
  | 10 => ⟨S512, .f32⟩
  | 11 => ⟨S32x11x512, .f32⟩
  | 12 => ⟨S32x8x512, .f32⟩
  | 13 => ⟨S1x512, .f32⟩
  | 14 => ⟨S512, .f32⟩
  | 15 => ⟨S1x1x512, .f32⟩
  | 16 => ⟨S32x8x512, .f32⟩
  | 17 => ⟨S32x8x512, .f32⟩
  | 18 => ⟨S_, .f32⟩
  | 19 => ⟨S32x8x512, .f32⟩
  | 20 => ⟨S32x8x512, .f32⟩
  | 21 => ⟨S32x8x512, .f32⟩
  | 22 => ⟨S1x512, .f32⟩
  | 23 => ⟨S512, .f32⟩
  | 24 => ⟨S1x1x512, .f32⟩
  | 25 => ⟨S32x8x512, .f32⟩
  | 26 => ⟨S32x8x512, .f32⟩
  | 27 => ⟨S32x8x512, .f32⟩
  | 28 => ⟨S32x8x512, .f32⟩
  | 29 => ⟨S1x512, .f32⟩
  | 30 => ⟨S512, .f32⟩
  | 31 => ⟨S1x1x512, .f32⟩
  | 32 => ⟨S32x8x512, .f32⟩
  | 33 => ⟨S32x8x512, .f32⟩
  | 34 => ⟨S32x8x512, .f32⟩
  | 35 => ⟨S32x8x512, .f32⟩
  | 36 => ⟨S1x512, .f32⟩
  | 37 => ⟨S512, .f32⟩
  | 38 => ⟨S1x1x512, .f32⟩
  | 39 => ⟨S32x8x512, .f32⟩
  | 40 => ⟨S32x8x512, .f32⟩
  | 41 => ⟨S32x8x512, .f32⟩
  | 42 => ⟨S1x1x512, .f32⟩
  | 43 => ⟨S32x8x512, .f32⟩
  | 44 => ⟨S32x8x512, .f32⟩
  | 45 => ⟨S32x8x8x64, .f32⟩
  | 46 => ⟨S8x64x32x8, .f32⟩
  | 47 => ⟨S32x8x8x64, .f32⟩
  | 48 => ⟨S32x8x512, .f32⟩
  | 49 => ⟨S1x1x512, .f32⟩
  | 50 => ⟨S32x8x512, .f32⟩
  | 51 => ⟨S32x8x512, .f32⟩
  | 52 => ⟨S32x8x512, .f32⟩
  | 53 => ⟨S32x8x512, .f32⟩
  | 54 => ⟨S_, .f32⟩
  | 55 => ⟨S32x8x512, .f32⟩
  | 56 => ⟨S32x8x512, .f32⟩
  | 57 => ⟨S_, .f32⟩
  | 58 => ⟨S32x8x512, .f32⟩
  | 59 => ⟨S32x8x512, .f32⟩
  | 60 => ⟨S8x64x32x8, .f32⟩
  | 61 => ⟨S32x8x8x64, .f32⟩
  | 62 => ⟨S32x8x512, .f32⟩
  | 63 => ⟨S1x1x512, .f32⟩
  | 64 => ⟨S32x8x512, .f32⟩
  | 65 => ⟨S32x8x512, .f32⟩
  | 66 => ⟨S32x8x512, .f32⟩
  | 67 => ⟨S32x8x512, .f32⟩
  | 68 => ⟨S_, .f32⟩
  | 69 => ⟨S32x8x512, .f32⟩
  | 70 => ⟨S32x8x512, .f32⟩
  | 71 => ⟨S_, .f32⟩
  | 72 => ⟨S32x8x512, .f32⟩
  | 73 => ⟨S32x8x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S_, .f32⟩
  | 90 => ⟨S512, .f32⟩
  | 91 => ⟨S512, .f32⟩
  | 92 => ⟨S1x1x512, .f32⟩
  | 93 => ⟨S32x8x512, .f32⟩
  | 94 => ⟨S32x8x512, .f32⟩
  | 95 => ⟨S32x8x512, .f32⟩
  | 96 => ⟨S_, .f32⟩
  | 97 => ⟨S32x8x512, .f32⟩
  | 98 => ⟨S32x8x512, .f32⟩
  | 99 => ⟨S32x8x512, .f32⟩
  | 100 => ⟨S32x8x512, .f32⟩
  | 101 => ⟨S32x8x512, .f32⟩
  | 102 => ⟨S32x8x512, .f32⟩
  | 103 => ⟨S32x8x512, .f32⟩
  | 104 => ⟨S32x1x512, .f32⟩
  | 105 => ⟨S32x512, .f32⟩
  | 106 => ⟨S32x512, .f32⟩
  | 107 => ⟨S32x1x512, .f32⟩
  | 108 => ⟨S32x512, .f32⟩
  | 109 => ⟨S32x512, .f32⟩
  | 110 => ⟨S32x1x512, .f32⟩
  | 111 => ⟨S32x512, .f32⟩
  | 112 => ⟨S32x512, .f32⟩
  | 113 => ⟨S32x1x512, .f32⟩
  | 114 => ⟨S32x512, .f32⟩
  | 115 => ⟨S32x512, .f32⟩
  | 116 => ⟨S32x1x512, .f32⟩
  | 117 => ⟨S32x512, .f32⟩
  | 118 => ⟨S32x512, .f32⟩
  | 119 => ⟨S32x1x512, .f32⟩
  | 120 => ⟨S32x512, .f32⟩
  | 121 => ⟨S32x512, .f32⟩
  | 122 => ⟨S32x1x512, .f32⟩
  | 123 => ⟨S32x512, .f32⟩
  | 124 => ⟨S32x512, .f32⟩
  | 125 => ⟨S32x1x512, .f32⟩
  | 126 => ⟨S32x512, .f32⟩
  | 127 => ⟨S32x512, .f32⟩
  | _ => ⟨S32x8x512, .f32⟩

abbrev hbmTy0_1 (i : Nat) : BufTy := match i % 128 with
  | 0 => ⟨S32x1x512, .f32⟩
  | 1 => ⟨S32x512, .f32⟩
  | 2 => ⟨S32x512, .f32⟩
  | 3 => ⟨S32x1x512, .f32⟩
  | 4 => ⟨S32x512, .f32⟩
  | 5 => ⟨S32x512, .f32⟩
  | 6 => ⟨S32x1x512, .f32⟩
  | 7 => ⟨S32x512, .f32⟩
  | 8 => ⟨S32x512, .f32⟩
  | 9 => ⟨S32x1x512, .f32⟩
  | 10 => ⟨S32x512, .f32⟩
  | 11 => ⟨S32x512, .f32⟩
  | 12 => ⟨S32x1x512, .f32⟩
  | 13 => ⟨S32x512, .f32⟩
  | 14 => ⟨S32x512, .f32⟩
  | 15 => ⟨S32x1x512, .f32⟩
  | 16 => ⟨S32x512, .f32⟩
  | 17 => ⟨S32x512, .f32⟩
  | 18 => ⟨S32x1x512, .f32⟩
  | 19 => ⟨S32x512, .f32⟩
  | 20 => ⟨S32x512, .f32⟩
  | 21 => ⟨S32x1x512, .f32⟩
  | 22 => ⟨S32x512, .f32⟩
  | 23 => ⟨S32x512, .f32⟩
  | 24 => ⟨S32x1x512, .f32⟩
  | 25 => ⟨S32x1x512, .f32⟩
  | 26 => ⟨S32x1x512, .f32⟩
  | 27 => ⟨S32x1x512, .f32⟩
  | 28 => ⟨S32x1x512, .f32⟩
  | 29 => ⟨S32x1x512, .f32⟩
  | 30 => ⟨S32x1x512, .f32⟩
  | 31 => ⟨S32x1x512, .f32⟩
  | 32 => ⟨S32x8x512, .f32⟩
  | 33 => ⟨S32x8x512, .f32⟩
  | 34 => ⟨S32x8x512, .f32⟩
  | 35 => ⟨S_, .f32⟩
  | 36 => ⟨S32x8x512, .f32⟩
  | 37 => ⟨S32x8x512, .f32⟩
  | 38 => ⟨S32x8x512, .f32⟩
  | 39 => ⟨S_, .f32⟩
  | 40 => ⟨S32x8x512, .f32⟩
  | 41 => ⟨S32x8x512, .f32⟩
  | 42 => ⟨S32x8x512, .f32⟩
  | 43 => ⟨S_, .f32⟩
  | 44 => ⟨S32x8x512, .f32⟩
  | 45 => ⟨S32x8x512, .f32⟩
  | 46 => ⟨S_, .f32⟩
  | 47 => ⟨S32x8x512, .f32⟩
  | 48 => ⟨S32x8x512, .f32⟩
  | 49 => ⟨S32x8x512, .f32⟩
  | 50 => ⟨S32x8x512, .f32⟩
  | 51 => ⟨S32x8x512, .bf16⟩
  | 52 => ⟨S32x1x512, .f32⟩
  | 53 => ⟨S32x3x512, .f32⟩
  | _ => ⟨S32x8x512, .f32⟩

abbrev hbmTy (i : Nat) : BufTy := match i / 128 with
  | 0 => hbmTy0_0 i
  | 1 => hbmTy0_1 i
  | _ => ⟨S32x8x512, .f32⟩

abbrev bufTy : (tb : Table) → Fin (tcTables nBuf tb) → BufTy
  | .hbm, ⟨i, _⟩ => hbmTy i
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v59 : Ref sig .tc := ⟨.hbm, 88, rfl⟩
abbrev main_cst_4 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_6 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_7 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_8 : Ref sig .tc := ⟨.hbm, 171, rfl⟩
abbrev main_v138 : Ref sig .tc := ⟨.hbm, 172, rfl⟩
abbrev main_v139 : Ref sig .tc := ⟨.hbm, 173, rfl⟩
abbrev main_cst_9 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩

abbrev nD : Nat := 1
abbrev τ : Topo := Topo.v7x

variable {F : FTy → Type} [FloatOps F]
-- ==== Kernel7.lean ====
abbrev S256x1024 : Shape := ⟨2, ![256, 1024]⟩
abbrev S256x256 : Shape := ⟨2, ![256, 256]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S256x1024, .bf16⟩
  | .hbm, ⟨13, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S256x1024, .bf16⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference7Ideal.lean ====
abbrev S256x1024 : Shape := ⟨2, ![256, 1024]⟩
abbrev S256x256 : Shape := ⟨2, ![256, 256]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S256x1024, .f32⟩
  | .hbm, ⟨34, _⟩ => ⟨S256x1024, .f32⟩
  | .hbm, ⟨35, _⟩ => ⟨S1x1024, .f32⟩
  | .hbm, ⟨36, _⟩ => ⟨S256x1024, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S1x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S_, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Attn.Online.lean ====
module

public import Idealize.ShloMosaic.Lib.Pointwise

@[expose] public section
noncomputable section
namespace Cert.Attn
open Idealize.ShloMosaic

/-! The running softmax over blocks of keys, on the extended reals, with nothing of the kernel in it. -/

/-- The sum of reals, taken in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_of_coe {ι : Type} (s : Finset ι) (g : ι → EReal) (f : ι → ℝ) (h : ∀ i, g i = (f i : EReal)) :
    ∑ i ∈ s, g i = ((∑ i ∈ s, f i : ℝ) : EReal) := by
  rw [← sum_coe]; exact Finset.sum_congr rfl fun i _ => h i

/-- A score, masked or not, and the weight it stands for: a real score has its exponential, a masked one zero. -/
def Sc (σ : EReal) (e : ℝ) : Prop := (∃ s : ℝ, σ = (s : EReal) ∧ e = Real.exp s) ∨ (σ = ⊥ ∧ e = 0)

theorem Sc.ne_top {σ : EReal} {e : ℝ} (h : Sc σ e) : σ ≠ ⊤ := by
  rcases h with ⟨s, rfl, _⟩ | ⟨rfl, _⟩
  · exact EReal.coe_ne_top s
  · exact bot_ne_top

theorem Sc.nonneg {σ : EReal} {e : ℝ} (h : Sc σ e) : 0 ≤ e := by
  rcases h with ⟨s, _, rfl⟩ | ⟨_, rfl⟩
  · exact (Real.exp_pos s).le
  · exact le_refl _

theorem Sc.exp_sub {σ : EReal} {e : ℝ} (h : Sc σ e) (μ : ℝ) :
    Ideal.exp (σ - (μ : EReal)) = ((Real.exp (-μ) * e : ℝ) : EReal) := by
  rcases h with ⟨s, rfl, rfl⟩ | ⟨rfl, rfl⟩
  · rw [← EReal.coe_sub, Ideal.exp_coe, ← Real.exp_add]; congr 2; ring
  · rw [EReal.bot_sub, Ideal.exp_bot]; simp

theorem exp_coe_sub (a b : ℝ) : Ideal.exp ((a : EReal) - (b : EReal)) = ((Real.exp (a - b) : ℝ) : EReal) := by
  rw [← EReal.coe_sub, Ideal.exp_coe]

/-- The maximum of finitely many scores below the top is below the top. -/
theorem fold_max_ne_top {ι : Type} (s : Finset ι) (f : ι → EReal) (h : ∀ i, f i ≠ ⊤) :
    Finset.fold max ⊥ f s ≠ ⊤ := by
  classical
  induction s using Finset.induction_on with
  | empty => simp
  | insert a s ha ih =>
    rw [Finset.fold_insert ha]
    rcases max_choice (f a) (Finset.fold max ⊥ f s) with h' | h' <;> rw [h']
    · exact h a
    · exact ih

theorem le_fold_max {ι : Type} (s : Finset ι) (f : ι → EReal) (i : ι) (hi : i ∈ s) :
    f i ≤ Finset.fold max ⊥ f s :=
  Finset.le_fold_max (f i) |>.mpr (Or.inr ⟨i, hi, le_refl _⟩)

theorem exists_real {x : EReal} (h1 : x ≠ ⊤) (h2 : x ≠ ⊥) : ∃ r : ℝ, x = (r : EReal) :=
  ⟨x.toReal, (EReal.coe_toReal h1 h2).symm⟩

/-- What the running softmax knows after a set of keys: with the running maximum `μ`, the sum is `Z` and each
    accumulator is `W d`, both scaled by `exp (-μ)`. -/
def St {δ : Type} (m l : EReal) (acc : δ → EReal) (Z : ℝ) (W : δ → ℝ) : Prop :=
  ∃ μ : ℝ, m = (μ : EReal) ∧ l = ((Real.exp (-μ) * Z : ℝ) : EReal) ∧ ∀ d, acc d = ((Real.exp (-μ) * W d : ℝ) : EReal)

/-- Before any key. -/
theorem St.init {δ : Type} (μ : ℝ) : St (δ := δ) (μ : EReal) 0 (fun _ => 0) 0 (fun _ => 0) :=
  ⟨μ, rfl, by simp, fun d => by simp⟩

/-- One block of keys. -/
theorem St.step {δ κ : Type} [Fintype κ] {m l : EReal} {acc : δ → EReal} {Z : ℝ} {W : δ → ℝ}
    (h : St m l acc Z W) {σ : κ → EReal} {e : κ → ℝ} (hs : ∀ k, Sc (σ k) (e k))
    {v : δ → κ → EReal} {vr : δ → κ → ℝ} (hv : ∀ d k, v d k = (vr d k : EReal))
    {m' l' : EReal} {acc' : δ → EReal}
    (hm : m' = max m (Finset.fold max ⊥ σ Finset.univ))
    (hl : l' = Ideal.exp (m - m') * l + ∑ k, Ideal.exp (σ k - m'))
    (ha : ∀ d, acc' d = Ideal.exp (m - m') * acc d + ∑ k, v d k * Ideal.exp (σ k - m')) :
    St m' l' acc' (Z + ∑ k, e k) (fun d => W d + ∑ k, vr d k * e k) := by
  obtain ⟨μ, rfl, rfl, hacc⟩ := h
  have h1 : m' ≠ ⊤ := by
    rw [hm]
    rcases max_choice (μ : EReal) (Finset.fold max ⊥ σ Finset.univ) with h' | h' <;> rw [h']
    · exact EReal.coe_ne_top μ
    · exact fold_max_ne_top _ _ fun k => (hs k).ne_top
  have h2 : m' ≠ ⊥ := by
    intro hb
    have : (μ : EReal) ≤ m' := by rw [hm]; exact le_max_left _ _
    rw [hb] at this
    exact EReal.coe_ne_bot μ (le_bot_iff.mp this)
  obtain ⟨ν, hν⟩ := exists_real h1 h2
  refine ⟨ν, hν, ?_, fun d => ?_⟩
  · rw [hl, hν, exp_coe_sub, sum_of_coe _ _ _ fun k => (hs k).exp_sub ν, ← EReal.coe_mul, ← EReal.coe_add]
    congr 1
    rw [← Finset.mul_sum, mul_add, ← mul_assoc, ← Real.exp_add]
    congr 3; ring
  · rw [ha, hν, exp_coe_sub, hacc,
      sum_of_coe _ _ (fun k => Real.exp (-ν) * (vr d k * e k)) fun k => by
        rw [hv, (hs k).exp_sub ν, ← EReal.coe_mul]; congr 1; ring,
      ← EReal.coe_mul, ← EReal.coe_add]
    congr 1
    rw [← Finset.mul_sum, mul_add, ← mul_assoc, ← Real.exp_add]
    congr 3; ring

/-- At the end the quotient is the weighted mean. -/
theorem St.quot {δ : Type} {m l : EReal} {acc : δ → EReal} {Z : ℝ} {W : δ → ℝ} (h : St m l acc Z W) (hZ : 0 < Z) (d : δ) :
    Ideal.div (acc d) l = ((W d / Z : ℝ) : EReal) := by
  obtain ⟨μ, _, rfl, hacc⟩ := h
  have hp : (0 : ℝ) < Real.exp (-μ) := Real.exp_pos _
  rw [hacc, Ideal.div_coe (mul_pos hp hZ).ne', ← EReal.coe_mul]
  congr 1
  field_simp

/-- A sum over the keys as a sum over the naturals: a function of a key, zero past the last. -/
def ext {n : ℕ} (f : Fin n → ℝ) (k : ℕ) : ℝ := if h : k < n then f ⟨k, h⟩ else 0

theorem ext_lt {n : ℕ} (f : Fin n → ℝ) (k : Fin n) : ext f k.1 = f k := by
  unfold ext; rw [dif_pos k.2]

/-- The sum over the keys below `n`. -/
def upTo {n : ℕ} (f : Fin n → ℝ) (j : ℕ) : ℝ := ∑ k ∈ Finset.range j, ext f k

theorem upTo_zero {n : ℕ} (f : Fin n → ℝ) : upTo f 0 = 0 := by unfold upTo; simp

theorem upTo_add {n : ℕ} (f : Fin n → ℝ) (j b : ℕ) (g : Fin b → ℝ) (hg : ∀ k : Fin b, g k = ext f (j + k.1)) :
    upTo f (j + b) = upTo f j + ∑ k, g k := by
  unfold upTo
  rw [Finset.sum_range_add, Finset.sum_range (fun x => ext f (j + x))]
  congr 1
  exact Finset.sum_congr rfl fun k _ => (hg k).symm

theorem upTo_all {n : ℕ} (f : Fin n → ℝ) (j : ℕ) (hj : j ≤ n) (hz : ∀ k : Fin n, j ≤ k.1 → f k = 0) :
    upTo f j = ∑ k, f k := by
  have h1 : upTo f n = ∑ k, f k := by
    unfold upTo
    rw [Finset.sum_range]
    exact Finset.sum_congr rfl fun k _ => ext_lt f k
  rw [← h1]
  unfold upTo
  refine Finset.sum_subset (Finset.range_mono hj) fun k hk hk' => ?_
  rw [Finset.mem_range] at hk
  rw [Finset.mem_range, not_lt] at hk'
  unfold ext
  rw [dif_pos hk]
  exact hz _ hk'

/-- The softmax of a whole row, taken at once: the maximum is real, and each weight is the exponential over their sum. -/
theorem soft {κ : Type} [Fintype κ] {σ : κ → EReal} {e : κ → ℝ} (hs : ∀ k, Sc (σ k) (e k))
    (k0 : κ) (h0 : 0 < e k0) {M : EReal} (hM : M = Finset.fold max ⊥ σ Finset.univ) (k : κ) :
    Ideal.div (Ideal.exp (σ k - M)) (∑ j, Ideal.exp (σ j - M)) = ((e k / ∑ j, e j : ℝ) : EReal) := by
  have h1 : M ≠ ⊤ := by rw [hM]; exact fold_max_ne_top _ _ fun k => (hs k).ne_top
  have h2 : M ≠ ⊥ := by
    intro hb
    have h3 := le_fold_max Finset.univ σ k0 (Finset.mem_univ _)
    rw [← hM, hb] at h3
    rcases hs k0 with ⟨s, hs0, _⟩ | ⟨_, hs0⟩
    · rw [hs0] at h3; exact EReal.coe_ne_bot s (le_bot_iff.mp h3)
    · rw [hs0] at h0; exact lt_irrefl _ h0
  obtain ⟨ν, rfl⟩ := exists_real h1 h2
  have hpos : 0 < ∑ j, e j :=
    Finset.sum_pos' (fun j _ => (hs j).nonneg) ⟨k0, Finset.mem_univ _, h0⟩
  have hp : (0 : ℝ) < Real.exp (-ν) := Real.exp_pos _
  rw [(hs k).exp_sub, sum_of_coe _ _ _ fun j => (hs j).exp_sub ν, ← Finset.mul_sum,
    Ideal.div_coe (mul_pos hp hpos).ne', ← EReal.coe_mul]
  congr 1
  field_simp

end Cert.Attn
end
-- ==== Proof.Attn.Spec.lean ====
module

public import proofs.«01_k».proof.KernelIdeal
public import proofs.«01_k».proof.Proof.Attn.Online

@[expose] public section
noncomputable section
namespace Cert.Attn
open Idealize.ShloMosaic Cert.KernelIdeal

/-! What the prompt's attention is, as one function of its arguments. -/

/-- Every entry is a real number. -/
def IsReal {ι : Type} (x : ι → EReal) : Prop := ∀ i, x i = ((x i).toReal : EReal)

/-- The factor of the second half's attention. -/
def lamR (a b c d : FVec Ideal S1x64 .f32) : ℝ :=
  Real.exp (∑ x : Fin 64, (a (ix2 0 x)).toReal * (b (ix2 0 x)).toReal) - Real.exp (∑ x : Fin 64, (c (ix2 0 x)).toReal * (d (ix2 0 x)).toReal)
    + (Ideal.ofBits FTy.f32 1045220557#32).toReal

/-- The weight of key `k` for query `t`: the exponential of the score, zero for a later key. -/
def wt (x5 : FVec Ideal S8x4x4x128x512 .bf16) (x6 : FVec Ideal S8x2048x512 .bf16) (B : Fin 8) (h : Fin 4) (hh : Fin 2) (t k : Fin 2048) : ℝ :=
  if k.1 ≤ t.1 then
    Real.exp (∑ d : Fin 64, (x5 (ix5 B h ⟨t.1 / 512, by omega⟩ ⟨64 * hh.1 + d.1, by omega⟩ ⟨t.1 % 512, by omega⟩)).toReal
      * (x6 (ix3 B k ⟨128 * h.1 + (64 * hh.1 + d.1), by omega⟩)).toReal)
  else 0

/-- Feature `d` of key `k`'s value. -/
def val (x7 : FVec Ideal S8x4x4x128x512 .bf16) (B : Fin 8) (h : Fin 4) (d : Fin 128) (k : Fin 2048) : ℝ :=
  (x7 (ix5 B h ⟨k.1 / 512, by omega⟩ d ⟨k.1 % 512, by omega⟩)).toReal

/-- The weighted mean of the values. -/
def mean (x5 : FVec Ideal S8x4x4x128x512 .bf16) (x6 : FVec Ideal S8x2048x512 .bf16) (x7 : FVec Ideal S8x4x4x128x512 .bf16)
    (B : Fin 8) (h : Fin 4) (hh : Fin 2) (t : Fin 2048) (d : Fin 128) : ℝ :=
  (∑ k, val x7 B h d k * wt x5 x6 B h hh t k) / ∑ k, wt x5 x6 B h hh t k

/-- The root-mean-square norm of a head's output and its scale. -/
def normed (O : Fin 128 → EReal) (g : FVec Ideal S1x128 .f32) (d : Fin 128) : EReal :=
  O d * Ideal.rsqrt (Ideal.div (∑ x, O x * O x) (Ideal.ofBits FTy.f32 1124073472#32) + Ideal.ofBits FTy.f32 925353388#32)
    * Ideal.ofBits FTy.f32 1061997773#32 * g (ix2 0 d)

/-- The attention's output. -/
def attn (x0 x1 x2 x3 : FVec Ideal S1x64 .f32) (g : FVec Ideal S1x128 .f32) (x5 : FVec Ideal S8x4x4x128x512 .bf16)
    (x6 : FVec Ideal S8x2048x512 .bf16) (x7 : FVec Ideal S8x4x4x128x512 .bf16) (B : Fin 8) (h : Fin 4) (t : Fin 2048) (d : Fin 128) : EReal :=
  normed (fun d => ((mean x5 x6 x7 B h 0 t d - lamR x0 x1 x2 x3 * mean x5 x6 x7 B h 1 t d : ℝ) : EReal)) g d

/-- … as the array. -/
def G (x0 x1 x2 x3 : FVec Ideal S1x64 .f32) (g : FVec Ideal S1x128 .f32) (x5 : FVec Ideal S8x4x4x128x512 .bf16)
    (x6 : FVec Ideal S8x2048x512 .bf16) (x7 : FVec Ideal S8x4x4x128x512 .bf16) : FVec Ideal S8x2048x512 .bf16 :=
  fun j => attn x0 x1 x2 x3 g x5 x6 x7 (j 0) ⟨(j 2 : Fin 512).1 / 128, by have : (j 2).1 < 512 := (j 2).2; omega⟩ (j 1)
    ⟨(j 2 : Fin 512).1 % 128, by omega⟩

theorem diag_pos (x5 x6) (B : Fin 8) (h : Fin 4) (hh : Fin 2) (t : Fin 2048) : 0 < wt x5 x6 B h hh t t := by
  unfold wt; rw [if_pos (le_refl _)]; exact Real.exp_pos _

theorem sum_wt_pos (x5 x6) (B : Fin 8) (h : Fin 4) (hh : Fin 2) (t : Fin 2048) : 0 < ∑ k, wt x5 x6 B h hh t k :=
  Finset.sum_pos' (fun k _ => by unfold wt; split_ifs; exacts [(Real.exp_pos _).le, le_refl _]) ⟨t, Finset.mem_univ _, diag_pos x5 x6 B h hh t⟩

end Cert.Attn
end
-- ==== Proof.Attn.Steps.lean ====
module

public import proofs.«01_k».proof.Proof.Gen.KernelIdeal.Frame
public import proofs.«01_k».proof.Proof.Attn.Online
public import Idealize.ShloMosaic.Lib.Pointwise
public import Idealize.ShloMosaic.Lib.Pipeline.ValueKit

@[expose] public section
set_option maxRecDepth 16384
noncomputable section
namespace Cert.Attn
open Idealize.ShloMosaic Cert.KernelIdeal Cert.KernelIdeal.Gen Idealize.SL.Sem

/-! The attention kernel's stages at an index, and what one block of keys does to the running softmax. -/

theorem minf : Ideal.ofBits FTy.f32 4286578688#32 = ⊥ := by
  simp [Ideal.ofBits, Ideal.ieee]

theorem pay2_at (q : FVec Ideal S128x1024 .bf16) (k : FVec Ideal S1x512x128 .bf16) (a : Fin 512) (c : Fin 1024) :
    k0_pay2 (F := Ideal) q k (ix2 a c) = ∑ x : Fin 128, k (ix3 0 a x) * q (ix2 x c) := by
  pointwise [k0_pay2]

theorem pay17_at (m : FVec Ideal S1x1024 .f32) (s : FVec Ideal S512x1024 .f32) (c : Fin 1024) :
    k0_pay17 (F := Ideal) m s (ix2 0 c)
      = max (m (ix2 0 c)) (Finset.fold max (Ideal.ofBits FTy.f32 4286578688#32) (fun x => s (ix2 x c)) Finset.univ) := by
  pointwise [k0_pay17]

theorem pay18_at (m : FVec Ideal S1x1024 .f32) (s : FVec Ideal S512x1024 .f32) (c : Fin 1024) :
    k0_pay18 (F := Ideal) m s (ix2 0 c) = Ideal.exp (m (ix2 0 c) - k0_pay17 (F := Ideal) m s (ix2 0 c)) := by
  pointwise [k0_pay18]

theorem pay19_at (m : FVec Ideal S1x1024 .f32) (s : FVec Ideal S512x1024 .f32) (a : Fin 512) (c : Fin 1024) :
    k0_pay19 (F := Ideal) m s (ix2 a c) = Ideal.exp (s (ix2 a c) - k0_pay17 (F := Ideal) m s (ix2 0 c)) := by
  pointwise [k0_pay19]

theorem pay20_at (m l : FVec Ideal S1x1024 .f32) (s : FVec Ideal S512x1024 .f32) (c : Fin 1024) :
    k0_pay20 (F := Ideal) m l s (ix2 0 c)
      = k0_pay18 (F := Ideal) m s (ix2 0 c) * l (ix2 0 c) + ∑ x : Fin 512, k0_pay19 (F := Ideal) m s (ix2 x c) := by
  pointwise [k0_pay20]

theorem pay29_at (m : FVec Ideal S1x1024 .f32) (acc : FVec Ideal S128x1024 .f32) (s : FVec Ideal S512x1024 .f32)
    (d : Fin 128) (c : Fin 1024) :
    k0_pay29 (F := Ideal) m acc s (ix2 d c) = k0_pay18 (F := Ideal) m s (ix2 0 c) * acc (ix2 d c) := by
  pointwise [k0_pay29]

theorem pay21_at (m : FVec Ideal S1x1024 .f32) (s : FVec Ideal S512x1024 .f32) (a : Fin 512) (c : Fin 1024) :
    k0_pay21 (F := Ideal) m s (ix2 a c) = k0_pay19 (F := Ideal) m s (ix2 a c) := by
  pointwise [k0_pay21]

theorem pay74_at (p : FVec Ideal S512x1024 .bf16) (acc : FVec Ideal S128x1024 .f32)
    (v : FVec Ideal S1x1x1x128x512 .bf16) (d : Fin 128) (c : Fin 1024) :
    k0_pay74 (F := Ideal) p acc v (ix2 d c) = acc (ix2 d c) + ∑ x : Fin 512, v (ix5 0 0 0 d x) * p (ix2 x c) := by
  pointwise [k0_pay74]

theorem pay95_at (s : FVec Ideal S512x1024 .f32) (a : Fin 512) (c : Fin 1024) :
    k0_pay95 (F := Ideal) s (ix2 a c)
      = Scalar.select (IntOp.cmpi .sle (BitVec.ofNat 32 a) (Scalar.select (IntOp.cmpi .sge (BitVec.ofNat 32 c) 512#32)
          (IntOp.subi (BitVec.ofNat 32 c) 512#32) (BitVec.ofNat 32 c))) (s (ix2 a c)) (Ideal.ofBits FTy.f32 4286578688#32) := by
  pointwise [k0_pay95]

theorem pay58_at (s : FVec Ideal S1x1x1x128x512 .bf16) (a : Fin 128) (c : Fin 1024) :
    k0_pay58 (F := Ideal) s (ix2 a c)
      = if h : (c : ℕ) < 512 then Scalar.select (IntOp.cmpi .slt (BitVec.ofNat 32 a) 64#32) (s (ix5 0 0 0 a ⟨c, h⟩)) 0
        else Scalar.select (IntOp.cmpi .sge (BitVec.ofNat 32 a) 64#32) (s (ix5 0 0 0 a ⟨c - 512, by omega⟩)) 0 := by
  pointwise [k0_pay58]

/-- The column of the scores that holds query `q` of the block, against half `hh` of the head's features. -/
def col (hh : Fin 2) (q : Fin 512) : Fin 1024 := ⟨512 * hh.1 + q.1, by omega⟩

theorem lt64 : ∀ a : Fin 128, IntOp.cmpi .slt (BitVec.ofNat 32 a) 64#32 = if a.1 < 64 then 1#1 else 0#1 := by
  decide +kernel
theorem ge64 : ∀ a : Fin 128, IntOp.cmpi .sge (BitVec.ofNat 32 a) 64#32 = if a.1 < 64 then 0#1 else 1#1 := by
  decide +kernel

theorem ofNat_toInt (n : ℕ) (h : n < 2048) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- One half of a head's features of a query, zeros in the other half. -/
theorem half_at (s : FVec Ideal S1x1x1x128x512 .bf16) (a : Fin 128) (hh : Fin 2) (q : Fin 512) :
    k0_pay58 (F := Ideal) s (ix2 a (col hh q)) = if a.1 / 64 = hh.1 then s (ix5 0 0 0 a q) else 0 := by
  rw [pay58_at, lt64, ge64]
  have ha := a.2
  have hq := q.2
  rcases (by omega : hh.1 = 0 ∨ hh.1 = 1) with h0 | h1
  · have hc : ((col hh q : Fin 1024) : ℕ) < 512 := by show 512 * hh.1 + q.1 < 512; omega
    have e : (⟨(col hh q : Fin 1024), hc⟩ : Fin 512) = q := by apply Fin.ext; show 512 * hh.1 + q.1 = q.1; omega
    rw [dif_pos hc, e, h0]
    by_cases h : a.1 < 64
    · rw [if_pos h, if_pos (by omega)]; rfl
    · rw [if_neg h, if_neg (by omega)]; rfl
  · have hc : ¬ ((col hh q : Fin 1024) : ℕ) < 512 := by show ¬ 512 * hh.1 + q.1 < 512; omega
    have e : ∀ h', (⟨(col hh q : Fin 1024) - 512, h'⟩ : Fin 512) = q := by
      intro h'; apply Fin.ext; show 512 * hh.1 + q.1 - 512 = q.1; omega
    rw [dif_neg hc, e, h1]
    by_cases h : a.1 < 64
    · rw [if_pos h, if_neg (by omega)]; rfl
    · rw [if_neg h, if_pos (by omega)]; rfl

/-- A sum over a head's 128 features that keeps one half of 64. -/
theorem sum_half (hh : Fin 2) (f : Fin 128 → ℝ) :
    (∑ x : Fin 128, if x.1 / 64 = hh.1 then f x else 0) = ∑ d : Fin 64, f ⟨64 * hh.1 + d.1, by omega⟩ := by
  rw [← Finset.sum_filter]
  symm
  refine Finset.sum_bij (fun d _ => (⟨64 * hh.1 + d.1, by omega⟩ : Fin 128)) ?_ ?_ ?_ ?_
  · intro d _
    rw [Finset.mem_filter]
    exact ⟨Finset.mem_univ _, by show (64 * hh.1 + d.1) / 64 = hh.1; omega⟩
  · intro d _ d' _ h
    have := congrArg Fin.val h
    apply Fin.ext
    change 64 * hh.1 + d.1 = 64 * hh.1 + d'.1 at this
    omega
  · intro x hx
    rw [Finset.mem_filter] at hx
    exact ⟨⟨x.1 - 64 * hh.1, by omega⟩, Finset.mem_univ _, Fin.ext (by show 64 * hh.1 + (x.1 - 64 * hh.1) = x.1; omega)⟩
  · intro d _; rfl

/-- A score of the block, as the real inner product over the half's 64 features. -/
theorem score_at (q : FVec Ideal S1x1x1x128x512 .bf16) (k : FVec Ideal S1x512x128 .bf16)
    (qr : Fin 128 → Fin 512 → ℝ) (kr : Fin 512 → Fin 128 → ℝ)
    (hq : ∀ x c, q (ix5 0 0 0 x c) = (qr x c : EReal)) (hk : ∀ a x, k (ix3 0 a x) = (kr a x : EReal))
    (a : Fin 512) (hh : Fin 2) (c : Fin 512) :
    k0_pay2 (F := Ideal) (k0_pay58 (F := Ideal) q) k (ix2 a (col hh c))
      = ((∑ d : Fin 64, qr ⟨64 * hh.1 + d.1, by omega⟩ c * kr a ⟨64 * hh.1 + d.1, by omega⟩ : ℝ) : EReal) := by
  rw [pay2_at, ← sum_half hh (fun x => qr x c * kr a x)]
  refine sum_of_coe _ _ _ fun x => ?_
  rw [half_at, hk]
  split_ifs with h
  · rw [hq, ← EReal.coe_mul, mul_comm]
  · rw [mul_zero]; rfl

/-- The diagonal block's mask keeps the keys at or before the query. -/
theorem mask_at (s : FVec Ideal S512x1024 .f32) (a : Fin 512) (hh : Fin 2) (q : Fin 512) :
    k0_pay95 (F := Ideal) s (ix2 a (col hh q)) = if a.1 ≤ q.1 then s (ix2 a (col hh q)) else ⊥ := by
  rw [pay95_at, minf]
  have ha := a.2
  have hq := q.2
  have e : Scalar.select (IntOp.cmpi .sge (BitVec.ofNat 32 (col hh q : Fin 1024)) 512#32)
      (IntOp.subi (BitVec.ofNat 32 (col hh q : Fin 1024)) 512#32) (BitVec.ofNat 32 (col hh q : Fin 1024)) = BitVec.ofNat 32 q.1 := by
    have hc : ((col hh q : Fin 1024) : ℕ) = 512 * hh.1 + q.1 := rfl
    rw [hc]
    rcases (by omega : hh.1 = 0 ∨ hh.1 = 1) with h0 | h1
    · rw [h0]
      have : IntOp.cmpi .sge (BitVec.ofNat 32 (512 * 0 + q.1)) 512#32 = 0#1 :=
        (by decide +kernel : ∀ q : Fin 512, IntOp.cmpi .sge (BitVec.ofNat 32 (512 * 0 + q.1)) 512#32 = 0#1) q
      rw [this]; simp [Scalar.select]
    · rw [h1]
      have : IntOp.cmpi .sge (BitVec.ofNat 32 (512 * 1 + q.1)) 512#32 = 1#1 :=
        (by decide +kernel : ∀ q : Fin 512, IntOp.cmpi .sge (BitVec.ofNat 32 (512 * 1 + q.1)) 512#32 = 1#1) q
      have h2 : IntOp.subi (BitVec.ofNat 32 (512 * 1 + q.1)) 512#32 = BitVec.ofNat 32 q.1 :=
        (by decide +kernel : ∀ q : Fin 512, IntOp.subi (BitVec.ofNat 32 (512 * 1 + q.1)) 512#32 = BitVec.ofNat 32 q.1) q
      rw [this, h2]; simp [Scalar.select]
  rw [e]
  have h3 : IntOp.cmpi .sle (BitVec.ofNat 32 a.1) (BitVec.ofNat 32 q.1) = if a.1 ≤ q.1 then 1#1 else 0#1 := by
    unfold IntOp.cmpi
    simp only [BitVec.sle, ofNat_toInt a.1 (by omega), ofNat_toInt q.1 (by omega), Nat.cast_le]
    by_cases h : a.1 ≤ q.1
    · rw [if_pos h, decide_eq_true h]; rfl
    · rw [if_neg h, decide_eq_false h]; rfl
  rw [h3]
  split_ifs <;> rfl

/-- One head, one block of keys: the kernel's new maximum, sum and accumulator, whatever the scores. -/
theorem head_step (m l : FVec Ideal S1x1024 .f32) (acc : FVec Ideal S128x1024 .f32) (s : FVec Ideal S512x1024 .f32)
    (v : FVec Ideal S1x1x1x128x512 .bf16) (c : Fin 1024) {Z : ℝ} {W : Fin 128 → ℝ}
    (h : St (m (ix2 0 c)) (l (ix2 0 c)) (fun d : Fin 128 => acc (ix2 d c)) Z W)
    (e : Fin 512 → ℝ) (vr : Fin 128 → Fin 512 → ℝ) (hs : ∀ k, Sc (s (ix2 k c)) (e k))
    (hv : ∀ d k, v (ix5 0 0 0 d k) = (vr d k : EReal)) :
    St (k0_pay17 (F := Ideal) m s (ix2 0 c)) (k0_pay20 (F := Ideal) m l s (ix2 0 c))
      (fun d : Fin 128 => k0_pay74 (F := Ideal) (k0_pay21 (F := Ideal) m s) (k0_pay29 (F := Ideal) m acc s) v (ix2 d c))
      (Z + ∑ k, e k) (fun d => W d + ∑ k, vr d k * e k) :=
  h.step hs hv (by rw [pay17_at, minf]) (by rw [pay20_at, pay18_at]; simp only [pay19_at])
    (fun d => by rw [pay74_at, pay29_at, pay18_at]; simp only [pay21_at, pay19_at])

end Cert.Attn
end
-- ==== Proof.Attn.Body.lean ====
module

public import proofs.«01_k».proof.Proof.Gen.KernelIdeal.Frame
public import Idealize.ShloMosaic.Lib.LoopRemainder
public import Idealize.ShloMosaic.Lib.Pointwise
public import Idealize.ShloMosaic.Lib.Pipeline.ValueKit

@[expose] public section
set_option maxRecDepth 16384
noncomputable section
namespace Cert.Attn
open Idealize.ShloMosaic Cert.KernelIdeal Cert.KernelIdeal.Gen Idealize.SL.Sem

/-! What the attention kernel's loop and body compute, as the stages of one head, four times. -/

/-- Head `h`'s block of 512 keys from row `r`. -/
def kTile (x6 : FVec Ideal S1x2048x512 .bf16) (r cO : ℕ) (hr : r + 512 ≤ 2048) (hc : cO + 128 ≤ 512) : FVec Ideal S1x512x128 .bf16 :=
  fun j => x6 (ix3 0 ⟨r + (j 1).1, by have := (j 1).2; change (j 1).1 < 512 at this; omega⟩
    ⟨cO + (j 2).1, by have := (j 2).2; change (j 2).1 < 128 at this; omega⟩)

/-- Head `h`'s block `b` of values. -/
def vTile (x7 : FVec Ideal S1x4x4x128x512 .bf16) (h b : ℕ) (hh : h < 4) (hb : b < 4) : FVec Ideal S1x1x1x128x512 .bf16 :=
  fun j => x7 (ix5 0 ⟨h, hh⟩ ⟨b, hb⟩ (j 3) (j 4))

/-- Head `h`'s block of queries. -/
def qTile (x5 : FVec Ideal S1x4x1x128x512 .bf16) (h : ℕ) (hh : h < 4) : FVec Ideal S1x1x1x128x512 .bf16 :=
  fun j => x5 (ix5 0 ⟨h, hh⟩ 0 (j 3) (j 4))

theorem ld_k (x6 : FVec Ideal S1x2048x512 .bf16) (off : Fin 3 → ℕ) (inb) (r cO : ℕ) (h0 : off 0 = 0) (h1 : off 1 = r) (h2 : off 2 = cO)
    (hr : r + 512 ≤ 2048) (hc : cO + 128 ≤ 512) :
    (View.ld (Val := Elt Ideal) (S := S1x2048x512) (e' := .bf16) x6 (Rect.unit (s := S1x2048x512) off ![1, 512, 128] inb)) = kTile x6 r cO hr hc := by
  funext j
  refine View.ld_unit_apply_of (Val := Elt Ideal) (S := S1x2048x512) (e := .bf16) x6 off ![1, 512, 128] inb j _ fun a => ?_
  have hz : ((j 0 : Fin 1) : ℕ) = 0 := Nat.lt_one_iff.mp (j 0 : Fin 1).2
  match a with
  | ⟨0, _⟩ => show 0 = off 0 + (j 0 : Fin 1).1; omega
  | ⟨1, _⟩ => show r + (j 1 : Fin 512).1 = off 1 + (j 1 : Fin 512).1; omega
  | ⟨2, _⟩ => show cO + (j 2 : Fin 128).1 = off 2 + (j 2 : Fin 128).1; omega

theorem ld_v (x7 : FVec Ideal S1x4x4x128x512 .bf16) (off : Fin 5 → ℕ) (inb) (h b : ℕ) (h0 : off 0 = 0) (h1 : off 1 = h) (h2 : off 2 = b)
    (h3 : off 3 = 0) (h4 : off 4 = 0) (hh : h < 4) (hb : b < 4) :
    (View.ld (Val := Elt Ideal) (S := S1x4x4x128x512) (e' := .bf16) x7 (Rect.unit (s := S1x4x4x128x512) off ![1, 1, 1, 128, 512] inb)) = vTile x7 h b hh hb := by
  funext j
  refine View.ld_unit_apply_of (Val := Elt Ideal) (S := S1x4x4x128x512) (e := .bf16) x7 off ![1, 1, 1, 128, 512] inb j _ fun a => ?_
  have hz : ((j 0 : Fin 1) : ℕ) = 0 := Nat.lt_one_iff.mp (j 0 : Fin 1).2
  have hz1 : ((j 1 : Fin 1) : ℕ) = 0 := Nat.lt_one_iff.mp (j 1 : Fin 1).2
  have hz2 : ((j 2 : Fin 1) : ℕ) = 0 := Nat.lt_one_iff.mp (j 2 : Fin 1).2
  match a with
  | ⟨0, _⟩ => show 0 = off 0 + (j 0 : Fin 1).1; omega
  | ⟨1, _⟩ => show h = off 1 + (j 1 : Fin 1).1; omega
  | ⟨2, _⟩ => show b = off 2 + (j 2 : Fin 1).1; omega
  | ⟨3, _⟩ => show (j 3 : Fin 128).1 = off 3 + (j 3 : Fin 128).1; omega
  | ⟨4, _⟩ => show (j 4 : Fin 512).1 = off 4 + (j 4 : Fin 512).1; omega

theorem ld_q (x5 : FVec Ideal S1x4x1x128x512 .bf16) (off : Fin 5 → ℕ) (inb) (h : ℕ) (h0 : off 0 = 0) (h1 : off 1 = h) (h2 : off 2 = 0)
    (h3 : off 3 = 0) (h4 : off 4 = 0) (hh : h < 4) :
    (View.ld (Val := Elt Ideal) (S := S1x4x1x128x512) (e' := .bf16) x5 (Rect.unit (s := S1x4x1x128x512) off ![1, 1, 1, 128, 512] inb)) = qTile x5 h hh := by
  funext j
  refine View.ld_unit_apply_of (Val := Elt Ideal) (S := S1x4x1x128x512) (e := .bf16) x5 off ![1, 1, 1, 128, 512] inb j _ fun a => ?_
  have hz : ((j 0 : Fin 1) : ℕ) = 0 := Nat.lt_one_iff.mp (j 0 : Fin 1).2
  have hz1 : ((j 1 : Fin 1) : ℕ) = 0 := Nat.lt_one_iff.mp (j 1 : Fin 1).2
  have hz2 : ((j 2 : Fin 1) : ℕ) = 0 := Nat.lt_one_iff.mp (j 2 : Fin 1).2
  match a with
  | ⟨0, _⟩ => show 0 = off 0 + (j 0 : Fin 1).1; omega
  | ⟨1, _⟩ => show h = off 1 + (j 1 : Fin 1).1; omega
  | ⟨2, _⟩ => show 0 = off 2 + (j 2 : Fin 1).1; omega
  | ⟨3, _⟩ => show (j 3 : Fin 128).1 = off 3 + (j 3 : Fin 128).1; omega
  | ⟨4, _⟩ => show (j 4 : Fin 512).1 = off 4 + (j 4 : Fin 512).1; omega

theorem row_of_trip : ∀ k : Fin 4, BitVec.toNat (Scalar.indexCast (Scalar.muli (Scf.iv 0#32 1#32 k.1) 512#32)) = 512 * k.1 := by
  decide +kernel
theorem blk_of_trip : ∀ k : Fin 4, BitVec.toNat (Scalar.indexCast (Scf.iv 0#32 1#32 k.1)) = k.1 := by
  decide +kernel
theorem row_of_point : ∀ k : Fin 4, BitVec.toNat (Scalar.indexCast (Scalar.muli (BitVec.ofNat 32 k.1) 512#32)) = 512 * k.1 := by
  decide +kernel
theorem blk_of_point : ∀ k : Fin 4, BitVec.toNat (Scalar.indexCast (BitVec.ofNat 32 k.1)) = k.1 := by
  decide +kernel

theorem trips_of_point : ∀ q : Fin 4, Scf.trips (0#32) (Scalar.addi (0#32) (Scalar.muli (Scalar.divsi (Scalar.subi (BitVec.ofNat 32 q.1) 0#32) 1#32) 1#32)) 1#32 = q.1 := by
  decide +kernel

/-- The state of one head: maximum, sum, accumulator. -/
structure Head where
  m : FVec Ideal S1x1024 .f32
  l : FVec Ideal S1x1024 .f32
  a : FVec Ideal S128x1024 .f32

/-- One head takes a block of scores and its values. -/
def Head.next (H : Head) (s : FVec Ideal S512x1024 .f32) (v : FVec Ideal S1x1x1x128x512 .bf16) : Head :=
  ⟨k0_pay17 (F := Ideal) H.m s, k0_pay20 (F := Ideal) H.m H.l s,
    k0_pay74 (F := Ideal) (k0_pay21 (F := Ideal) H.m s) (k0_pay29 (F := Ideal) H.m H.a s) v⟩

abbrev St12 : Type := FVec Ideal S1x1024 .f32 × FVec Ideal S1x1024 .f32 × FVec Ideal S128x1024 .f32 × FVec Ideal S1x1024 .f32 × FVec Ideal S1x1024 .f32 × FVec Ideal S128x1024 .f32 × FVec Ideal S1x1024 .f32 × FVec Ideal S1x1024 .f32 × FVec Ideal S128x1024 .f32 × FVec Ideal S1x1024 .f32 × FVec Ideal S1x1024 .f32 × FVec Ideal S128x1024 .f32

/-- The four heads' states as the loop carries them. -/
def pack (H : Fin 4 → Head) : St12 :=
  ((H 0).m, (H 0).l, (H 0).a, (H 1).m, (H 1).l, (H 1).a, (H 2).m, (H 2).l, (H 2).a, (H 3).m, (H 3).l, (H 3).a)

/-- The scores of a block of keys under a head's packed queries. -/
def scores (q : FVec Ideal S1x1x1x128x512 .bf16) (k : FVec Ideal S1x512x128 .bf16) : FVec Ideal S512x1024 .f32 :=
  k0_pay2 (F := Ideal) (k0_pay58 (F := Ideal) q) k

/-- Every head takes its block of keys and values. -/
def advance (H : Fin 4 → Head) (q : Fin 4 → FVec Ideal S1x1x1x128x512 .bf16) (K : Fin 4 → FVec Ideal S1x512x128 .bf16)
    (V : Fin 4 → FVec Ideal S1x1x1x128x512 .bf16) : Fin 4 → Head :=
  fun h => (H h).next (scores (q h) (K h)) (V h)

/-- A load of 512 keys and one head's 128 features. -/
abbrev ldK (x6 : FVec Ideal S1x2048x512 .bf16) (off : Fin 3 → ℕ) (inb : ∀ a, off a + S1x512x128.size a ≤ S1x2048x512.size a) : FVec Ideal S1x512x128 .bf16 :=
  View.ld (Val := Elt Ideal) (S := S1x2048x512) (e' := .bf16) x6 (Rect.unit (s := S1x2048x512) off ![1, 512, 128] inb)
/-- A load of one head's block of values. -/
abbrev ldV (x7 : FVec Ideal S1x4x4x128x512 .bf16) (off : Fin 5 → ℕ) (inb : ∀ a, off a + S1x1x1x128x512.size a ≤ S1x4x4x128x512.size a) : FVec Ideal S1x1x1x128x512 .bf16 :=
  View.ld (Val := Elt Ideal) (S := S1x4x4x128x512) (e' := .bf16) x7 (Rect.unit (s := S1x4x4x128x512) off ![1, 1, 1, 128, 512] inb)

/-- One trip of the loop is one step of each head. -/
theorem trip_eq (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x4x1x128x512 .bf16) (harg7 : arg7.IsWhole) (arg8 : Memref sig .tc .vmem S1x2048x512 .bf16) (harg8 : arg8.IsWhole) (arg9 : Memref sig .tc .vmem S1x4x4x128x512 .bf16) (harg9 : arg9.IsWhole) (arg10 : Memref sig .tc .vmem S1x512x512 .bf16) (harg10 : arg10.IsWhole) (arg1 : BitVec 32)
    (q : Fin 4 → FVec Ideal S1x1x1x128x512 .bf16) (x6 : Vec Ideal S1x2048x512 .bf16) (x7 : Vec Ideal S1x4x4x128x512 .bf16)
    (k : Fin (k0_t1_loop i).trips) (hk : k.1 < 4) (H : Fin 4 → Head) :
    tripR_k0_t1 (F := Ideal) 𝒱 c bd i arg2 harg2 arg3 harg3 arg4 harg4 arg5 harg5 arg6 harg6 arg7 harg7 arg8 harg8 arg9 harg9 arg10 harg10 arg1
      (k0_pay58 (F := Ideal) (q 0)) (k0_pay59 (F := Ideal) (q 1)) (k0_pay60 (F := Ideal) (q 2)) (q 3) (harg8.unread x6) (harg9.unread x7) k (pack H)
      = pack (fun h => (H h).next (scores (q h) (kTile x6 (512 * k.1) (128 * h.1) (by omega) (by omega))) (vTile x7 h.1 k.1 h.2 hk)) := by
  unfold tripR_k0_t1 trip_k0_t1; dsimp only
  sl_unfold_words
  simp only [View.readAt_eq_ld, harg8.read_unread, harg9.read_unread]
  have hr := row_of_trip ⟨k.1, hk⟩
  have hb := blk_of_trip ⟨k.1, hk⟩
  dsimp only at hr hb
  refine Eq.trans (b := pack (advance H q
    ![ldK x6 (k0_off1 i k) (k0_off1_inb i k), ldK x6 (k0_off2 i k) (k0_off2_inb i k), ldK x6 (k0_off3 i k) (k0_off3_inb i k), ldK x6 (k0_off4 i k) (k0_off4_inb i k)]
    ![ldV x7 (k0_off5 i k) (k0_off5_inb i k), ldV x7 (k0_off6 i k) (k0_off6_inb i k), ldV x7 (k0_off7 i k) (k0_off7_inb i k), ldV x7 (k0_off8 i k) (k0_off8_inb i k)])) rfl ?_
  refine congrArg pack (congrArg₂ (advance H q) (funext fun h => ?_) (funext fun h => ?_))
  · match h with
    | 0 => exact ld_k x6 _ _ _ _ rfl hr rfl _ _
    | 1 => exact ld_k x6 _ _ _ _ rfl hr rfl _ _
    | 2 => exact ld_k x6 _ _ _ _ rfl hr rfl _ _
    | 3 => exact ld_k x6 _ _ _ _ rfl hr rfl _ _
  · match h with
    | 0 => exact ld_v x7 _ _ _ _ rfl rfl hb rfl rfl _ _
    | 1 => exact ld_v x7 _ _ _ _ rfl rfl hb rfl rfl _ _
    | 2 => exact ld_v x7 _ _ _ _ rfl rfl hb rfl rfl _ _
    | 3 => exact ld_v x7 _ _ _ _ rfl rfl hb rfl rfl _ _

/-- The diagonal block's step: the scores masked first. -/
def Head.last (H : Head) (s : FVec Ideal S512x1024 .f32) (v : FVec Ideal S1x1x1x128x512 .bf16) : Head :=
  H.next (k0_pay95 (F := Ideal) s) v

/-- What a head's final state gives the output: the difference of the two halves' means, normed and scaled. -/
def Head.out (H : Head) (lam : FVec Ideal S1x1 .f32) (g : FVec Ideal S1x128 .f32) : FVec Ideal S1x512x128 .bf16 :=
  k0_pay118 (F := Ideal) H.l H.a lam g

/-- The body's four stores. -/
def stores (L : Fin 4 → FVec Ideal S1x512x128 .bf16) : List (View.Piece (Elt Ideal) S1x512x512 .bf16) :=
  [⟨Rect.unit ![0, 0, 384] ![1, 512, 128] inb_S1x512x512_S1x512x128_0_0_384, L 3⟩, ⟨Rect.unit ![0, 0, 256] ![1, 512, 128] inb_S1x512x512_S1x512x128_0_0_256, L 2⟩,
   ⟨Rect.unit ![0, 0, 128] ![1, 512, 128] inb_S1x512x512_S1x512x128_0_0_128, L 1⟩, ⟨Rect.unit ![0, 0, 0] ![1, 512, 128] inb_S1x512x512_S1x512x128_0_0_0, L 0⟩]

/-- Every head takes its diagonal block and gives its output. -/
def finish (H : Fin 4 → Head) (q : Fin 4 → FVec Ideal S1x1x1x128x512 .bf16) (K : Fin 4 → FVec Ideal S1x512x128 .bf16)
    (V : Fin 4 → FVec Ideal S1x1x1x128x512 .bf16) (lam : FVec Ideal S1x1 .f32) (g : FVec Ideal S1x128 .f32) : Fin 4 → FVec Ideal S1x512x128 .bf16 :=
  fun h => ((H h).last (scores (q h) (K h)) (V h)).out lam g

theorem run_eq (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x4x1x128x512 .bf16) (harg7 : arg7.IsWhole) (arg8 : Memref sig .tc .vmem S1x2048x512 .bf16) (harg8 : arg8.IsWhole) (arg9 : Memref sig .tc .vmem S1x4x4x128x512 .bf16) (harg9 : arg9.IsWhole) (arg10 : Memref sig .tc .vmem S1x512x512 .bf16) (harg10 : arg10.IsWhole)
    (x0 x1 x2 x3 : Vec Ideal S1x64 .f32) (x4 : Vec Ideal S1x128 .f32) (x5 : Vec Ideal S1x4x1x128x512 .bf16) (x6 : Vec Ideal S1x2048x512 .bf16) (x7 : Vec Ideal S1x4x4x128x512 .bf16)
    (b : Fin 4) (hb : (i 1).1 = b.1) (H : Fin 4 → Head)
    (hH : st_k0_t1 (F := Ideal) Variants.none c none i arg2 harg2 arg3 harg3 arg4 harg4 arg5 harg5 arg6 harg6 arg7 harg7 arg8 harg8 arg9 harg9 arg10 harg10 (BitVec.ofNat 32 (i 1).1)
      (k0_pay58 (F := Ideal) (qTile x5 0 (by omega))) (k0_pay59 (F := Ideal) (qTile x5 1 (by omega))) (k0_pay60 (F := Ideal) (qTile x5 2 (by omega))) (qTile x5 3 (by omega)) (harg8.unread x6) (harg9.unread x7)
      (k0_pay62 (F := Ideal), k0_pay63 (F := Ideal), k0_pay64 (F := Ideal), k0_pay65 (F := Ideal), k0_pay66 (F := Ideal), k0_pay67 (F := Ideal), k0_pay68 (F := Ideal), k0_pay69 (F := Ideal), k0_pay70 (F := Ideal), k0_pay71 (F := Ideal), k0_pay72 (F := Ideal), k0_pay73 (F := Ideal)) b.1 = pack H) :
    (kernelRun0_A c i arg2 harg2 arg3 harg3 arg4 harg4 arg5 harg5 arg6 harg6 arg7 harg7 arg8 harg8 arg9 harg9 arg10 harg10 x0 x1 x2 x3 x4 x5 x6 x7).1
      = stores (finish H (fun h => qTile x5 h.1 h.2) (fun h => kTile x6 (512 * b.1) (128 * h.1) (by omega) (by omega)) (fun h => vTile x7 h.1 b.1 h.2 b.2)
          (k0_pay114 (F := Ideal) x0 x1 x2 x3) x4) := by
  unfold kernelRun0_A; dsimp only
  sl_unfold_words
  simp only [View.readAt_eq_ld, harg2.read_unread, harg3.read_unread, harg4.read_unread, harg5.read_unread, harg6.read_unread, harg7.read_unread, harg8.read_unread, harg9.read_unread]
  simp only [Scf.rem_trips, st_k0_t2_zero]
  have g0 := fun inb => ld_q x5 ![0, 0, 0, 0, 0] inb 0 rfl rfl rfl rfl rfl (by omega)
  have g1 := fun inb => ld_q x5 ![0, 1, 0, 0, 0] inb 1 rfl rfl rfl rfl rfl (by omega)
  have g2 := fun inb => ld_q x5 ![0, 2, 0, 0, 0] inb 2 rfl rfl rfl rfl rfl (by omega)
  have g3 := fun inb => ld_q x5 ![0, 3, 0, 0, 0] inb 3 rfl rfl rfl rfl rfl (by omega)
  have ht : Scf.trips (0#32) (Scalar.addi (0#32) (Scalar.muli (Scalar.divsi (Scalar.subi (BitVec.ofNat 32 (i 1).1) 0#32) 1#32) 1#32)) 1#32 = b.1 := by
    rw [hb]; exact trips_of_point b
  simp only [g0, g1, g2, g3, ht, hH]
  have hr := row_of_point b
  have hv := blk_of_point b
  rw [← hb] at hr hv
  have z0 : (View.ld x0 (Rect.unit (s := S1x64) ![0, 0] ![1, 64] inb_S1x64_S1x64_0_0)) = x0 := View.ld_unit_zero (by decide) _ _
  have z1 : (View.ld x1 (Rect.unit (s := S1x64) ![0, 0] ![1, 64] inb_S1x64_S1x64_0_0)) = x1 := View.ld_unit_zero (by decide) _ _
  have z2 : (View.ld x2 (Rect.unit (s := S1x64) ![0, 0] ![1, 64] inb_S1x64_S1x64_0_0)) = x2 := View.ld_unit_zero (by decide) _ _
  have z3 : (View.ld x3 (Rect.unit (s := S1x64) ![0, 0] ![1, 64] inb_S1x64_S1x64_0_0)) = x3 := View.ld_unit_zero (by decide) _ _
  have z4 : (View.ld x4 (Rect.unit (s := S1x128) ![0, 0] ![1, 128] inb_S1x128_S1x128_0_0)) = x4 := View.ld_unit_zero (by decide) _ _
  refine Eq.trans (b := stores (finish H (fun h => qTile x5 h.1 h.2)
    ![ldK x6 (k0_off17 i) (k0_off17_inb i), ldK x6 (k0_off18 i) (k0_off18_inb i), ldK x6 (k0_off19 i) (k0_off19_inb i), ldK x6 (k0_off20 i) (k0_off20_inb i)]
    ![ldV x7 (k0_off21 i) (k0_off21_inb i), ldV x7 (k0_off22 i) (k0_off22_inb i), ldV x7 (k0_off23 i) (k0_off23_inb i), ldV x7 (k0_off24 i) (k0_off24_inb i)]
    (k0_pay114 (F := Ideal) (View.ld x0 (Rect.unit (s := S1x64) ![0, 0] ![1, 64] inb_S1x64_S1x64_0_0)) (View.ld x1 (Rect.unit (s := S1x64) ![0, 0] ![1, 64] inb_S1x64_S1x64_0_0))
      (View.ld x2 (Rect.unit (s := S1x64) ![0, 0] ![1, 64] inb_S1x64_S1x64_0_0)) (View.ld x3 (Rect.unit (s := S1x64) ![0, 0] ![1, 64] inb_S1x64_S1x64_0_0)))
    (View.ld x4 (Rect.unit (s := S1x128) ![0, 0] ![1, 128] inb_S1x128_S1x128_0_0)))) rfl ?_
  rw [z0, z1, z2, z3, z4]
  refine congrArg stores (congrFun (congrFun (congrArg₂ (finish H (fun h => qTile x5 h.1 h.2)) (funext fun h => ?_) (funext fun h => ?_)) _) _)
  · match h with
    | 0 => exact ld_k x6 _ _ _ _ rfl (hr.trans (by rw [hb])) rfl _ _
    | 1 => exact ld_k x6 _ _ _ _ rfl (hr.trans (by rw [hb])) rfl _ _
    | 2 => exact ld_k x6 _ _ _ _ rfl (hr.trans (by rw [hb])) rfl _ _
    | 3 => exact ld_k x6 _ _ _ _ rfl (hr.trans (by rw [hb])) rfl _ _
  · match h with
    | 0 => exact ld_v x7 _ _ _ _ rfl rfl (hv.trans hb) rfl rfl _ _
    | 1 => exact ld_v x7 _ _ _ _ rfl rfl (hv.trans hb) rfl rfl _ _
    | 2 => exact ld_v x7 _ _ _ _ rfl rfl (hv.trans hb) rfl rfl _ _
    | 3 => exact ld_v x7 _ _ _ _ rfl rfl (hv.trans hb) rfl rfl _ _

end Cert.Attn
end
-- ==== Proof.Attn.Loop.lean ====
module

public import proofs.«01_k».proof.Proof.Attn.Steps
public import proofs.«01_k».proof.Proof.Attn.Body

@[expose] public section
set_option maxRecDepth 16384
noncomputable section
namespace Cert.Attn
open Idealize.ShloMosaic Cert.KernelIdeal Cert.KernelIdeal.Gen Idealize.SL.Sem

/-! The attention kernel's loop over blocks of keys, and its diagonal block, on one block of queries. -/

/-- The weight of key `k` for query `q` of block `b`, in half `hh` of head `h`: the exponential of the score, zero for a later key. -/
def E (qr : Fin 4 → Fin 128 → Fin 512 → ℝ) (kr : Fin 2048 → Fin 512 → ℝ) (b : ℕ) (h : Fin 4) (hh : Fin 2) (q : Fin 512) (k : Fin 2048) : ℝ :=
  if k.1 ≤ 512 * b + q.1 then
    Real.exp (∑ d : Fin 64, qr h ⟨64 * hh.1 + d.1, by omega⟩ q * kr k ⟨128 * h.1 + (64 * hh.1 + d.1), by omega⟩)
  else 0

/-- That weight times the key's value. -/
def Wt (qr : Fin 4 → Fin 128 → Fin 512 → ℝ) (kr : Fin 2048 → Fin 512 → ℝ) (vr : Fin 4 → Fin 4 → Fin 128 → Fin 512 → ℝ)
    (b : ℕ) (h : Fin 4) (hh : Fin 2) (q : Fin 512) (d : Fin 128) (k : Fin 2048) : ℝ :=
  vr h ⟨k.1 / 512, by omega⟩ d ⟨k.1 % 512, by omega⟩ * E qr kr b h hh q k

/-- The four heads' states hold the sums over the first `j` blocks of keys. -/
def Good (qr : Fin 4 → Fin 128 → Fin 512 → ℝ) (kr : Fin 2048 → Fin 512 → ℝ) (vr : Fin 4 → Fin 4 → Fin 128 → Fin 512 → ℝ)
    (b j : ℕ) (H : Fin 4 → Head) : Prop :=
  ∀ (h : Fin 4) (hh : Fin 2) (q : Fin 512),
    St ((H h).m (ix2 0 (col hh q))) ((H h).l (ix2 0 (col hh q))) (fun d : Fin 128 => (H h).a (ix2 d (col hh q)))
      (upTo (E qr kr b h hh q) (512 * j)) (fun d => upTo (Wt qr kr vr b h hh q d) (512 * j))

section
variable {qr : Fin 4 → Fin 128 → Fin 512 → ℝ} {kr : Fin 2048 → Fin 512 → ℝ} {vr : Fin 4 → Fin 4 → Fin 128 → Fin 512 → ℝ}
variable {x5 : FVec Ideal S1x4x1x128x512 .bf16} {x6 : FVec Ideal S1x2048x512 .bf16} {x7 : FVec Ideal S1x4x4x128x512 .bf16}
variable (hq : ∀ h x q, x5 (ix5 0 h 0 x q) = (qr h x q : EReal)) (hk : ∀ k x, x6 (ix3 0 k x) = (kr k x : EReal))
variable (hv : ∀ h b d k, x7 (ix5 0 h b d k) = (vr h b d k : EReal))
include hq hk

theorem scores_real (h : Fin 4) (j : ℕ) (hj : j < 4) (a : Fin 512) (hh : Fin 2) (q : Fin 512) (hr hc) :
    scores (qTile x5 h.1 h.2) (kTile x6 (512 * j) (128 * h.1) hr hc) (ix2 a (col hh q))
      = ((∑ d : Fin 64, qr h ⟨64 * hh.1 + d.1, by omega⟩ q
          * kr ⟨512 * j + a.1, by omega⟩ ⟨128 * h.1 + (64 * hh.1 + d.1), by omega⟩ : ℝ) : EReal) :=
  score_at _ _ (fun x c => qr h x c) (fun a x => kr ⟨512 * j + a.1, by omega⟩ ⟨128 * h.1 + x.1, by omega⟩)
    (fun x c => hq h x c) (fun a x => hk _ _) a hh q

include hv

/-- Whatever the scores of a block are, if they stand for the weights, a head takes them in. -/
theorem block_step {b j : ℕ} (hj : j < 4) {H : Head} {h : Fin 4} {hh : Fin 2} {q : Fin 512}
    (g : St (H.m (ix2 0 (col hh q))) (H.l (ix2 0 (col hh q))) (fun d : Fin 128 => H.a (ix2 d (col hh q)))
      (upTo (E qr kr b h hh q) (512 * j)) (fun d => upTo (Wt qr kr vr b h hh q d) (512 * j)))
    (s : FVec Ideal S512x1024 .f32)
    (hs : ∀ a : Fin 512, Sc (s (ix2 a (col hh q))) (E qr kr b h hh q ⟨512 * j + a.1, by omega⟩)) :
    St ((H.next s (vTile x7 h.1 j h.2 hj)).m (ix2 0 (col hh q))) ((H.next s (vTile x7 h.1 j h.2 hj)).l (ix2 0 (col hh q)))
      (fun d : Fin 128 => (H.next s (vTile x7 h.1 j h.2 hj)).a (ix2 d (col hh q)))
      (upTo (E qr kr b h hh q) (512 * (j + 1))) (fun d => upTo (Wt qr kr vr b h hh q d) (512 * (j + 1))) := by
  have h1 := head_step H.m H.l H.a s (vTile x7 h.1 j h.2 hj) (col hh q) g _ (fun d k => vr h ⟨j, hj⟩ d k) hs
    (fun d k => hv h ⟨j, hj⟩ d k)
  have e1 : upTo (E qr kr b h hh q) (512 * (j + 1))
      = upTo (E qr kr b h hh q) (512 * j) + ∑ a : Fin 512, E qr kr b h hh q ⟨512 * j + a.1, by omega⟩ := by
    rw [Nat.mul_succ]
    exact upTo_add _ _ _ _ fun k => (ext_lt _ ⟨512 * j + k.1, by omega⟩).symm
  have e2 : ∀ d, upTo (Wt qr kr vr b h hh q d) (512 * (j + 1))
      = upTo (Wt qr kr vr b h hh q d) (512 * j) + ∑ a : Fin 512, vr h ⟨j, hj⟩ d a * E qr kr b h hh q ⟨512 * j + a.1, by omega⟩ := by
    intro d
    rw [Nat.mul_succ]
    refine upTo_add _ _ _ _ fun k => ?_
    rw [ext_lt _ (⟨512 * j + k.1, by omega⟩ : Fin 2048)]
    unfold Wt
    have a1 : (512 * j + k.1) / 512 = j := by omega
    have a2 : (512 * j + k.1) % 512 = k.1 := by omega
    simp only [a1, a2]
  rw [e1, funext e2]
  exact h1

/-- A block before the diagonal: no key is masked. -/
theorem Good.step {b j : ℕ} (hb : b < 4) (hj : j < b) {H : Fin 4 → Head} (g : Good qr kr vr b j H)
    (hr : 512 * j + 512 ≤ 2048) (hc : ∀ h : Fin 4, 128 * h.1 + 128 ≤ 512) :
    Good qr kr vr b (j + 1) (fun h => (H h).next (scores (qTile x5 h.1 h.2) (kTile x6 (512 * j) (128 * h.1) hr (hc h))) (vTile x7 h.1 j h.2 (by omega))) := by
  intro h hh q
  refine block_step hq hk hv (by omega) (g h hh q) _ fun a => Or.inl ⟨_, scores_real hq hk h j (by omega) a hh q _ _, ?_⟩
  unfold E
  rw [if_pos (by show 512 * j + a.1 ≤ 512 * b + q.1; omega)]

/-- The diagonal block: the keys after the query are masked. -/
theorem Good.last {b : ℕ} (hb : b < 4) {H : Fin 4 → Head} (g : Good qr kr vr b b H)
    (hr : 512 * b + 512 ≤ 2048) (hc : ∀ h : Fin 4, 128 * h.1 + 128 ≤ 512) :
    Good qr kr vr b (b + 1) (fun h => (H h).last (scores (qTile x5 h.1 h.2) (kTile x6 (512 * b) (128 * h.1) hr (hc h))) (vTile x7 h.1 b h.2 hb)) := by
  intro h hh q
  refine block_step hq hk hv hb (g h hh q) _ fun a => ?_
  rw [mask_at]
  unfold E
  by_cases h1 : a.1 ≤ q.1
  · rw [if_pos h1, if_pos (by show 512 * b + a.1 ≤ 512 * b + q.1; omega)]
    exact Or.inl ⟨_, scores_real hq hk h b hb a hh q _ _, rfl⟩
  · rw [if_neg h1, if_neg (by show ¬ 512 * b + a.1 ≤ 512 * b + q.1; omega)]
    exact Or.inr ⟨rfl, rfl⟩

end

/-- The heads before any key. -/
def start : Fin 4 → Head := fun _ => ⟨k0_pay62 (F := Ideal), k0_pay63 (F := Ideal), k0_pay64 (F := Ideal)⟩

theorem pay62_at (c : Fin 1024) : k0_pay62 (F := Ideal) (ix2 0 c) = Ideal.ofBits FTy.f32 4048155338#32 := by pointwise [k0_pay62]
theorem pay63_at (c : Fin 1024) : k0_pay63 (F := Ideal) (ix2 0 c) = (0 : EReal) := by pointwise [k0_pay63]
theorem pay64_at (d : Fin 128) (c : Fin 1024) : k0_pay64 (F := Ideal) (ix2 d c) = (0 : EReal) := by pointwise [k0_pay64]

/-- A pattern whose exponent is not all ones is a real. -/
theorem real_of_ieee (e m : ℕ) {w : ℕ} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

theorem start_real : ∃ μ : ℝ, Ideal.ofBits FTy.f32 4048155338#32 = (μ : EReal) := by
  exact real_of_ieee 8 23 (4048155338#32) (by decide)

theorem Good.zero (qr kr vr) (b : ℕ) : Good qr kr vr b 0 start := by
  intro h hh q
  obtain ⟨μ, hμ⟩ := start_real
  have h1 := St.init (δ := Fin 128) μ
  rw [← hμ] at h1
  show St (k0_pay62 (F := Ideal) (ix2 0 (col hh q))) (k0_pay63 (F := Ideal) (ix2 0 (col hh q))) (fun d : Fin 128 => k0_pay64 (F := Ideal) (ix2 d (col hh q))) _ _
  rw [pay62_at, pay63_at]
  simp only [pay64_at, Nat.mul_zero, upTo_zero]
  exact h1

/-- The loop, trip by trip. -/
theorem loop_good (qr kr vr) {x5 : FVec Ideal S1x4x1x128x512 .bf16} {x6 : FVec Ideal S1x2048x512 .bf16} {x7 : FVec Ideal S1x4x4x128x512 .bf16}
    (hq : ∀ h x q, x5 (ix5 0 h 0 x q) = (qr h x q : EReal)) (hk : ∀ k x, x6 (ix3 0 k x) = (kr k x : EReal))
    (hv : ∀ h b d k, x7 (ix5 0 h b d k) = (vr h b d k : EReal))
    (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x4x1x128x512 .bf16) (harg7 : arg7.IsWhole) (arg8 : Memref sig .tc .vmem S1x2048x512 .bf16) (harg8 : arg8.IsWhole) (arg9 : Memref sig .tc .vmem S1x4x4x128x512 .bf16) (harg9 : arg9.IsWhole) (arg10 : Memref sig .tc .vmem S1x512x512 .bf16) (harg10 : arg10.IsWhole) (arg1 : BitVec 32)
    (b : ℕ) (hb : b < 4) (htr : (k0_t1_loop i).trips = b) (n : ℕ) (hn : n ≤ b) :
    ∃ H : Fin 4 → Head, st_k0_t1 (F := Ideal) 𝒱 c bd i arg2 harg2 arg3 harg3 arg4 harg4 arg5 harg5 arg6 harg6 arg7 harg7 arg8 harg8 arg9 harg9 arg10 harg10 arg1
      (k0_pay58 (F := Ideal) (qTile x5 0 (by omega))) (k0_pay59 (F := Ideal) (qTile x5 1 (by omega))) (k0_pay60 (F := Ideal) (qTile x5 2 (by omega))) (qTile x5 3 (by omega)) (harg8.unread x6) (harg9.unread x7)
      (k0_pay62 (F := Ideal), k0_pay63 (F := Ideal), k0_pay64 (F := Ideal), k0_pay65 (F := Ideal), k0_pay66 (F := Ideal), k0_pay67 (F := Ideal), k0_pay68 (F := Ideal), k0_pay69 (F := Ideal), k0_pay70 (F := Ideal), k0_pay71 (F := Ideal), k0_pay72 (F := Ideal), k0_pay73 (F := Ideal)) n = pack H
      ∧ Good qr kr vr b n H := by
  induction n with
  | zero => exact ⟨start, rfl, Good.zero qr kr vr b⟩
  | succ n ih =>
    obtain ⟨H, hH, g⟩ := ih (by omega)
    refine ⟨_, ?_, Good.step hq hk hv hb (by omega) g (by omega) (fun h => by omega)⟩
    have e := st_k0_t1_succ (F := Ideal) 𝒱 c bd i arg2 harg2 arg3 harg3 arg4 harg4 arg5 harg5 arg6 harg6 arg7 harg7 arg8 harg8 arg9 harg9 arg10 harg10 arg1
      (k0_pay58 (F := Ideal) (qTile x5 0 (by omega))) (k0_pay59 (F := Ideal) (qTile x5 1 (by omega))) (k0_pay60 (F := Ideal) (qTile x5 2 (by omega))) (qTile x5 3 (by omega)) (harg8.unread x6) (harg9.unread x7)
      (k0_pay62 (F := Ideal), k0_pay63 (F := Ideal), k0_pay64 (F := Ideal), k0_pay65 (F := Ideal), k0_pay66 (F := Ideal), k0_pay67 (F := Ideal), k0_pay68 (F := Ideal), k0_pay69 (F := Ideal), k0_pay70 (F := Ideal), k0_pay71 (F := Ideal), k0_pay72 (F := Ideal), k0_pay73 (F := Ideal))
      (⟨n, by omega⟩ : Fin (k0_t1_loop i).trips)
    dsimp only at e
    rw [e, hH]
    exact trip_eq 𝒱 c bd i arg2 harg2 arg3 harg3 arg4 harg4 arg5 harg5 arg6 harg6 arg7 harg7 arg8 harg8 arg9 harg9 arg10 harg10 arg1 (fun h => qTile x5 h.1 h.2) x6 x7 ⟨n, by omega⟩ (by show n < 4; omega) H

end Cert.Attn
end
-- ==== Proof.Attn.Out.lean ====
module

public import proofs.«01_k».proof.Proof.Attn.Spec
public import proofs.«01_k».proof.Proof.Attn.Loop

@[expose] public section
set_option maxRecDepth 16384
noncomputable section
namespace Cert.Attn
open Idealize.ShloMosaic Cert.KernelIdeal Cert.KernelIdeal.Gen Idealize.SL.Sem

/-! One grid point of the attention kernel: what its block of the output is. -/

theorem pick (L : Fin 4 → FVec Ideal S1x512x128 .bf16) (j : Fin 4) (x : S1x512x128.Idx) (y : S1x512x512.Idx) (p1 p2)
    (hj : (y 2).1 / 128 = j.1) (h1 : (y 1).1 = (x 1).1) (h2 : (y 2).1 % 128 = (x 2).1) :
    L j x = L ⟨(y 2).1 / 128, p1⟩ (ix3 0 (y 1) ⟨(y 2).1 % 128, p2⟩) := by
  have e : (⟨(y 2).1 / 128, p1⟩ : Fin 4) = j := Fin.ext hj
  rw [e]
  congr 1
  funext a
  match a with
  | ⟨0, _⟩ => exact Fin.ext (by have : (x 0).1 < 1 := (x 0).2; show (x 0).1 = 0; omega)
  | ⟨1, _⟩ => exact Fin.ext h1.symm
  | ⟨2, _⟩ => exact Fin.ext h2.symm

theorem out_stores (L : Fin 4 → FVec Ideal S1x512x128 .bf16) (y : S1x512x512.Idx) :
    View.canon (Val := Elt Ideal) (s := S1x512x512) (e := .bf16) (stores L) y
      = L ⟨(y 2).1 / 128, by have : (y 2).1 < 512 := (y 2).2; omega⟩ (ix3 0 (y 1) ⟨(y 2).1 % 128, by omega⟩) := by
  unfold stores
  canon_tiles x h
  · exact pick L 3 x y _ _ (by omega) h1 (by omega)
  · exact pick L 2 x y _ _ (by omega) h1 (by omega)
  · exact pick L 1 x y _ _ (by omega) h1 (by omega)
  · exact pick L 0 x y _ _ (by omega) h1 (by omega)

theorem pay118_at (l : FVec Ideal S1x1024 .f32) (acc : FVec Ideal S128x1024 .f32) (lam : FVec Ideal S1x1 .f32) (g : FVec Ideal S1x128 .f32)
    (q : Fin 512) (d : Fin 128) :
    k0_pay118 (F := Ideal) l acc lam g (ix3 0 q d)
      = normed (fun x => Ideal.div (acc (ix2 x (col 0 q))) (l (ix2 0 (col 0 q)))
          - lam (ix2 0 0) * Ideal.div (acc (ix2 x (col 1 q))) (l (ix2 0 (col 1 q)))) g d := by
  have e0 : ∀ h, (⟨q.1, h⟩ : Fin 1024) = col 0 q := fun h => Fin.ext (by show q.1 = 512 * 0 + q.1; omega)
  have e1 : ∀ h, (⟨512 + q.1, h⟩ : Fin 1024) = col 1 q := fun h => Fin.ext (by show 512 + q.1 = 512 * 1 + q.1; omega)
  unfold normed
  rw [← e0 (by omega), ← e1 (by omega)]
  pointwise [k0_pay118]

theorem pay114_at (a b c d : FVec Ideal S1x64 .f32) :
    k0_pay114 (F := Ideal) a b c d (ix2 0 0)
      = Ideal.exp (∑ x : Fin 64, a (ix2 0 x) * b (ix2 0 x)) - Ideal.exp (∑ x : Fin 64, c (ix2 0 x) * d (ix2 0 x)) + Ideal.ofBits FTy.f32 1045220557#32 := by
  pointwise [k0_pay114]

theorem lam_real (a b c d : FVec Ideal S1x64 .f32) (ha : IsReal a) (hb : IsReal b) (hc : IsReal c) (hd : IsReal d) :
    Ideal.exp (∑ x : Fin 64, a (ix2 0 x) * b (ix2 0 x)) - Ideal.exp (∑ x : Fin 64, c (ix2 0 x) * d (ix2 0 x)) + Ideal.ofBits FTy.f32 1045220557#32
      = (lamR a b c d : EReal) := by
  have h1 : ∀ a b : FVec Ideal S1x64 .f32, IsReal a → IsReal b → ∑ x : Fin 64, a (ix2 0 x) * b (ix2 0 x)
      = ((∑ x : Fin 64, (a (ix2 0 x)).toReal * (b (ix2 0 x)).toReal : ℝ) : EReal) := fun a b ha hb =>
    sum_of_coe _ _ _ fun x => by rw [EReal.coe_mul, ← ha, ← hb]
  obtain ⟨r, hr⟩ := real_of_ieee 8 23 (1045220557#32) (by decide)
  have h2 : Ideal.ofBits FTy.f32 1045220557#32 = (r : EReal) := hr
  unfold lamR
  rw [h1 a b ha hb, h1 c d hc hd, h2, Ideal.exp_coe, Ideal.exp_coe, EReal.toReal_coe, EReal.coe_add, EReal.coe_sub]

/-- The block's output, from real queries, keys and values. -/
theorem point_out (qr kr vr) (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x4x1x128x512 .bf16) (harg7 : arg7.IsWhole) (arg8 : Memref sig .tc .vmem S1x2048x512 .bf16) (harg8 : arg8.IsWhole) (arg9 : Memref sig .tc .vmem S1x4x4x128x512 .bf16) (harg9 : arg9.IsWhole) (arg10 : Memref sig .tc .vmem S1x512x512 .bf16) (harg10 : arg10.IsWhole)
    (x0 x1 x2 x3 : Vec Ideal S1x64 .f32) (x4 : Vec Ideal S1x128 .f32) (x5 : Vec Ideal S1x4x1x128x512 .bf16) (x6 : Vec Ideal S1x2048x512 .bf16) (x7 : Vec Ideal S1x4x4x128x512 .bf16)
    (h0 : IsReal x0) (h1 : IsReal x1) (h2 : IsReal x2) (h3 : IsReal x3)
    (hq : ∀ h x q, x5 (ix5 0 h 0 x q) = (qr h x q : EReal)) (hk : ∀ k x, x6 (ix3 0 k x) = (kr k x : EReal))
    (hv : ∀ h b d k, x7 (ix5 0 h b d k) = (vr h b d k : EReal))
    (b : Fin 4) (hb : (i 1).1 = b.1) (y : S1x512x512.Idx) (h : Fin 4) (q : Fin 512) (d : Fin 128)
    (e1 : (y 1).1 = q.1) (e2 : (y 2).1 = 128 * h.1 + d.1) :
    out0_A_8 (F := Ideal) c i arg2 harg2 arg3 harg3 arg4 harg4 arg5 harg5 arg6 harg6 arg7 harg7 arg8 harg8 arg9 harg9 arg10 harg10 x0 x1 x2 x3 x4 x5 x6 x7 y
      = normed (fun d => (((∑ k, Wt qr kr vr b h 0 q d k) / (∑ k, E qr kr b h 0 q k)
          - lamR x0 x1 x2 x3 * ((∑ k, Wt qr kr vr b h 1 q d k) / (∑ k, E qr kr b h 1 q k)) : ℝ) : EReal)) x4 d := by
  have htr : (k0_t1_loop i).trips = b.1 := by
    rw [← trips_of_point b, ← hb]
  obtain ⟨H, hH, g⟩ := loop_good qr kr vr hq hk hv Variants.none c none i arg2 harg2 arg3 harg3 arg4 harg4 arg5 harg5 arg6 harg6 arg7 harg7 arg8 harg8 arg9 harg9 arg10 harg10 (BitVec.ofNat 32 (i 1).1) b.1 b.2 htr b.1 (le_refl _)
  have g' := Good.last hq hk hv b.2 g (by omega) (fun h => by omega)
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7), run_eq c i arg2 harg2 arg3 harg3 arg4 harg4 arg5 harg5 arg6 harg6 arg7 harg7 arg8 harg8 arg9 harg9 arg10 harg10 x0 x1 x2 x3 x4 x5 x6 x7 b hb H hH, out_stores]
  have eh : ∀ p, (⟨(y 2).1 / 128, p⟩ : Fin 4) = h := fun p => Fin.ext (by show (y 2).1 / 128 = h.1; omega)
  have ed : ∀ p, (⟨(y 2).1 % 128, p⟩ : Fin 128) = d := fun p => Fin.ext (by show (y 2).1 % 128 = d.1; omega)
  have eq : (y 1 : Fin 512) = q := Fin.ext e1
  rw [eh, ed]
  show finish _ _ _ _ _ _ h (ix3 0 (y 1 : Fin 512) d) = _
  rw [eq]
  unfold finish Head.out
  rw [pay118_at, pay114_at, lam_real _ _ _ _ h0 h1 h2 h3]
  have zE : ∀ hh : Fin 2, upTo (E qr kr b h hh q) (512 * (b.1 + 1)) = ∑ k, E qr kr b h hh q k := fun hh =>
    upTo_all _ _ (by omega) fun k hk => by unfold E; rw [if_neg (by omega)]
  have zW : ∀ (hh : Fin 2) (d : Fin 128), upTo (Wt qr kr vr b h hh q d) (512 * (b.1 + 1)) = ∑ k, Wt qr kr vr b h hh q d k := fun hh d =>
    upTo_all _ _ (by omega) fun k hk => by unfold Wt E; rw [if_neg (by omega), mul_zero]
  have pos : ∀ hh : Fin 2, 0 < upTo (E qr kr b h hh q) (512 * (b.1 + 1)) := fun hh => by
    rw [zE]
    refine Finset.sum_pos' (fun k _ => by unfold E; split_ifs; exacts [(Real.exp_pos _).le, le_refl _]) ⟨⟨512 * b.1 + q.1, by omega⟩, Finset.mem_univ _, ?_⟩
    unfold E; rw [if_pos (le_refl _)]; exact Real.exp_pos _
  have Q := fun (hh : Fin 2) (d : Fin 128) => (g' h hh q).quot (pos hh) d
  congr 1
  funext x
  rw [Q 0 x, Q 1 x, zE, zE, zW, zW, ← EReal.coe_mul, ← EReal.coe_sub]

section
variable (m : (ℓ : Loc nD τ sig) → Buf (Elt Ideal) ℓ)

theorem coords_val : ∀ t : Fin cfg0.N, (grid0.coords t 0).val = t.val / 4 ∧ (grid0.coords t 1).val = t.val % 4 :=
  (by decide +kernel : ∀ t : Fin grid0.N, _)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![t.val / 4, 0, t.val % 4, 0, 0] ∧ win0_6.index t = ![t.val / 4, 0, 0]
    ∧ win0_7.index t = ![t.val / 4, 0, 0, 0, 0] ∧ win0_8.index t = ![t.val / 4, t.val % 4, 0] :=
  (by decide +kernel : ∀ t : Fin grid0.N, _)

section
variable (c : Dev nD)
abbrev a0 : FVec Ideal S1x64 .f32 := m (c.tc.loc main_arg0)
abbrev a1 : FVec Ideal S1x64 .f32 := m (c.tc.loc main_arg1)
abbrev a2 : FVec Ideal S1x64 .f32 := m (c.tc.loc main_arg2)
abbrev a3 : FVec Ideal S1x64 .f32 := m (c.tc.loc main_arg3)
abbrev a4 : FVec Ideal S1x128 .f32 := m (c.tc.loc main_arg4)
abbrev a5 : FVec Ideal S8x4x4x128x512 .bf16 := m (c.tc.loc main_arg5)
abbrev a6 : FVec Ideal S8x2048x512 .bf16 := m (c.tc.loc main_arg6)
abbrev a7 : FVec Ideal S8x4x4x128x512 .bf16 := m (c.tc.loc main_arg7)
end

theorem in0 (c : Dev nD) (t : Fin cfg0.N) : iblk m c 0 t = a0 m c := by blk_ext! [iblk, V, idx t]
theorem in1 (c : Dev nD) (t : Fin cfg0.N) : iblk m c 1 t = a1 m c := by blk_ext! [iblk, V, idx t]
theorem in2 (c : Dev nD) (t : Fin cfg0.N) : iblk m c 2 t = a2 m c := by blk_ext! [iblk, V, idx t]
theorem in3 (c : Dev nD) (t : Fin cfg0.N) : iblk m c 3 t = a3 m c := by blk_ext! [iblk, V, idx t]
theorem in4 (c : Dev nD) (t : Fin cfg0.N) : iblk m c 4 t = a4 m c := by blk_ext! [iblk, V, idx t]
theorem in5 (c : Dev nD) (t : Fin cfg0.N) (B : Fin 8) (b : Fin 4) (hB : t.val / 4 = B.1) (hb : t.val % 4 = b.1) (h : Fin 4) (x : Fin 128) (q : Fin 512) :
    (iblk m c 5 t : FVec Ideal S1x4x1x128x512 .bf16) (ix5 0 h 0 x q) = a5 m c (ix5 B h b x q) := by
  blk_ext [iblk, V, idx t]
theorem in6 (c : Dev nD) (t : Fin cfg0.N) (B : Fin 8) (hB : t.val / 4 = B.1) (k : Fin 2048) (x : Fin 512) :
    (iblk m c 6 t : FVec Ideal S1x2048x512 .bf16) (ix3 0 k x) = a6 m c (ix3 B k x) := by
  blk_ext [iblk, V, idx t]
theorem in7 (c : Dev nD) (t : Fin cfg0.N) (B : Fin 8) (hB : t.val / 4 = B.1) (h b : Fin 4) (x : Fin 128) (q : Fin 512) :
    (iblk m c 7 t : FVec Ideal S1x4x4x128x512 .bf16) (ix5 0 h b x q) = a7 m c (ix5 B h b x q) := by
  blk_ext [iblk, V, idx t]

theorem E_eq (x5 : FVec Ideal S8x4x4x128x512 .bf16) (x6 : FVec Ideal S8x2048x512 .bf16) (B : Fin 8) (b : Fin 4) (h : Fin 4) (hh : Fin 2) (q : Fin 512) (k : Fin 2048) (p) :
    E (fun h x q => (x5 (ix5 B h b x q)).toReal) (fun k x => (x6 (ix3 B k x)).toReal) b.1 h hh q k = wt x5 x6 B h hh ⟨512 * b.1 + q.1, p⟩ k := by
  have e1 : ∀ p, (⟨(512 * b.1 + q.1) / 512, p⟩ : Fin 4) = b := fun p => Fin.ext (by show (512 * b.1 + q.1) / 512 = b.1; omega)
  have e2 : ∀ p, (⟨(512 * b.1 + q.1) % 512, p⟩ : Fin 512) = q := fun p => Fin.ext (by show (512 * b.1 + q.1) % 512 = q.1; omega)
  unfold E wt
  simp only [e1, e2]

theorem final (c : Dev nD) (h0 : IsReal (a0 m c)) (h1 : IsReal (a1 m c)) (h2 : IsReal (a2 m c)) (h3 : IsReal (a3 m c))
    (h5 : IsReal (a5 m c)) (h6 : IsReal (a6 m c)) (h7 : IsReal (a7 m c)) :
    (dats (F := Ideal) m 0 c).arrAt 8 cfg0.N
      = G (a0 m c) (a1 m c) (a2 m c) (a3 m c) (a4 m c) (a5 m c) (a6 m c) (a7 m c) := by
  refine (dats m 0 c).arrAt_eq_of_covers 8 _ (by decide +kernel) fun t hf y => ?_
  rw [after0_8]; unfold outsAt0
  blk_simp []
  have ht : t.val < 32 := t.2
  obtain ⟨B, hB⟩ : ∃ B : Fin 8, t.val / 4 = B.1 := ⟨⟨t.val / 4, by omega⟩, rfl⟩
  obtain ⟨b, hb⟩ : ∃ b : Fin 4, t.val % 4 = b.1 := ⟨⟨t.val % 4, by omega⟩, rfl⟩
  have y1 : (y 1).1 < 512 := (y 1).2
  have y2 : (y 2).1 < 512 := (y 2).2
  have he : ∀ X : FVec Ideal S8x2048x512 .bf16, X ((win0_8.blk t).view.emb y) = X (ix3 B ⟨512 * b.1 + (y 1).1, by omega⟩ ⟨(y 2).1, y2⟩) := fun X => by
    blk_ext [idx t]
  refine Eq.trans ?_ (he _).symm
  refine (point_out (fun h x q => (a5 m c (ix5 B h b x q)).toReal) (fun k x => (a6 m c (ix3 B k x)).toReal) (fun h b x q => (a7 m c (ix5 B h b x q)).toReal)
    c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    (by rw [in0]; exact h0) (by rw [in1]; exact h1) (by rw [in2]; exact h2) (by rw [in3]; exact h3)
    (fun h x q => (in5 m c t B b hB hb h x q).trans (h5 _)) (fun k x => (in6 m c t B hB k x).trans (h6 _)) (fun h b x q => (in7 m c t B hB h b x q).trans (h7 _))
    b ((coords_val t).2.trans hb) y ⟨(y 2).1 / 128, by omega⟩ ⟨(y 1).1, y1⟩ ⟨(y 2).1 % 128, by omega⟩ rfl (by show (y 2).1 = 128 * ((y 2).1 / 128) + (y 2).1 % 128; omega)).trans ?_
  rw [in0, in1, in2, in3, in4]
  unfold G attn mean Wt
  simp only [E_eq (a5 m c) (a6 m c) B b _ _ ⟨(y 1).1, y1⟩ _ (show 512 * b.1 + (y 1).1 < 2048 by omega)]
  rfl
end

end Cert.Attn
end
-- ==== Proof.Attn.Ref.lean ====
module

public import proofs.«01_k».proof.Proof.Gen.ReferenceIdeal.Read
public import proofs.«01_k».proof.Proof.Attn.Spec
public import Idealize.ShloMosaic.Lib.Pointwise

@[expose] public section
set_option maxRecDepth 16384
noncomputable section
namespace Cert.Attn
open Idealize.ShloMosaic Cert.ReferenceIdeal Cert.ReferenceIdeal.Read Idealize.SL.Sem

/-! The reference, read at an index. -/

variable (x0 x1 x2 x3 : FVec Ideal S1x64 .f32) (g : FVec Ideal S1x128 .f32) (x5 : FVec Ideal S8x4x4x128x512 .bf16)
    (x6 : FVec Ideal S8x2048x512 .bf16) (x7 : FVec Ideal S8x4x4x128x512 .bf16)

theorem r2 (B : Fin 8) (h : Fin 4) (hh : Fin 2) (t : Fin 2048) (d : Fin 64) :
    val_main_v2 (F := Ideal) x5 (ix5 B t h hh d) = x5 (ix5 B h ⟨t.1 / 512, by omega⟩ ⟨64 * hh.1 + d.1, by omega⟩ ⟨t.1 % 512, by omega⟩) := by
  have e : (⟨64 * hh.1 + d.1, by omega⟩ : Fin 128) = ⟨hh.1 * 64 + d.1, by omega⟩ := Fin.ext (by show 64 * hh.1 + d.1 = hh.1 * 64 + d.1; omega)
  rw [e]
  pointwise [val_main_v2, val_main_v1, val_main_v0]

theorem r4 (B : Fin 8) (h : Fin 4) (hh : Fin 2) (t : Fin 2048) (d : Fin 64) :
    val_main_v4 (F := Ideal) x6 (ix5 B t h hh d) = x6 (ix3 B t ⟨128 * h.1 + (64 * hh.1 + d.1), by omega⟩) := by
  have e : (⟨128 * h.1 + (64 * hh.1 + d.1), by omega⟩ : Fin 512) = ⟨h.1 * 128 + hh.1 * 64 + d.1, by omega⟩ := Fin.ext (by show 128 * h.1 + (64 * hh.1 + d.1) = h.1 * 128 + hh.1 * 64 + d.1; omega)
  rw [e]
  pointwise [val_main_v4, val_main_v3]

theorem r7 (B : Fin 8) (h : Fin 4) (t : Fin 2048) (d : Fin 128) :
    val_main_v7 (F := Ideal) x7 (ix4 B t h d) = x7 (ix5 B h ⟨t.1 / 512, by omega⟩ d ⟨t.1 % 512, by omega⟩) := by
  pointwise [val_main_v7, val_main_v6, val_main_v5]

theorem bot_bits : Ideal.ofBits FTy.f32 4286578688#32 = ⊥ := by
  simp [Ideal.ofBits, Ideal.ieee]

/-- A score, masked. -/
def msc (B : Fin 8) (h : Fin 4) (hh : Fin 2) (t k : Fin 2048) : EReal := val_main_v23 (F := Ideal) x5 x6 (ix5 B h hh t k)

theorem r23 (B : Fin 8) (h : Fin 4) (hh : Fin 2) (t k : Fin 2048) :
    val_main_v23 (F := Ideal) x5 x6 (ix5 B h hh t k) = Scalar.select (IntOp.cmpi .sle (BitVec.ofNat 32 k) (BitVec.ofNat 32 t))
      (∑ x : Fin 64, val_main_v2 (F := Ideal) x5 (ix5 B t h hh x) * val_main_v4 (F := Ideal) x6 (ix5 B k h hh x)) (Ideal.ofBits FTy.f32 4286578688#32) := by
  pointwise [val_main_v23, val_main_call0_v1, val_main_call0_v2, val_main_call0_v0, val_main_v22, val_main_v21, val_main_v20, val_main_v19, val_main_v18, val_main_v17, val_main_v16, val_main_cst_2]
  rfl

theorem sle_at (k t : Fin 2048) : IntOp.cmpi .sle (BitVec.ofNat 32 k) (BitVec.ofNat 32 t) = if k.1 ≤ t.1 then 1#1 else 0#1 := by
  have h : ∀ n : Fin 2048, (BitVec.ofNat 32 n.1).toInt = n.1 := fun n => by
    rw [BitVec.toInt_eq_toNat_of_lt (by rw [BitVec.toNat_ofNat, Nat.mod_eq_of_lt (by omega)]; omega), BitVec.toNat_ofNat,
      Nat.mod_eq_of_lt (by omega)]
  unfold IntOp.cmpi
  simp only [BitVec.sle, h k, h t, Nat.cast_le]
  by_cases h : k.1 ≤ t.1
  · rw [if_pos h, decide_eq_true h]; rfl
  · rw [if_neg h, decide_eq_false h]; rfl

variable {x5 x6 x7}

theorem msc_sc (h5 : IsReal x5) (h6 : IsReal x6) (B : Fin 8) (h : Fin 4) (hh : Fin 2) (t k : Fin 2048) :
    Sc (val_main_v23 (F := Ideal) x5 x6 (ix5 B h hh t k)) (wt x5 x6 B h hh t k) := by
  rw [r23, sle_at, bot_bits]
  unfold wt
  by_cases hk : k.1 ≤ t.1
  · rw [if_pos hk, if_pos hk]
    refine Or.inl ⟨_, ?_, rfl⟩
    refine (if_pos rfl).trans (sum_of_coe _ _ _ fun x => by
    rw [r2, r4, EReal.coe_mul, ← h5, ← h6])
  · rw [if_neg hk, if_neg hk]
    exact Or.inr ⟨rfl, rfl⟩

theorem r26 (B : Fin 8) (h : Fin 4) (hh : Fin 2) (t : Fin 2048) :
    val_main_v26 (F := Ideal) x5 x6 (ix4 B h hh t) = Finset.fold max ⊥ (fun k => val_main_v23 (F := Ideal) x5 x6 (ix5 B h hh t k)) Finset.univ := by
  have e : val_main_v24 (F := Ideal) x5 x6 (ix4 B h hh t) = Finset.fold max (val_main_cst_3 (F := Ideal) (Shape.Idx.first Gen.h_S_))
      (fun k => val_main_v23 (F := Ideal) x5 x6 (ix5 B h hh t k)) Finset.univ := by
    pointwise [val_main_v24]
  have e3 : val_main_cst_3 (F := Ideal) (Shape.Idx.first Gen.h_S_) = ⊥ := (val_main_cst_3_apply _).trans bot_bits
  have e4 : ∀ i, val_main_v25 (F := Ideal) i = ⊥ := fun i => (val_main_v25_apply i).trans ((val_main_cst_4_apply _).trans bot_bits)
  rw [val_main_v26_apply, e4, e, e3]
  exact max_eq_right bot_le

theorem r30 (B : Fin 8) (h : Fin 4) (hh : Fin 2) (t k : Fin 2048) :
    val_main_v30 (F := Ideal) x5 x6 (ix5 B h hh t k) = Ideal.exp (val_main_v23 (F := Ideal) x5 x6 (ix5 B h hh t k) - val_main_v26 (F := Ideal) x5 x6 (ix4 B h hh t)) := by
  pointwise [val_main_v30, val_main_v29, val_main_v28, val_main_v27]

theorem r34 (B : Fin 8) (h : Fin 4) (hh : Fin 2) (t k : Fin 2048) :
    val_main_v34 (F := Ideal) x5 x6 (ix5 B h hh t k) = Ideal.div (val_main_v30 (F := Ideal) x5 x6 (ix5 B h hh t k))
      (Ideal.ofBits FTy.f32 0#32 + ∑ k : Fin 2048, val_main_v30 (F := Ideal) x5 x6 (ix5 B h hh t k)) := by
  pointwise [val_main_v34, val_main_v33, val_main_v32, val_main_v31, val_main_cst_5]

theorem soft_at (h5 : IsReal x5) (h6 : IsReal x6) (B : Fin 8) (h : Fin 4) (hh : Fin 2) (t k : Fin 2048) :
    val_main_v34 (F := Ideal) x5 x6 (ix5 B h hh t k) = ((wt x5 x6 B h hh t k / ∑ j, wt x5 x6 B h hh t j : ℝ) : EReal) := by
  rw [r34, Ideal.ofBits_zero_f32, zero_add]
  simp only [r30]
  exact soft (fun k => msc_sc h5 h6 B h hh t k) t (diag_pos x5 x6 B h hh t) (r26 B h hh t) k

theorem r15 : val_main_v15 (F := Ideal) x0 x1 x2 x3 ix0 =
    Ideal.exp (∑ x : Fin 64, x0 (ix2 0 x) * x1 (ix2 0 x)) - Ideal.exp (∑ x : Fin 64, x2 (ix2 0 x) * x3 (ix2 0 x)) + Ideal.ofBits FTy.f32 1045220557#32 := by
  pointwise [val_main_v15, val_main_v14, val_main_v13, val_main_v12, val_main_v11, val_main_v10, val_main_v9, val_main_v8, val_main_cst, val_main_cst_0, val_main_cst_1]
  simp

theorem r35 (B : Fin 8) (h : Fin 4) (t k : Fin 2048) :
    val_main_v35 (F := Ideal) x5 x6 (ix5 B h 0 t k) = val_main_v34 (F := Ideal) x5 x6 (ix5 B h 0 t k) := by
  rw [val_main_v35_apply]
  congr 1
  funext a
  match a with
  | ⟨0, _⟩ => rfl
  | ⟨1, _⟩ => rfl
  | ⟨2, _⟩ => rfl
  | ⟨3, _⟩ => rfl
  | ⟨4, _⟩ => rfl

theorem r37 (B : Fin 8) (h : Fin 4) (t k : Fin 2048) :
    val_main_v37 (F := Ideal) x5 x6 (ix5 B h 0 t k) = val_main_v34 (F := Ideal) x5 x6 (ix5 B h 1 t k) := by
  rw [val_main_v37_apply]
  congr 1
  funext a
  match a with
  | ⟨0, _⟩ => rfl
  | ⟨1, _⟩ => rfl
  | ⟨2, _⟩ => rfl
  | ⟨3, _⟩ => rfl
  | ⟨4, _⟩ => rfl

theorem r36 (B : Fin 8) (h : Fin 4) (t k : Fin 2048) :
    val_main_v36 (F := Ideal) x5 x6 (ix4 B h t k) = val_main_v35 (F := Ideal) x5 x6 (ix5 B h 0 t k) := by
  pointwise [val_main_v36]

theorem r38 (B : Fin 8) (h : Fin 4) (t k : Fin 2048) :
    val_main_v38 (F := Ideal) x5 x6 (ix4 B h t k) = val_main_v37 (F := Ideal) x5 x6 (ix5 B h 0 t k) := by
  pointwise [val_main_v38]

theorem r41 (B : Fin 8) (h : Fin 4) (t k : Fin 2048) :
    val_main_v41 (F := Ideal) x0 x1 x2 x3 x5 x6 (ix4 B h t k) = val_main_v34 (F := Ideal) x5 x6 (ix5 B h 0 t k)
      - val_main_v15 (F := Ideal) x0 x1 x2 x3 ix0 * val_main_v34 (F := Ideal) x5 x6 (ix5 B h 1 t k) := by
  have e : idx_main_v39 (ix4 B h t k) = ix0 := funext fun a => a.elim0
  rw [val_main_v41_apply, val_main_v40_apply, val_main_v39_apply, r36, r35, r38, r37, e]
  generalize val_main_v34 (F := Ideal) x5 x6 (ix5 B h 0 t k) = a
  generalize val_main_v34 (F := Ideal) x5 x6 (ix5 B h 1 t k) = b
  generalize val_main_v15 (F := Ideal) x0 x1 x2 x3 ix0 = l
  rfl

theorem r42 (B : Fin 8) (h : Fin 4) (t : Fin 2048) (d : Fin 128) :
    val_main_v42 (F := Ideal) x0 x1 x2 x3 x5 x6 x7 (ix4 B h d t) = ∑ k : Fin 2048, val_main_v7 (F := Ideal) x7 (ix4 B k h d) * val_main_v41 (F := Ideal) x0 x1 x2 x3 x5 x6 (ix4 B h t k) := by
  pointwise [val_main_v42]

theorem r42_real (h5 : IsReal x5) (h6 : IsReal x6) (h7 : IsReal x7)
    (hl : val_main_v15 (F := Ideal) x0 x1 x2 x3 ix0 = (lamR x0 x1 x2 x3 : EReal)) (B : Fin 8) (h : Fin 4) (t : Fin 2048) (d : Fin 128) :
    val_main_v42 (F := Ideal) x0 x1 x2 x3 x5 x6 x7 (ix4 B h d t)
      = ((mean x5 x6 x7 B h 0 t d - lamR x0 x1 x2 x3 * mean x5 x6 x7 B h 1 t d : ℝ) : EReal) := by
  rw [r42]
  refine (sum_of_coe _ _ (fun k => val x7 B h d k * (wt x5 x6 B h 0 t k / (∑ j, wt x5 x6 B h 0 t j)
    - lamR x0 x1 x2 x3 * (wt x5 x6 B h 1 t k / ∑ j, wt x5 x6 B h 1 t j))) fun k => ?_).trans (congrArg _ ?_)
  · rw [r7, r41, hl, soft_at h5 h6, soft_at h5 h6, EReal.coe_mul, EReal.coe_sub, EReal.coe_mul]
    unfold val
    rw [← h7]
  · unfold mean
    rw [Finset.sum_div, Finset.sum_div, Finset.mul_sum, ← Finset.sum_sub_distrib]
    exact Finset.sum_congr rfl fun k _ => by ring

theorem r61 (B : Fin 8) (t : Fin 2048) (j : Fin 512) :
    val_main_v61 (F := Ideal) x0 x1 x2 x3 g x5 x6 x7 (ix3 B t j) = normed (fun d => val_main_v42 (F := Ideal) x0 x1 x2 x3 x5 x6 x7 (ix4 B ⟨j.1 / 128, by omega⟩ d t)) g ⟨j.1 % 128, by omega⟩ := by
  unfold normed
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_6, val_main_cst_7, val_main_cst_8, val_main_cst_9]

end Cert.Attn
end
-- ==== Proof.Attn.Pre.lean ====
module

public import proofs.«01_k».proof.Defs
public import proofs.«01_k».proof.Proof.Attn.Spec
public import Idealize.ShloMosaic.Lib.ReduceAll
public import Idealize.ShloMosaic.Lib.Affine
public import Idealize.ShloMosaic.Lib.Pointwise

@[expose] public section
set_option maxRecDepth 16384
noncomputable section
namespace Cert.Attn
open Idealize.ShloMosaic Idealize.SL.Sem

instance preFacts : Cert.Pre_finite_arguments.Facts := by constructor <;> decide

theorem inf_bits : Ideal.ofBits FTy.f32 2139095040#32 = ⊤ := by
  simp [Ideal.ofBits, Ideal.ieee]

/-- An extended real whose absolute value is below infinity is a real. -/
theorem real_of_lt (x : EReal) (h : Ideal.cmp CmpFPredicate.olt (max x (-x)) ⊤ = 1#1) : x = (x.toReal : EReal) := by
  have h1 : max x (-x) < ⊤ := by
    by_contra hc
    simp [Ideal.cmp, hc] at h
  refine (EReal.coe_toReal ?_ ?_).symm
  · rintro rfl
    exact absurd h1 (by simp)
  · rintro rfl
    exact absurd h1 (by simp)

/-- … and of every entry of an array at once, as the precondition asks it. -/
theorem real_of_all {s : Shape} {axes : List (Fin s.rank)} (x : FVec Ideal s .f32) (hb) (hr : s.ReducesTo axes Cert.Pre_finite_arguments.S_) (hu)
    (h : Host.reduce IntOp.andi (cmpf CmpFPredicate.olt (Host.absf x) (broadcastInDim s ![] hb (constant (F := Ideal) Cert.Pre_finite_arguments.S_ FTy.f32 2139095040#32)))
      (constantI Cert.Pre_finite_arguments.S_ 1 1#1) hr hu ix0 = 1#1) : IsReal x := by
  haveI : Subsingleton Cert.Pre_finite_arguments.S_.Idx := ⟨fun a b => funext fun d => d.elim0⟩
  intro i
  have h1 := Host.reduce_andi_all _ _ hr hu ix0 h i
  refine real_of_lt (x i) ?_
  rw [← inf_bits]
  exact h1

theorem pre_reals (a0 a1 a2 a3 g a5 a6 a7) (h : Cert.Pre_finite_arguments.fn (F := Ideal) a0 a1 a2 a3 g a5 a6 a7 = fun _ => 1#1) :
    IsReal a0 ∧ IsReal a1 ∧ IsReal a2 ∧ IsReal a3 ∧ IsReal a5 ∧ IsReal a6 ∧ IsReal a7 := by
  have h' := congrFun h ix0
  unfold Cert.Pre_finite_arguments.fn Cert.Pre_finite_arguments.fn_part1 Cert.Pre_finite_arguments.fn_part2 at h'
  dsimp only [andi] at h'
  simp only [IntOp.andi_eq_one] at h'
  obtain ⟨⟨⟨⟨⟨⟨h0, h1⟩, h2⟩, h3⟩, h5⟩, h6⟩, h7⟩ := h'
  exact ⟨real_of_all _ _ _ _ h0, real_of_all _ _ _ _ h1, real_of_all _ _ _ _ h2, real_of_all _ _ _ _ h3,
    real_of_all (extf FTy.f32 a5 _) _ _ _ h5, real_of_all (extf FTy.f32 a6 _) _ _ _ h6, real_of_all (extf FTy.f32 a7 _) _ _ _ h7⟩

end Cert.Attn
end
-- ==== Proof.Proj.Rot.lean ====
module

public import Idealize.ShloMosaic.Lib.Claim
public import Idealize.ShloMosaic.Lib.Pointwise

@[expose] public section
noncomputable section
namespace Cert.Proj
open Idealize.ShloMosaic

/-! The rotary embedding of one row: in each group of 64 columns the columns 0..8 and 8..16 are rotated as eight pairs by
eight angles, the other 48 stay. The kernels write it over groups of 128 columns, as three products with tables: the
cosines (1 from column 16 on), the sines at columns 8..16 against the row shifted by 8, and the negated sines at columns
0..8 against the row shifted the other way. -/

/-- The rotary embedding of the row `f` of 64 columns by the angles `a`, at column `d`. -/
def rot (f : Fin 64 → EReal) (a : Fin 8 → EReal) (d : Fin 64) : EReal :=
  if h : d.1 < 8 then f d * Ideal.cos (a ⟨d.1, h⟩) - f ⟨d.1 + 8, by omega⟩ * Ideal.sin (a ⟨d.1, h⟩)
  else if h : d.1 - 8 < 8 then f d * Ideal.cos (a ⟨d.1 - 8, h⟩) + f ⟨d.1 - 8, by omega⟩ * Ideal.sin (a ⟨d.1 - 8, h⟩)
  else f d

/-- Column `c` of the row `g` of 1024 columns, rotated within its group of 64. -/
def rotc (g : Fin 1024 → EReal) (a : Fin 8 → EReal) (c : Fin 1024) : EReal :=
  rot (fun d => g ⟨64 * (c.1 / 64) + d.1, by omega⟩) a ⟨c.1 % 64, by omega⟩

/-- A table's entry at column `d` of 64: `u` at 0..8, `v` at 8..16, `w` from 16 on. -/
def tab (u v : Fin 8 → EReal) (w : EReal) (d : ℕ) : EReal :=
  if h : d < 8 then u ⟨d, h⟩ else if h : d - 8 < 8 then v ⟨d - 8, h⟩ else w

/-- What a kernel computes at column `l` of the 128 columns from `o` on, given the three tables' entries there. -/
def lane (g : Fin 1024 → EReal) (o : ℕ) (ho : o + 128 ≤ 1024) (x y z : EReal) (l : Fin 128) : EReal :=
  g ⟨o + l.1, by omega⟩ * x + g ⟨o + (l.1 + 128 - 8) % 128, by omega⟩ * y + g ⟨o + (l.1 + 128 - 120) % 128, by omega⟩ * z

theorem lane_eq (g : Fin 1024 → EReal) (a : Fin 8 → EReal) (o : ℕ) (ho : o + 128 ≤ 1024) (h64 : o % 64 = 0) (l : Fin 128) (x y z : EReal)
    (hx : x = tab (fun d => Ideal.cos (a d)) (fun d => Ideal.cos (a d)) 1 (l.1 % 64))
    (hy : y = tab (fun _ => 0) (fun d => Ideal.sin (a d)) 0 (l.1 % 64))
    (hz : z = tab (fun d => -Ideal.sin (a d)) (fun _ => 0) 0 (l.1 % 64)) :
    lane g o ho x y z l = rotc g a ⟨o + l.1, by omega⟩ := by
  subst hx hy hz
  have e0 : (o + l.1) % 64 = l.1 % 64 := by omega
  unfold lane rotc rot tab
  simp only [e0]
  obtain ⟨u, hu⟩ : ∃ u, o = 64 * u := ⟨o / 64, by omega⟩
  subst hu
  have hl := l.2
  have ed : (64 * u + l.1) / 64 = u + l.1 / 64 := by omega
  have ea : g ⟨64 * u + l.1, by omega⟩ = g ⟨64 * ((64 * u + l.1) / 64) + l.1 % 64, by omega⟩ := congrArg g (Fin.ext (by show 64 * u + l.1 = 64 * ((64 * u + l.1) / 64) + l.1 % 64; rw [ed]; omega))
  by_cases h1 : l.1 % 64 < 8
  · have eb : g ⟨64 * u + (l.1 + 128 - 120) % 128, by omega⟩ = g ⟨64 * ((64 * u + l.1) / 64) + (l.1 % 64 + 8), by omega⟩ :=
      congrArg g (Fin.ext (by show 64 * u + (l.1 + 128 - 120) % 128 = 64 * ((64 * u + l.1) / 64) + (l.1 % 64 + 8); rw [ed]; omega))
    simp only [dif_pos h1, mul_zero, add_zero]
    exact (congrArg₂ (fun s t => s * _ + t * _) ea eb).trans (by rw [mul_neg, ← sub_eq_add_neg])
  · by_cases h2 : l.1 % 64 - 8 < 8
    · have eb : g ⟨64 * u + (l.1 + 128 - 8) % 128, by omega⟩ = g ⟨64 * ((64 * u + l.1) / 64) + (l.1 % 64 - 8), by omega⟩ :=
        congrArg g (Fin.ext (by show 64 * u + (l.1 + 128 - 8) % 128 = 64 * ((64 * u + l.1) / 64) + (l.1 % 64 - 8); rw [ed]; omega))
      simp only [dif_neg h1, dif_pos h2, mul_zero, add_zero]
      exact congrArg₂ (fun s t => s * _ + t * _) ea eb
    · simp only [dif_neg h1, dif_neg h2, mul_zero, add_zero, mul_one]
      exact ea

/-- The same rotation, written over rows of 4 heads of 2 parts of 64 columns, from column `o` on. -/
theorem head_eq (g : Fin 1024 → EReal) (a : Fin 8 → EReal) (o : ℕ) (ho : o + 512 ≤ 1024) (h64 : o % 64 = 0) (c : Fin 4) (e : Fin 2) (d : Fin 64) :
    (if h : d.1 < 16 then
      if h' : d.1 < 8 then
        g ⟨o + (c.1 * 128 + e.1 * 64 + d.1), by omega⟩ * Ideal.cos (a ⟨d.1, h'⟩) - g ⟨o + (c.1 * 128 + e.1 * 64 + (8 + d.1)), by omega⟩ * Ideal.sin (a ⟨d.1, h'⟩)
      else
        g ⟨o + (c.1 * 128 + e.1 * 64 + (8 + (d.1 - 8))), by omega⟩ * Ideal.cos (a ⟨d.1 - 8, by omega⟩)
          + g ⟨o + (c.1 * 128 + e.1 * 64 + (d.1 - 8)), by omega⟩ * Ideal.sin (a ⟨d.1 - 8, by omega⟩)
    else g ⟨o + (c.1 * 128 + e.1 * 64 + (16 + (d.1 - 16))), by omega⟩)
      = rotc g a ⟨o + (c.1 * 128 + e.1 * 64 + d.1), by omega⟩ := by
  have e0 : (o + (c.1 * 128 + e.1 * 64 + d.1)) % 64 = d.1 := by omega
  have ed : 64 * ((o + (c.1 * 128 + e.1 * 64 + d.1)) / 64) = o + (c.1 * 128 + e.1 * 64) := by omega
  unfold rotc rot
  simp only [e0, ed]
  by_cases h1 : d.1 < 8
  · have h2 : d.1 < 16 := by omega
    simp only [dif_pos h1, dif_pos h2, Nat.add_assoc, Nat.add_comm 8]
  · by_cases h2 : d.1 < 16
    · have h3 : d.1 - 8 < 8 := by omega
      have h4 : 8 + (d.1 - 8) = d.1 := by omega
      simp only [dif_neg h1, dif_pos h2, dif_pos h3, Nat.add_assoc, h4]
    · have h3 : ¬ d.1 - 8 < 8 := by omega
      have h4 : 16 + (d.1 - 16) = d.1 := by omega
      simp only [dif_neg h1, dif_neg h2, dif_neg h3, Nat.add_assoc, h4]

end Cert.Proj
end
end
-- ==== Proof.Proj.PromptBlocks.lean ====
module

public import proofs.«01_k».proof.Proof.Gen.Kernel2Ideal.Value
public import proofs.«01_k».proof.Proof.Proj.Rot
public import Idealize.ShloMosaic.Lib.Claim
public import Idealize.ShloMosaic.Lib.Pointwise
public import Idealize.ShloMosaic.Lib.Pipeline.ValueKit

@[expose] public section
set_option maxRecDepth 16384
noncomputable section
namespace Cert.Proj.Prompt
open Idealize.ShloMosaic Cert.Kernel2Ideal Cert.Kernel2Ideal.Gen Idealize.SL.Sem

section
variable (v4 v6 v8 : FVec Ideal S512x128 .f32) (v11 : FVec Ideal S512x1024 .f32) (p : Fin 512) (l : Fin 128)
/-- The lane formula at row `p` of a block. -/
abbrev ln (o : ℕ) (ho : o + 128 ≤ 1024) : EReal := lane (fun c => v11 (ix2 p c)) o ho (v4 (ix2 p l)) (v6 (ix2 p l)) (v8 (ix2 p l)) l
abbrev sc : EReal := Ideal.ofBits .f32 1040187392#32

theorem pay13_at : k0_pay13 (F := Ideal) v4 v6 v8 v11 (ix3 0 p l) = ln v4 v6 v8 v11 p l 640 (by decide) := by
  pointwise [k0_pay13, k0_pay12]
  rfl
theorem pay18_at : k0_pay18 (F := Ideal) v4 v6 v8 v11 (ix3 0 p l) = ln v4 v6 v8 v11 p l 768 (by decide) := by
  pointwise [k0_pay18, k0_pay17]
  rfl
theorem pay24_at : k0_pay24 (F := Ideal) v4 v6 v8 v11 (ix3 0 p l) = ln v4 v6 v8 v11 p l 896 (by decide) := by
  pointwise [k0_pay24, k0_pay23]
  rfl
theorem pay15_at : k0_pay15 (F := Ideal) (k0_pay14 (F := Ideal) v4 v6 v8 v11) (ix3 0 p l) = ln v4 v6 v8 v11 p l 640 (by decide) := by
  pointwise [k0_pay15, k0_pay14, k0_pay12]
  rfl
theorem pay19_at : k0_pay19 (F := Ideal) v4 v6 v8 v11 (ix3 0 p l) = ln v4 v6 v8 v11 p l 768 (by decide) := by
  pointwise [k0_pay19, k0_pay17]
  rfl
theorem pay25_at : k0_pay25 (F := Ideal) v4 v6 v8 v11 (ix3 0 p l) = ln v4 v6 v8 v11 p l 896 (by decide) := by
  pointwise [k0_pay25, k0_pay23]
  rfl
theorem pay11_at : k0_pay11 (F := Ideal) v4 v6 v8 v11 (ix5 0 0 0 l p) = ln v4 v6 v8 v11 p l 128 (by decide) * sc := by
  pointwise [k0_pay11]
  rfl
theorem pay16_at : k0_pay16 (F := Ideal) v4 v6 v8 v11 (ix5 0 0 0 l p) = ln v4 v6 v8 v11 p l 256 (by decide) * sc := by
  pointwise [k0_pay16]
  rfl
theorem pay22_at : k0_pay22 (F := Ideal) v8 (k0_pay20 (F := Ideal) v11) (k0_pay21 (F := Ideal) v4 v6 v11) 120#32 (ix5 0 0 0 l p) = ln v4 v6 v8 v11 p l 384 (by decide) * sc := by
  pointwise [k0_pay22, k0_pay20, k0_pay21]
  rfl
end

section
variable (x0 : FVec Ideal S1x512x1024 .f32) (x1 : FVec Ideal S1024x2560 .bf16) (x2 x3 x4 : FVec Ideal S512x128 .f32) (p : Fin 512)
/-- The product's row `p` at column `c`. -/
def pr (c : Fin 2560) : EReal := ∑ k : Fin 1024, x0 (ix3 0 p k) * x1 (ix2 k c)

theorem hz2 : (![0, 0] : Fin 2 → ℕ) = fun _ => 0 := by decide
theorem hz3 : (![0, 0, 0] : Fin 3 → ℕ) = fun _ => 0 := by decide
theorem ld2 (k : Fin 1024) (j : Fin 1024) : View.ld (Val := Elt Ideal) (e' := .bf16) x1 r0_2 (ix2 k j) = x1 (ix2 k ⟨j.1, by omega⟩) := by
  rw [View.ld_unit]
  pointwise []
theorem ld11 (k : Fin 1024) (j : Fin 512) : View.ld (Val := Elt Ideal) (e' := .bf16) x1 r0_11 (ix2 k j) = x1 (ix2 k ⟨1024 + j.1, by omega⟩) := by
  rw [View.ld_unit]
  pointwise []
theorem ld13 (k : Fin 1024) (j : Fin 512) : View.ld (Val := Elt Ideal) (e' := .bf16) x1 r0_13 (ix2 k j) = x1 (ix2 k ⟨1536 + j.1, by omega⟩) := by
  rw [View.ld_unit]
  pointwise []
theorem ld14 (k : Fin 1024) (j : Fin 512) : View.ld (Val := Elt Ideal) (e' := .bf16) x1 r0_14 (ix2 k j) = x1 (ix2 k ⟨2048 + j.1, by omega⟩) := by
  rw [View.ld_unit]
  pointwise []
theorem pay35_at (k : Fin 1024) : k0_pay35 (F := Ideal) x0 x1 x2 x3 x4 (ix2 p k) = x0 (ix3 0 p k) := by
  unfold k0_pay35
  rw [View.ld_unit_zero (S := S1x512x1024) hz3]
  pointwise [k0_pay2]
theorem pay36_at (l : Fin 128) : k0_pay36 (F := Ideal) x0 x1 x2 x3 x4 (ix2 p l) = x2 (ix2 p l) := by
  unfold k0_pay36
  rw [View.ld_unit_zero (S := S512x128) hz2]
  pointwise [k0_pay3]
theorem pay37_at (l : Fin 128) : k0_pay37 (F := Ideal) x0 x1 x2 x3 x4 (ix2 p l) = x3 (ix2 p l) := by
  unfold k0_pay37
  rw [View.ld_unit_zero (S := S512x128) hz2]
  pointwise [k0_pay4]
theorem pay38_at (l : Fin 128) : k0_pay38 (F := Ideal) x0 x1 x2 x3 x4 (ix2 p l) = x4 (ix2 p l) := by
  unfold k0_pay38
  rw [View.ld_unit_zero (S := S512x128) hz2]
  pointwise [k0_pay5]
theorem pay6_at (v : FVec Ideal S1x512x1024 .f32) (w : FVec Ideal S1024x1024 .bf16) (c : Fin 1024) :
    k0_pay6 (F := Ideal) v w (ix2 p c) = ∑ k : Fin 1024, v (ix3 0 p k) * w (ix2 k c) := by
  pointwise [k0_pay6, k0_pay2]
theorem pay39_at (c : Fin 1024) : k0_pay39 (F := Ideal) x0 x1 x2 x3 x4 (ix2 p c) = pr x0 x1 p ⟨c.1, by omega⟩ := by
  unfold k0_pay39
  rw [View.ld_unit_zero (S := S1x512x1024) hz3]
  refine (pay6_at p _ _ c).trans ?_
  unfold pr
  exact Finset.sum_congr rfl fun k _ => congrArg (x0 (ix3 0 p k) * ·) (ld2 x1 k c)
theorem pay7_at (l : Fin 128) : k0_pay7 (F := Ideal) (View.ld x0 r0_0) (View.ld x2 r0_1) (View.ld x3 r0_1) (View.ld x4 r0_1) (View.ld x1 r0_2)
    (ix5 0 0 0 l p) = ln (k0_pay36 (F := Ideal) x0 x1 x2 x3 x4) (k0_pay37 (F := Ideal) x0 x1 x2 x3 x4) (k0_pay38 (F := Ideal) x0 x1 x2 x3 x4) (k0_pay39 (F := Ideal) x0 x1 x2 x3 x4) p l 0 (by decide) * sc := by
  pointwise [k0_pay7, k0_pay36, k0_pay37, k0_pay38, k0_pay39]
  simp only [lane, Nat.zero_add]
theorem pay10_at (l : Fin 128) : k0_pay10 (F := Ideal) (k0_pay40 (F := Ideal) x0 x1 x2 x3 x4) (ix3 0 p l)
     = ln (k0_pay36 (F := Ideal) x0 x1 x2 x3 x4) (k0_pay37 (F := Ideal) x0 x1 x2 x3 x4) (k0_pay38 (F := Ideal) x0 x1 x2 x3 x4) (k0_pay39 (F := Ideal) x0 x1 x2 x3 x4) p l 512 (by decide) := by
  pointwise [k0_pay10, k0_pay40, k0_pay8, k0_pay36, k0_pay37, k0_pay38, k0_pay39]
  rfl
theorem pay9_at (l : Fin 128) : k0_pay9 (F := Ideal) (k0_pay40 (F := Ideal) x0 x1 x2 x3 x4) (ix3 0 p l)
     = ln (k0_pay36 (F := Ideal) x0 x1 x2 x3 x4) (k0_pay37 (F := Ideal) x0 x1 x2 x3 x4) (k0_pay38 (F := Ideal) x0 x1 x2 x3 x4) (k0_pay39 (F := Ideal) x0 x1 x2 x3 x4) p l 512 (by decide) := by
  pointwise [k0_pay9, k0_pay40, k0_pay8, k0_pay36, k0_pay37, k0_pay38, k0_pay39]
  rfl

/-- The rotated product at column `c` of its first 1024, given the angles of row `p`. -/
abbrev rp (a : Fin 8 → EReal) (c : Fin 1024) : EReal := rotc (fun c => pr x0 x1 p ⟨c.1, by omega⟩) a c

variable (a : Fin 512 → Fin 8 → EReal)
  (h2 : ∀ (p : Fin 512) (l : Fin 128), x2 (ix2 p l) = tab (fun d => Ideal.cos (a p d)) (fun d => Ideal.cos (a p d)) 1 (l.1 % 64))
  (h3 : ∀ (p : Fin 512) (l : Fin 128), x3 (ix2 p l) = tab (fun _ => 0) (fun d => Ideal.sin (a p d)) 0 (l.1 % 64))
  (h4 : ∀ (p : Fin 512) (l : Fin 128), x4 (ix2 p l) = tab (fun d => -Ideal.sin (a p d)) (fun _ => 0) 0 (l.1 % 64))

include h2 h3 h4 in
theorem ln_rp (l : Fin 128) (o : ℕ) (ho : o + 128 ≤ 1024) (h64 : o % 64 = 0) :
    ln (k0_pay36 (F := Ideal) x0 x1 x2 x3 x4) (k0_pay37 (F := Ideal) x0 x1 x2 x3 x4) (k0_pay38 (F := Ideal) x0 x1 x2 x3 x4) (k0_pay39 (F := Ideal) x0 x1 x2 x3 x4) p l o ho
      = rp x0 x1 p (a p) ⟨o + l.1, by omega⟩ := by
  have e : (fun c => k0_pay39 (F := Ideal) x0 x1 x2 x3 x4 (ix2 p c)) = (fun c => pr x0 x1 p ⟨c.1, by omega⟩) := funext fun c => pay39_at ..
  unfold ln
  rw [e]
  exact lane_eq _ (a p) o ho h64 l _ _ _ ((pay36_at ..).trans (h2 p l)) ((pay37_at ..).trans (h3 p l)) ((pay38_at ..).trans (h4 p l))

/-- What the body leaves in the blocks of the rotated keys. -/
def KB : FVec Ideal S1x512x512 .f32 := fun y => rp x0 x1 (y 1) (a (y 1)) ⟨512 + (y 2).1, by have : (y 2).1 < 512 := (y 2).2; omega⟩
/-- What the body leaves in the blocks of the rotated, scaled queries. -/
def QB : FVec Ideal S1x4x1x128x512 .bf16 := fun y =>
  rp x0 x1 (y 4) (a (y 4)) ⟨128 * (y 1).1 + (y 3).1, by have : (y 1).1 < 4 := (y 1).2; have : (y 3).1 < 128 := (y 3).2; omega⟩ * sc

theorem kb_emb (p : Fin 512) (y : S1x512x512.Idx) (c : Fin 1024)
    (h1 : y 1 = p) (hc : c.1 = 512 + (y 2).1) : rp x0 x1 p (a p) c = KB x0 x1 a y := by
  subst h1
  exact congrArg (rp x0 x1 (y 1) (a (y 1))) (Fin.ext hc)
theorem qb_emb (p : Fin 512) (y : S1x4x1x128x512.Idx) (c : Fin 1024)
    (h1 : y 4 = p) (hc : c.1 = 128 * (y 1).1 + (y 3).1) : rp x0 x1 p (a p) c * sc = QB x0 x1 a y := by
  subst h1
  exact congrArg (rp x0 x1 (y 4) (a (y 4)) · * sc) (Fin.ext hc)

theorem ix_k (x : S1x512x128.Idx) : ∃ (p : Fin 512) (l : Fin 128), x = (ix3 0 p l : S1x512x128.Idx) :=
  ⟨x 1, x 2, by rw [Subsingleton.elim (0 : Fin 1) (x 0)]; exact (ix3_eta x).symm⟩
theorem ix_q (x : S1x1x1x128x512.Idx) : ∃ (l : Fin 128) (p : Fin 512), x = (ix5 0 0 0 l p : S1x1x1x128x512.Idx) :=
  ⟨x 3, x 4, by rw [Subsingleton.elim (0 : Fin 1) (x 0)]; exact funext fun a => match a with
    | ⟨0, _⟩ => rfl | ⟨1, _⟩ => Subsingleton.elim (α := Fin 1) _ _ | ⟨2, _⟩ => Subsingleton.elim (α := Fin 1) _ _ | ⟨3, _⟩ => rfl | ⟨4, _⟩ => rfl⟩

include h2 h3 h4 in
theorem out8_eq (y : S1x512x512.Idx) : out0_8 (F := Ideal) x0 x1 x2 x3 x4 y = KB x0 x1 a y := by
  unfold out0_8
  refine View.canon_apply_of_pieces (Val := Elt Ideal) (e := .f32) (KB x0 x1 a) _ ?_ y (cover0_8 _ _ _ _ y)
  intro pc hpc
  rcases List.mem_cons.mp hpc with rfl | hpc
  · intro x
    obtain ⟨p, l, rfl⟩ := ix_k x
    refine (pay24_at ..).trans ((ln_rp x0 x1 x2 x3 x4 p a h2 h3 h4 l 896 _ (by decide)).trans (kb_emb x0 x1 a p _ _ ?_ ?_))
    · exact Fin.ext (by show 0 + 1 * p.1 = p.1; omega)
    · show 896 + l.1 = 512 + (384 + 1 * l.1); omega
  rcases List.mem_cons.mp hpc with rfl | hpc
  · intro x
    obtain ⟨p, l, rfl⟩ := ix_k x
    refine (pay18_at ..).trans ((ln_rp x0 x1 x2 x3 x4 p a h2 h3 h4 l 768 _ (by decide)).trans (kb_emb x0 x1 a p _ _ ?_ ?_))
    · exact Fin.ext (by show 0 + 1 * p.1 = p.1; omega)
    · show 768 + l.1 = 512 + (256 + 1 * l.1); omega
  rcases List.mem_cons.mp hpc with rfl | hpc
  · intro x
    obtain ⟨p, l, rfl⟩ := ix_k x
    refine (pay13_at ..).trans ((ln_rp x0 x1 x2 x3 x4 p a h2 h3 h4 l 640 _ (by decide)).trans (kb_emb x0 x1 a p _ _ ?_ ?_))
    · exact Fin.ext (by show 0 + 1 * p.1 = p.1; omega)
    · show 640 + l.1 = 512 + (128 + 1 * l.1); omega
  rcases List.mem_cons.mp hpc with rfl | hpc
  · intro x
    obtain ⟨p, l, rfl⟩ := ix_k x
    refine (pay9_at ..).trans ((ln_rp x0 x1 x2 x3 x4 p a h2 h3 h4 l 512 _ (by decide)).trans (kb_emb x0 x1 a p _ _ ?_ ?_))
    · exact Fin.ext (by show 0 + 1 * p.1 = p.1; omega)
    · show 512 + l.1 = 512 + (0 + 1 * l.1); omega
  nomatch hpc
include h2 h3 h4 in
theorem out6_eq (y : S1x512x512.Idx) : out0_6 (F := Ideal) x0 x1 x2 x3 x4 y = KB x0 x1 a y := by
  unfold out0_6
  refine View.canon_apply_of_pieces (Val := Elt Ideal) (e := .bf16) (KB x0 x1 a) _ ?_ y (cover0_6 _ _ _ _ y)
  intro pc hpc
  rcases List.mem_cons.mp hpc with rfl | hpc
  · intro x
    obtain ⟨p, l, rfl⟩ := ix_k x
    refine (pay25_at ..).trans ((ln_rp x0 x1 x2 x3 x4 p a h2 h3 h4 l 896 _ (by decide)).trans (kb_emb x0 x1 a p _ _ ?_ ?_))
    · exact Fin.ext (by show 0 + 1 * p.1 = p.1; omega)
    · show 896 + l.1 = 512 + (384 + 1 * l.1); omega
  rcases List.mem_cons.mp hpc with rfl | hpc
  · intro x
    obtain ⟨p, l, rfl⟩ := ix_k x
    refine (pay19_at ..).trans ((ln_rp x0 x1 x2 x3 x4 p a h2 h3 h4 l 768 _ (by decide)).trans (kb_emb x0 x1 a p _ _ ?_ ?_))
    · exact Fin.ext (by show 0 + 1 * p.1 = p.1; omega)
    · show 768 + l.1 = 512 + (256 + 1 * l.1); omega
  rcases List.mem_cons.mp hpc with rfl | hpc
  · intro x
    obtain ⟨p, l, rfl⟩ := ix_k x
    refine (pay15_at ..).trans ((ln_rp x0 x1 x2 x3 x4 p a h2 h3 h4 l 640 _ (by decide)).trans (kb_emb x0 x1 a p _ _ ?_ ?_))
    · exact Fin.ext (by show 0 + 1 * p.1 = p.1; omega)
    · show 640 + l.1 = 512 + (128 + 1 * l.1); omega
  rcases List.mem_cons.mp hpc with rfl | hpc
  · intro x
    obtain ⟨p, l, rfl⟩ := ix_k x
    refine (pay10_at ..).trans ((ln_rp x0 x1 x2 x3 x4 p a h2 h3 h4 l 512 _ (by decide)).trans (kb_emb x0 x1 a p _ _ ?_ ?_))
    · exact Fin.ext (by show 0 + 1 * p.1 = p.1; omega)
    · show 512 + l.1 = 512 + (0 + 1 * l.1); omega
  nomatch hpc
include h2 h3 h4 in
theorem out5_eq (y : S1x4x1x128x512.Idx) : out0_5 (F := Ideal) x0 x1 x2 x3 x4 y = QB x0 x1 a y := by
  unfold out0_5
  refine View.canon_apply_of_pieces (Val := Elt Ideal) (e := .bf16) (QB x0 x1 a) _ ?_ y (cover0_5 _ _ _ _ y)
  intro pc hpc
  rcases List.mem_cons.mp hpc with rfl | hpc
  · intro x
    obtain ⟨l, p, rfl⟩ := ix_q x
    refine (pay22_at ..).trans ((congrArg (· * sc) (ln_rp x0 x1 x2 x3 x4 p a h2 h3 h4 l 384 _ (by decide))).trans (qb_emb x0 x1 a p _ _ ?_ ?_))
    · exact Fin.ext (by show 0 + 1 * p.1 = p.1; omega)
    · show 384 + l.1 = 128 * (3 + 1 * 0) + (0 + 1 * l.1); omega
  rcases List.mem_cons.mp hpc with rfl | hpc
  · intro x
    obtain ⟨l, p, rfl⟩ := ix_q x
    refine (pay16_at ..).trans ((congrArg (· * sc) (ln_rp x0 x1 x2 x3 x4 p a h2 h3 h4 l 256 _ (by decide))).trans (qb_emb x0 x1 a p _ _ ?_ ?_))
    · exact Fin.ext (by show 0 + 1 * p.1 = p.1; omega)
    · show 256 + l.1 = 128 * (2 + 1 * 0) + (0 + 1 * l.1); omega
  rcases List.mem_cons.mp hpc with rfl | hpc
  · intro x
    obtain ⟨l, p, rfl⟩ := ix_q x
    refine (pay11_at ..).trans ((congrArg (· * sc) (ln_rp x0 x1 x2 x3 x4 p a h2 h3 h4 l 128 _ (by decide))).trans (qb_emb x0 x1 a p _ _ ?_ ?_))
    · exact Fin.ext (by show 0 + 1 * p.1 = p.1; omega)
    · show 128 + l.1 = 128 * (1 + 1 * 0) + (0 + 1 * l.1); omega
  rcases List.mem_cons.mp hpc with rfl | hpc
  · intro x
    obtain ⟨l, p, rfl⟩ := ix_q x
    refine (pay7_at ..).trans ((congrArg (· * sc) (ln_rp x0 x1 x2 x3 x4 p a h2 h3 h4 l 0 _ (by decide))).trans (qb_emb x0 x1 a p _ _ ?_ ?_))
    · exact Fin.ext (by show 0 + 1 * p.1 = p.1; omega)
    · show 0 + l.1 = 128 * (0 + 1 * 0) + (0 + 1 * l.1); omega
  nomatch hpc

theorem pay26_at (v : FVec Ideal S512x1024 .bf16) (w : FVec Ideal S1024x512 .bf16) (p j : Fin 512) :
    k0_pay26 (F := Ideal) v w (ix2 p j) = ∑ k : Fin 1024, v (ix2 p k) * w (ix2 k j) := by
  pointwise [k0_pay26]
theorem pay27_at (v : FVec Ideal S512x1024 .bf16) (w : FVec Ideal S1024x512 .bf16) (p j : Fin 512) :
    k0_pay27 (F := Ideal) v w (ix3 0 p j) = ∑ k : Fin 1024, v (ix2 p k) * w (ix2 k j) := by
  pointwise [k0_pay27, k0_pay26]
theorem pay33_at (v : FVec Ideal S512x1024 .bf16) (w : FVec Ideal S1024x512 .bf16) (p j : Fin 512) :
    k0_pay33 (F := Ideal) v w (ix3 0 p j) = ∑ k : Fin 1024, v (ix2 p k) * w (ix2 k j) := by
  pointwise [k0_pay33]
theorem pay1_at (v : FVec Ideal S512x1024 .bf16) (w : FVec Ideal S1024x512 .bf16) (p j : Fin 512) :
    k0_pay1 (F := Ideal) v (k0_pay34 (F := Ideal) w) (ix3 0 p j) = ∑ k : Fin 1024, v (ix2 p k) * w (ix2 k j) := by
  pointwise [k0_pay1, k0_pay34]
theorem out9_at (p j : Fin 512) : out0_9 (F := Ideal) x0 x1 x2 x3 x4 (ix3 0 p j) = pr x0 x1 p ⟨1024 + j.1, by omega⟩ := by
  unfold out0_9
  rw [View.canon_cons_unit_zero hz3]
  refine (pay27_at _ _ p j).trans ?_
  unfold pr
  exact Finset.sum_congr rfl fun k _ => congrArg₂ (· * ·) (pay35_at ..) (ld11 x1 k j)
theorem out10_at (p j : Fin 512) : out0_10 (F := Ideal) x0 x1 x2 x3 x4 (ix3 0 p j) = pr x0 x1 p ⟨1536 + j.1, by omega⟩ := by
  unfold out0_10
  rw [View.canon_cons_unit_zero hz3]
  refine (pay33_at _ _ p j).trans ?_
  unfold pr
  exact Finset.sum_congr rfl fun k _ => congrArg₂ (· * ·) (pay35_at ..) (ld13 x1 k j)
theorem out11_at (p j : Fin 512) : out0_11 (F := Ideal) x0 x1 x2 x3 x4 (ix3 0 p j) = pr x0 x1 p ⟨2048 + j.1, by omega⟩ := by
  unfold out0_11
  rw [View.canon_cons_unit_zero hz3]
  refine (pay1_at _ _ p j).trans ?_
  unfold pr
  exact Finset.sum_congr rfl fun k _ => congrArg₂ (· * ·) (pay35_at ..) (ld14 x1 k j)

theorem v_at (j : Fin 512) : k0_pay26 (F := Ideal) (k0_pay35 (F := Ideal) x0 x1 x2 x3 x4) (View.ld x1 r0_11) (ix2 p j) = pr x0 x1 p ⟨1024 + j.1, by omega⟩ := by
  refine (pay26_at _ _ p j).trans ?_
  unfold pr
  exact Finset.sum_congr rfl fun k _ => congrArg₂ (· * ·) (pay35_at ..) (ld11 x1 k j)
/-- What the body leaves in the blocks of the transposed values. -/
def VB : FVec Ideal S1x4x1x128x512 .bf16 := fun y =>
  pr x0 x1 (y 4) ⟨1024 + (128 * (y 1).1 + (y 3).1), by have : (y 1).1 < 4 := (y 1).2; have : (y 3).1 < 128 := (y 3).2; omega⟩
theorem vb_emb (p : Fin 512) (y : S1x4x1x128x512.Idx) (c : Fin 2560)
    (h1 : y 4 = p) (hc : c.1 = 1024 + (128 * (y 1).1 + (y 3).1)) : pr x0 x1 p c = VB x0 x1 y := by
  subst h1
  exact congrArg (pr x0 x1 (y 4)) (Fin.ext hc)
theorem pay32_at (l : Fin 128) : k0_pay32 (F := Ideal) (k0_pay41 (F := Ideal) x0 x1 x2 x3 x4) (ix5 0 0 0 l p) = pr x0 x1 p ⟨1024 + (384 + l.1), by omega⟩ := by
  have e : k0_pay32 (F := Ideal) (k0_pay41 (F := Ideal) x0 x1 x2 x3 x4) (ix5 0 0 0 l p) = k0_pay26 (F := Ideal) (k0_pay35 (F := Ideal) x0 x1 x2 x3 x4) (View.ld x1 r0_11) (ix2 p ⟨384 + l.1, by omega⟩) := by
    pointwise [k0_pay32, k0_pay41]
    try simp only [Nat.zero_add]
    try rfl
  exact e.trans (v_at ..)
theorem pay31_at (l : Fin 128) : k0_pay31 (F := Ideal) (k0_pay41 (F := Ideal) x0 x1 x2 x3 x4) (ix5 0 0 0 l p) = pr x0 x1 p ⟨1024 + (256 + l.1), by omega⟩ := by
  have e : k0_pay31 (F := Ideal) (k0_pay41 (F := Ideal) x0 x1 x2 x3 x4) (ix5 0 0 0 l p) = k0_pay26 (F := Ideal) (k0_pay35 (F := Ideal) x0 x1 x2 x3 x4) (View.ld x1 r0_11) (ix2 p ⟨256 + l.1, by omega⟩) := by
    pointwise [k0_pay31, k0_pay41]
    try simp only [Nat.zero_add]
    try rfl
  exact e.trans (v_at ..)
theorem pay30_at (l : Fin 128) : k0_pay30 (F := Ideal) (k0_pay41 (F := Ideal) x0 x1 x2 x3 x4) (ix5 0 0 0 l p) = pr x0 x1 p ⟨1024 + (128 + l.1), by omega⟩ := by
  have e : k0_pay30 (F := Ideal) (k0_pay41 (F := Ideal) x0 x1 x2 x3 x4) (ix5 0 0 0 l p) = k0_pay26 (F := Ideal) (k0_pay35 (F := Ideal) x0 x1 x2 x3 x4) (View.ld x1 r0_11) (ix2 p ⟨128 + l.1, by omega⟩) := by
    pointwise [k0_pay30, k0_pay41]
    try simp only [Nat.zero_add]
    try rfl
  exact e.trans (v_at ..)
theorem pay29_at (l : Fin 128) : k0_pay29 (F := Ideal) (k0_pay28 (F := Ideal) (k0_pay35 (F := Ideal) x0 x1 x2 x3 x4) (View.ld x1 r0_11)) (ix5 0 0 0 l p) = pr x0 x1 p ⟨1024 + (0 + l.1), by omega⟩ := by
  have e : k0_pay29 (F := Ideal) (k0_pay28 (F := Ideal) (k0_pay35 (F := Ideal) x0 x1 x2 x3 x4) (View.ld x1 r0_11)) (ix5 0 0 0 l p) = k0_pay26 (F := Ideal) (k0_pay35 (F := Ideal) x0 x1 x2 x3 x4) (View.ld x1 r0_11) (ix2 p ⟨0 + l.1, by omega⟩) := by
    pointwise [k0_pay29, k0_pay28]
    try simp only [Nat.zero_add]
    try rfl
  exact e.trans (v_at ..)
theorem out7_eq (y : S1x4x1x128x512.Idx) : out0_7 (F := Ideal) x0 x1 x2 x3 x4 y = VB x0 x1 y := by
  unfold out0_7
  refine View.canon_apply_of_pieces (Val := Elt Ideal) (e := .bf16) (VB x0 x1) _ ?_ y (cover0_7 _ _ _ _ y)
  intro pc hpc
  rcases List.mem_cons.mp hpc with rfl | hpc
  · intro x
    obtain ⟨l, p, rfl⟩ := ix_q x
    refine (pay32_at ..).trans (vb_emb x0 x1 p _ _ ?_ ?_)
    · exact Fin.ext (by show 0 + 1 * p.1 = p.1; omega)
    · show 1024 + (384 + l.1) = 1024 + (128 * (3 + 1 * 0) + (0 + 1 * l.1)); omega
  rcases List.mem_cons.mp hpc with rfl | hpc
  · intro x
    obtain ⟨l, p, rfl⟩ := ix_q x
    refine (pay31_at ..).trans (vb_emb x0 x1 p _ _ ?_ ?_)
    · exact Fin.ext (by show 0 + 1 * p.1 = p.1; omega)
    · show 1024 + (256 + l.1) = 1024 + (128 * (2 + 1 * 0) + (0 + 1 * l.1)); omega
  rcases List.mem_cons.mp hpc with rfl | hpc
  · intro x
    obtain ⟨l, p, rfl⟩ := ix_q x
    refine (pay30_at ..).trans (vb_emb x0 x1 p _ _ ?_ ?_)
    · exact Fin.ext (by show 0 + 1 * p.1 = p.1; omega)
    · show 1024 + (128 + l.1) = 1024 + (128 * (1 + 1 * 0) + (0 + 1 * l.1)); omega
  rcases List.mem_cons.mp hpc with rfl | hpc
  · intro x
    obtain ⟨l, p, rfl⟩ := ix_q x
    refine (pay29_at ..).trans (vb_emb x0 x1 p _ _ ?_ ?_)
    · exact Fin.ext (by show 0 + 1 * p.1 = p.1; omega)
    · show 1024 + (0 + l.1) = 1024 + (128 * (0 + 1 * 0) + (0 + 1 * l.1)); omega
  nomatch hpc
end
end Cert.Proj.Prompt
end
end
-- ==== Proof.Proj.PromptKernel.lean ====
module

public import proofs.«01_k».proof.Proof.Proj.PromptBlocks
public import Idealize.ShloMosaic.Lib.StableHlo.RunRead

@[expose] public section
set_option maxRecDepth 16384
noncomputable section
namespace Cert.Proj.Prompt
open Idealize.ShloMosaic Cert.Kernel2Ideal Cert.Kernel2Ideal.Gen Idealize.SL.Sem

/-! The projection of the prompt: what the call leaves in its seven results. -/

/-- The angles' frequencies. -/
def inv : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The angle of a position and a frequency. -/
def ang : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 inv))

/-- The tables' constant parts. -/
def zeros8 : FVec Ideal S2048x8 .f32 := broadcastInDim S2048x8 ![] bcast_S_S2048x8 (constant S_ .f32 0x00000000#32)
def zeros48 : FVec Ideal S2048x48 .f32 := broadcastInDim S2048x48 ![] bcast_S_S2048x48 (constant S_ .f32 0x00000000#32)
def ones48 : FVec Ideal S2048x48 .f32 := broadcastInDim S2048x48 ![] bcast_S_S2048x48 (constant S_ .f32 0x3F800000#32)

/-- A table: `u` at columns 0..8 of each 64, `v` at 8..16, `w` from 16 on, twice. -/
def tabv (u v : FVec Ideal S2048x8 .f32) (w : FVec Ideal S2048x48 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x8, u⟩, ⟨S2048x8, v⟩, ⟨S2048x48, w⟩] concatenates_S2048x8_S2048x8_S2048x48_S2048x64_d1) shapeCasts_S2048x64_S1x2048x1x64))
    shapeCasts_S1x2048x2x64_S2048x128

theorem tabv_at (u v : FVec Ideal S2048x8 .f32) (w : FVec Ideal S2048x48 .f32) (t : Fin 2048) (l : Fin 128) (e : EReal) (he : ∀ d, w (ix2 t d) = e) :
    tabv u v w (ix2 t l) = tab (fun d => u (ix2 t d)) (fun d => v (ix2 t d)) e (l.1 % 64) := by
  pointwise [tabv]
  simp only [he]
  rfl

/-- The product's row `(b, t)` at column `c`. -/
def P (x : FVec Ideal S8x2048x1024 .f32) (w : FVec Ideal S1x1024x2560 .f32) (b : Fin 8) (t : Fin 2048) (c : Fin 2560) : EReal :=
  ∑ k : Fin 1024, x (ix3 b t k) * w (ix3 0 k c)
/-- The first 1024 columns rotated by the row's angles. -/
def R (x : FVec Ideal S8x2048x1024 .f32) (w : FVec Ideal S1x1024x2560 .f32) (b : Fin 8) (t : Fin 2048) (c : Fin 1024) : EReal :=
  rotc (fun c => P x w b t ⟨c.1, by omega⟩) (fun d => ang (ix2 t d)) c

/-- The seven results: rotated, scaled queries transposed within heads and blocks of 512 rows; rotated keys; transposed
values; rotated keys and values again; the two branches. -/
def GQ (x : FVec Ideal S8x2048x1024 .f32) (w : FVec Ideal S1x1024x2560 .f32) : FVec Ideal S8x4x4x128x512 .bf16 := fun i =>
  R x w (i 0) ⟨512 * (i 2).1 + (i 4).1, by have : (i 2).1 < 4 := (i 2).2; have : (i 4).1 < 512 := (i 4).2; omega⟩
    ⟨128 * (i 1).1 + (i 3).1, by have : (i 1).1 < 4 := (i 1).2; have : (i 3).1 < 128 := (i 3).2; omega⟩ * sc
def GK (x : FVec Ideal S8x2048x1024 .f32) (w : FVec Ideal S1x1024x2560 .f32) : FVec Ideal S8x2048x512 .f32 := fun i =>
  R x w (i 0) (i 1) ⟨512 + (i 2).1, by have : (i 2).1 < 512 := (i 2).2; omega⟩
def GV (x : FVec Ideal S8x2048x1024 .f32) (w : FVec Ideal S1x1024x2560 .f32) : FVec Ideal S8x4x4x128x512 .bf16 := fun i =>
  P x w (i 0) ⟨512 * (i 2).1 + (i 4).1, by have : (i 2).1 < 4 := (i 2).2; have : (i 4).1 < 512 := (i 4).2; omega⟩
    ⟨1024 + (128 * (i 1).1 + (i 3).1), by have : (i 1).1 < 4 := (i 1).2; have : (i 3).1 < 128 := (i 3).2; omega⟩
def GLin (o : ℕ) (ho : o + 512 ≤ 2560) (x : FVec Ideal S8x2048x1024 .f32) (w : FVec Ideal S1x1024x2560 .f32) : FVec Ideal S8x2048x512 .f32 := fun i =>
  P x w (i 0) (i 1) ⟨o + (i 2).1, by have : (i 2).1 < 512 := (i 2).2; omega⟩

variable (m : (ℓ : Loc nD τ sig) → Buf (Elt Ideal) ℓ)

theorem idx : ∀ t : Fin cfg0.N, win0_0.index t = ![t.val % 8, t.val / 8, 0] ∧ win0_1.index t = ![0, 0] ∧ win0_2.index t = ![t.val / 8, 0] ∧ win0_3.index t = ![t.val / 8, 0]
    ∧ win0_4.index t = ![t.val / 8, 0] ∧ win0_5.index t = ![t.val % 8, 0, t.val / 8, 0, 0] ∧ win0_6.index t = ![t.val % 8, t.val / 8, 0]
    ∧ win0_7.index t = ![t.val % 8, 0, t.val / 8, 0, 0] ∧ win0_8.index t = ![t.val % 8, t.val / 8, 0] ∧ win0_9.index t = ![t.val % 8, t.val / 8, 0]
    ∧ win0_10.index t = ![t.val % 8, t.val / 8, 0] ∧ win0_11.index t = ![t.val % 8, t.val / 8, 0] :=
  (by decide +kernel : ∀ t : Fin grid0.N, _)

section
variable (c : Dev nD)
abbrev a0 : FVec Ideal S8x2048x1024 .f32 := m (c.tc.loc main_arg0)
abbrev a1 : FVec Ideal S1x1024x2560 .f32 := m (c.tc.loc main_arg1)

theorem v30 : (V m c main_v30 : FVec Ideal S2048x128 .f32) = tabv (Host.cos ang) (Host.cos ang) ones48 := by
  unfold V
  after_reads_simp
  rfl
theorem v33 : (V m c main_v33 : FVec Ideal S2048x128 .f32) = tabv zeros8 (Host.sin ang) zeros48 := by
  unfold V
  after_reads_simp
  rfl
theorem v36 : (V m c main_v36 : FVec Ideal S2048x128 .f32) = tabv (Host.negf (Host.sin ang)) zeros8 zeros48 := by
  unfold V
  after_reads_simp
  rfl

/-- The batch and the row of row `p` of grid point `t`'s block. -/
abbrev gb (t : Fin cfg0.N) : Fin 8 := ⟨t.val % 8, by omega⟩
abbrev gr (t : Fin cfg0.N) (p : Fin 512) : Fin 2048 := ⟨512 * (t.val / 8) + p.1, by have : t.val < 32 := t.2; omega⟩

theorem in0 (t : Fin cfg0.N) (p : Fin 512) (k : Fin 1024) :
    (iblk m c 0 t : FVec Ideal S1x512x1024 .f32) (ix3 0 p k) = a0 m c (ix3 (gb t) (gr t p) k) := by
  blk_ext [iblk, V, idx t]
theorem in1 (t : Fin cfg0.N) (k : Fin 1024) (j : Fin 2560) :
    (iblk m c 1 t : FVec Ideal S1024x2560 .bf16) (ix2 k j) = a1 m c (ix3 0 k j) := by
  have e : V m c main_v1 = truncf .bf16 (shapeCast S1024x2560 (a1 m c) Gen.shapeCasts_S1x1024x2560_S1024x2560) bitsLt_bf16_f32 := by
    unfold V
    after_reads_simp
    rfl
  have h : (iblk m c 1 t : FVec Ideal S1024x2560 .bf16) (ix2 k j) = (V m c main_v1 : FVec Ideal S1024x2560 .bf16) (ix2 k j) := by blk_ext [iblk, idx t]
  rw [h, e]
  pointwise []
theorem in2 (t : Fin cfg0.N) (p : Fin 512) (l : Fin 128) :
    (iblk m c 2 t : FVec Ideal S512x128 .f32) (ix2 p l)
      = tab (fun d => Ideal.cos (ang (ix2 (gr t p) d))) (fun d => Ideal.cos (ang (ix2 (gr t p) d))) 1 (l.1 % 64) := by
  have h : (iblk m c 2 t : FVec Ideal S512x128 .f32) (ix2 p l) = (V m c main_v30 : FVec Ideal S2048x128 .f32) (ix2 (gr t p) l) := by blk_ext [iblk, idx t]
  rw [h, v30, tabv_at _ _ _ _ _ 1 (fun d => by pointwise [ones48])]
  rfl
theorem in3 (t : Fin cfg0.N) (p : Fin 512) (l : Fin 128) :
    (iblk m c 3 t : FVec Ideal S512x128 .f32) (ix2 p l)
      = tab (fun _ => 0) (fun d => Ideal.sin (ang (ix2 (gr t p) d))) 0 (l.1 % 64) := by
  have h : (iblk m c 3 t : FVec Ideal S512x128 .f32) (ix2 p l) = (V m c main_v33 : FVec Ideal S2048x128 .f32) (ix2 (gr t p) l) := by blk_ext [iblk, idx t]
  have z : ∀ d : Fin 8, zeros8 (ix2 (gr t p) d) = 0 := fun d => by pointwise [zeros8]
  rw [h, v33, tabv_at _ _ _ _ _ 0 (fun d => by pointwise [zeros48])]
  simp only [z]
  rfl
theorem in4 (t : Fin cfg0.N) (p : Fin 512) (l : Fin 128) :
    (iblk m c 4 t : FVec Ideal S512x128 .f32) (ix2 p l)
      = tab (fun d => -Ideal.sin (ang (ix2 (gr t p) d))) (fun _ => 0) 0 (l.1 % 64) := by
  have h : (iblk m c 4 t : FVec Ideal S512x128 .f32) (ix2 p l) = (V m c main_v36 : FVec Ideal S2048x128 .f32) (ix2 (gr t p) l) := by blk_ext [iblk, idx t]
  have z : ∀ d : Fin 8, zeros8 (ix2 (gr t p) d) = 0 := fun d => by pointwise [zeros8]
  rw [h, v36, tabv_at _ _ _ _ _ 0 (fun d => by pointwise [zeros48])]
  simp only [z]
  rfl

theorem pr_eq (t : Fin cfg0.N) (p : Fin 512) (j : Fin 2560) : pr (iblk m c 0 t) (iblk m c 1 t) p j = P (a0 m c) (a1 m c) (gb t) (gr t p) j := by
  unfold pr P
  exact Finset.sum_congr rfl fun k _ => congrArg₂ (· * ·) (in0 m c t p k) (in1 m c t k j)
theorem rp_eq (t : Fin cfg0.N) (p : Fin 512) (j : Fin 1024) :
    rp (iblk m c 0 t) (iblk m c 1 t) p (fun d => ang (ix2 (gr t p) d)) j = R (a0 m c) (a1 m c) (gb t) (gr t p) j := by
  unfold rp R
  exact congrArg (fun g => rotc g _ j) (funext fun c' => pr_eq m c t p ⟨c'.1, by omega⟩)

theorem final5 : (dats (F := Ideal) m 0 c).arrAt 5 cfg0.N = GQ (a0 m c) (a1 m c) := by
  refine (dats m 0 c).arrAt_eq_of_covers 5 _ (by decide +kernel) fun t hf y => ?_
  rw [after0_5]
  blk_simp []
  have ht : t.val < 32 := t.2
  obtain ⟨n, hn⟩ : ∃ n : Fin 4, n = y 1 := ⟨y 1, rfl⟩
  obtain ⟨l, hl⟩ : ∃ l : Fin 128, l = y 3 := ⟨y 3, rfl⟩
  obtain ⟨p, hp⟩ : ∃ p : Fin 512, p = y 4 := ⟨y 4, rfl⟩
  have hy : y = (ix5 0 n 0 l p : S1x4x1x128x512.Idx) := by
    rw [hn, hl, hp]
    exact funext fun a => match a with
      | ⟨0, _⟩ => Subsingleton.elim (α := Fin 1) _ _ | ⟨1, _⟩ => rfl | ⟨2, _⟩ => Subsingleton.elim (α := Fin 1) _ _ | ⟨3, _⟩ => rfl | ⟨4, _⟩ => rfl
  rw [hy]
  have he : ∀ X : FVec Ideal S8x4x4x128x512 .bf16, X ((win0_5.blk t).view.emb (ix5 0 n 0 l p)) = X (ix5 (gb t) n ⟨t.val / 8, by omega⟩ l p) := fun X => by
    blk_ext [idx t]
  refine Eq.trans ?_ (he _).symm
  refine (out5_eq (iblk m c 0 t) (iblk m c 1 t) (iblk m c 2 t) (iblk m c 3 t) (iblk m c 4 t) (fun p d => ang (ix2 (gr t p) d)) (in2 m c t) (in3 m c t) (in4 m c t) _).trans ?_
  exact congrArg (· * sc) (rp_eq m c t p _)

theorem final6 : (dats (F := Ideal) m 0 c).arrAt 6 cfg0.N = (GK (a0 m c) (a1 m c) : FVec Ideal S8x2048x512 .bf16) := by
  refine (dats m 0 c).arrAt_eq_of_covers 6 _ (by decide +kernel) fun t hf y => ?_
  rw [after0_6]
  blk_simp []
  obtain ⟨p, hp⟩ : ∃ p : Fin 512, p = y 1 := ⟨y 1, rfl⟩
  obtain ⟨q, hq⟩ : ∃ q : Fin 512, q = y 2 := ⟨y 2, rfl⟩
  have hy : y = (ix3 0 p q : S1x512x512.Idx) := by
    rw [hp, hq, Subsingleton.elim (0 : Fin 1) (y 0)]
    exact (ix3_eta y).symm
  rw [hy]
  have he : ∀ X : FVec Ideal S8x2048x512 .bf16, X ((win0_6.blk t).view.emb (ix3 0 p q)) = X (ix3 (gb t) (gr t p) q) := fun X => by
    blk_ext [idx t]
  refine Eq.trans ?_ (he _).symm
  refine (out6_eq (iblk m c 0 t) (iblk m c 1 t) (iblk m c 2 t) (iblk m c 3 t) (iblk m c 4 t) (fun p d => ang (ix2 (gr t p) d)) (in2 m c t) (in3 m c t) (in4 m c t) _).trans ?_
  exact rp_eq m c t p _

theorem final7 : (dats (F := Ideal) m 0 c).arrAt 7 cfg0.N = GV (a0 m c) (a1 m c) := by
  refine (dats m 0 c).arrAt_eq_of_covers 7 _ (by decide +kernel) fun t hf y => ?_
  rw [after0_7]
  blk_simp []
  have ht : t.val < 32 := t.2
  obtain ⟨n, hn⟩ : ∃ n : Fin 4, n = y 1 := ⟨y 1, rfl⟩
  obtain ⟨l, hl⟩ : ∃ l : Fin 128, l = y 3 := ⟨y 3, rfl⟩
  obtain ⟨p, hp⟩ : ∃ p : Fin 512, p = y 4 := ⟨y 4, rfl⟩
  have hy : y = (ix5 0 n 0 l p : S1x4x1x128x512.Idx) := by
    rw [hn, hl, hp]
    exact funext fun a => match a with
      | ⟨0, _⟩ => Subsingleton.elim (α := Fin 1) _ _ | ⟨1, _⟩ => rfl | ⟨2, _⟩ => Subsingleton.elim (α := Fin 1) _ _ | ⟨3, _⟩ => rfl | ⟨4, _⟩ => rfl
  rw [hy]
  have he : ∀ X : FVec Ideal S8x4x4x128x512 .bf16, X ((win0_7.blk t).view.emb (ix5 0 n 0 l p)) = X (ix5 (gb t) n ⟨t.val / 8, by omega⟩ l p) := fun X => by
    blk_ext [idx t]
  refine Eq.trans ?_ (he _).symm
  refine (out7_eq (iblk m c 0 t) (iblk m c 1 t) (iblk m c 2 t) (iblk m c 3 t) (iblk m c 4 t) _).trans ?_
  exact pr_eq m c t p _

theorem final8 : (dats (F := Ideal) m 0 c).arrAt 8 cfg0.N = (GK (a0 m c) (a1 m c) : FVec Ideal S8x2048x512 .f32) := by
  refine (dats m 0 c).arrAt_eq_of_covers 8 _ (by decide +kernel) fun t hf y => ?_
  rw [after0_8]
  blk_simp []
  obtain ⟨p, hp⟩ : ∃ p : Fin 512, p = y 1 := ⟨y 1, rfl⟩
  obtain ⟨q, hq⟩ : ∃ q : Fin 512, q = y 2 := ⟨y 2, rfl⟩
  have hy : y = (ix3 0 p q : S1x512x512.Idx) := by
    rw [hp, hq, Subsingleton.elim (0 : Fin 1) (y 0)]
    exact (ix3_eta y).symm
  rw [hy]
  have he : ∀ X : FVec Ideal S8x2048x512 .f32, X ((win0_8.blk t).view.emb (ix3 0 p q)) = X (ix3 (gb t) (gr t p) q) := fun X => by
    blk_ext [idx t]
  refine Eq.trans ?_ (he _).symm
  refine (out8_eq (iblk m c 0 t) (iblk m c 1 t) (iblk m c 2 t) (iblk m c 3 t) (iblk m c 4 t) (fun p d => ang (ix2 (gr t p) d)) (in2 m c t) (in3 m c t) (in4 m c t) _).trans ?_
  exact rp_eq m c t p _

theorem final9 : (dats (F := Ideal) m 0 c).arrAt 9 cfg0.N = (GLin 1024 (by decide) (a0 m c) (a1 m c) : FVec Ideal S8x2048x512 .f32) := by
  refine (dats m 0 c).arrAt_eq_of_covers 9 _ (by decide +kernel) fun t hf y => ?_
  rw [after0_9]
  blk_simp []
  obtain ⟨p, hp⟩ : ∃ p : Fin 512, p = y 1 := ⟨y 1, rfl⟩
  obtain ⟨q, hq⟩ : ∃ q : Fin 512, q = y 2 := ⟨y 2, rfl⟩
  have hy : y = (ix3 0 p q : S1x512x512.Idx) := by
    rw [hp, hq, Subsingleton.elim (0 : Fin 1) (y 0)]
    exact (ix3_eta y).symm
  rw [hy]
  have he : ∀ X : FVec Ideal S8x2048x512 .f32, X ((win0_9.blk t).view.emb (ix3 0 p q)) = X (ix3 (gb t) (gr t p) q) := fun X => by
    blk_ext [idx t]
  refine Eq.trans ?_ (he _).symm
  refine (out9_at (iblk m c 0 t) (iblk m c 1 t) (iblk m c 2 t) (iblk m c 3 t) (iblk m c 4 t) p q).trans ?_
  exact pr_eq m c t p _

theorem final10 : (dats (F := Ideal) m 0 c).arrAt 10 cfg0.N = (GLin 1536 (by decide) (a0 m c) (a1 m c) : FVec Ideal S8x2048x512 .f32) := by
  refine (dats m 0 c).arrAt_eq_of_covers 10 _ (by decide +kernel) fun t hf y => ?_
  rw [after0_10]
  blk_simp []
  obtain ⟨p, hp⟩ : ∃ p : Fin 512, p = y 1 := ⟨y 1, rfl⟩
  obtain ⟨q, hq⟩ : ∃ q : Fin 512, q = y 2 := ⟨y 2, rfl⟩
  have hy : y = (ix3 0 p q : S1x512x512.Idx) := by
    rw [hp, hq, Subsingleton.elim (0 : Fin 1) (y 0)]
    exact (ix3_eta y).symm
  rw [hy]
  have he : ∀ X : FVec Ideal S8x2048x512 .f32, X ((win0_10.blk t).view.emb (ix3 0 p q)) = X (ix3 (gb t) (gr t p) q) := fun X => by
    blk_ext [idx t]
  refine Eq.trans ?_ (he _).symm
  refine (out10_at (iblk m c 0 t) (iblk m c 1 t) (iblk m c 2 t) (iblk m c 3 t) (iblk m c 4 t) p q).trans ?_
  exact pr_eq m c t p _

theorem final11 : (dats (F := Ideal) m 0 c).arrAt 11 cfg0.N = (GLin 2048 (by decide) (a0 m c) (a1 m c) : FVec Ideal S8x2048x512 .f32) := by
  refine (dats m 0 c).arrAt_eq_of_covers 11 _ (by decide +kernel) fun t hf y => ?_
  rw [after0_11]
  blk_simp []
  obtain ⟨p, hp⟩ : ∃ p : Fin 512, p = y 1 := ⟨y 1, rfl⟩
  obtain ⟨q, hq⟩ : ∃ q : Fin 512, q = y 2 := ⟨y 2, rfl⟩
  have hy : y = (ix3 0 p q : S1x512x512.Idx) := by
    rw [hp, hq, Subsingleton.elim (0 : Fin 1) (y 0)]
    exact (ix3_eta y).symm
  rw [hy]
  have he : ∀ X : FVec Ideal S8x2048x512 .f32, X ((win0_11.blk t).view.emb (ix3 0 p q)) = X (ix3 (gb t) (gr t p) q) := fun X => by
    blk_ext [idx t]
  refine Eq.trans ?_ (he _).symm
  refine (out11_at (iblk m c 0 t) (iblk m c 1 t) (iblk m c 2 t) (iblk m c 3 t) (iblk m c 4 t) p q).trans ?_
  exact pr_eq m c t p _
end

end Cert.Proj.Prompt
end
end
-- ==== Proof.Proj.PromptRef.lean ====
module

public import proofs.«01_k».proof.Proof.Gen.Reference2Ideal.Read
public import proofs.«01_k».proof.Proof.Proj.PromptKernel

@[expose] public section
set_option maxRecDepth 16384
noncomputable section
namespace Cert.Proj.PromptRef
open Idealize.ShloMosaic Cert.Reference2Ideal Cert.Reference2Ideal.Read Idealize.SL.Sem

/-! The projection of the prompt: the reference's seven results. -/

theorem ang1 : val_main_v20 (F := Ideal) = Prompt.ang := rfl
theorem ang2 : val_main_v62 (F := Ideal) = Prompt.ang := rfl

variable (x : FVec Ideal S8x2048x1024 .f32) (w : FVec Ideal S1x1024x2560 .f32)

theorem v85_at (b : Fin 8) (t : Fin 2048) (c : Fin 4) (e : Fin 2) (d : Fin 64) :
    val_main_v85 (F := Ideal) x w (ix5 b t c e d) = Prompt.R x w b t ⟨512 + (c.1 * 128 + e.1 * 64 + d.1), by omega⟩ := by
  refine Eq.trans ?_ (congrArg (fun A : FVec Ideal S2048x8 .f32 => rotc (fun c => Prompt.P x w b t ⟨c.1, by omega⟩) (fun d => A (ix2 t d)) ⟨512 + (c.1 * 128 + e.1 * 64 + d.1), by omega⟩) ang2)
  refine Eq.trans ?_ (head_eq (fun c => Prompt.P x w b t ⟨c.1, by omega⟩) (fun d => val_main_v62 (F := Ideal) (ix2 t d)) 512 (by decide) (by decide) c e d)
  pointwise [val_main_v85, val_main_v83, val_main_v84, val_main_v75, val_main_v82, val_main_v71, val_main_v74, val_main_v78, val_main_v81, val_main_v67, val_main_v68, val_main_v46, val_main_v45, val_main_v70, val_main_v69, val_main_v64, val_main_v63, val_main_v73, val_main_v72,
     val_main_v66, val_main_v65, val_main_v77, val_main_v76, val_main_v80, val_main_v79, val_main_v2, val_main_v0]
  rfl
theorem v43_at (b : Fin 8) (t : Fin 2048) (c : Fin 4) (e : Fin 2) (d : Fin 64) :
    val_main_v43 (F := Ideal) x w (ix5 b t c e d) = Prompt.R x w b t ⟨c.1 * 128 + e.1 * 64 + d.1, by omega⟩ := by
  refine Eq.trans ?_ (congrArg (fun A : FVec Ideal S2048x8 .f32 => rotc (fun c => Prompt.P x w b t ⟨c.1, by omega⟩) (fun d => A (ix2 t d)) ⟨c.1 * 128 + e.1 * 64 + d.1, by omega⟩) ang1)
  have h := head_eq (fun c => Prompt.P x w b t ⟨c.1, by omega⟩) (fun d => val_main_v20 (F := Ideal) (ix2 t d)) 0 (by decide) (by decide) c e d
  simp only [Nat.zero_add] at h
  refine Eq.trans ?_ h
  pointwise [val_main_v43, val_main_v41, val_main_v42, val_main_v33, val_main_v40, val_main_v29, val_main_v32, val_main_v36, val_main_v39, val_main_v25, val_main_v26, val_main_v4, val_main_v3, val_main_v28, val_main_v27, val_main_v22, val_main_v21, val_main_v31, val_main_v30,
     val_main_v24, val_main_v23, val_main_v35, val_main_v34, val_main_v38, val_main_v37, val_main_v2, val_main_v0]
  rfl

theorem ix5_eta (i : S8x4x4x128x512.Idx) : i = (ix5 (i 0) (i 1) (i 2) (i 3) (i 4) : S8x4x4x128x512.Idx) :=
  funext fun a => match a with | ⟨0, _⟩ => rfl | ⟨1, _⟩ => rfl | ⟨2, _⟩ => rfl | ⟨3, _⟩ => rfl | ⟨4, _⟩ => rfl
theorem R_congr (b : Fin 8) (t t' : Fin 2048) (c c' : Fin 1024) (ht : t.1 = t'.1) (hc : c.1 = c'.1) : Prompt.R x w b t c = Prompt.R x w b t' c' := by
  rw [Fin.ext ht, Fin.ext hc]
theorem P_congr (b : Fin 8) (t t' : Fin 2048) (c c' : Fin 2560) (ht : t.1 = t'.1) (hc : c.1 = c'.1) : Prompt.P x w b t c = Prompt.P x w b t' c' := by
  rw [Fin.ext ht, Fin.ext hc]

theorem k_at (b : Fin 8) (t : Fin 2048) (j : Fin 512) : val_main_v86 (F := Ideal) x w (ix3 b t j) = Prompt.GK x w (ix3 b t j) := by
  pointwise [val_main_v86]
  rw [v85_at]
  exact R_congr x w b t t _ _ rfl (by show 512 + (j.1 / 128 * 128 + j.1 / 64 % 2 * 64 + j.1 % 64) = 512 + j.1; omega)
theorem k_eq : val_main_v86 (F := Ideal) x w = Prompt.GK x w := funext fun i => by
  rw [← ix3_eta i]
  exact k_at x w _ _ _
theorem kb_eq : val_main_v95 (F := Ideal) x w = Prompt.GK x w := funext fun i => by
  rw [← ix3_eta i]
  refine Eq.trans ?_ (k_at x w _ _ _)
  pointwise [val_main_v95]
theorem v_eq : val_main_v87 (F := Ideal) x w = Prompt.GLin 1024 (by decide) x w := funext fun i => by
  rw [← ix3_eta i]
  pointwise [val_main_v87, val_main_v2, val_main_v0]
  rfl
theorem xr_eq : val_main_v88 (F := Ideal) x w = Prompt.GLin 1536 (by decide) x w := funext fun i => by
  rw [← ix3_eta i]
  pointwise [val_main_v88, val_main_v2, val_main_v0]
  rfl
theorem gate_eq : val_main_v89 (F := Ideal) x w = Prompt.GLin 2048 (by decide) x w := funext fun i => by
  rw [← ix3_eta i]
  pointwise [val_main_v89, val_main_v2, val_main_v0]
  rfl
theorem vt_at (b : Fin 8) (n s : Fin 4) (l : Fin 128) (p : Fin 512) : val_main_v98 (F := Ideal) x w (ix5 b n s l p) = Prompt.GV x w (ix5 b n s l p) := by
  pointwise [val_main_v98, val_main_v97, val_main_v96, val_main_v87, val_main_v2, val_main_v0]
  exact P_congr x w b _ _ _ _ (by show s.1 * 512 + p.1 = 512 * s.1 + p.1; omega) (by show 1024 + (n.1 * 128 + l.1) = 1024 + (128 * n.1 + l.1); omega)
theorem q_at (b : Fin 8) (n s : Fin 4) (l : Fin 128) (p : Fin 512) : val_main_v94 (F := Ideal) x w (ix5 b n s l p) = Prompt.GQ x w (ix5 b n s l p) := by
  pointwise [val_main_v94, val_main_v93, val_main_v92, val_main_v91, val_main_v44, val_main_v90, val_main_cst_7]
  rw [v43_at]
  refine congrArg (· * _) (R_congr x w b _ _ _ _ ?_ ?_)
  · show s.1 * 512 + p.1 = 512 * s.1 + p.1
    omega
  · show n.1 * 128 + (n.1 * 128 + l.1) / 64 % 2 * 64 + (n.1 * 128 + l.1) % 64 = 128 * n.1 + l.1
    omega
theorem vt_eq : val_main_v98 (F := Ideal) x w = Prompt.GV x w := funext fun i => by
  rw [ix5_eta i]
  exact vt_at x w _ _ _ _ _
theorem q_eq : val_main_v94 (F := Ideal) x w = Prompt.GQ x w := funext fun i => by
  rw [ix5_eta i]
  exact q_at x w _ _ _ _ _
end Cert.Proj.PromptRef
end
end
-- ==== Proof.Proj.SampleBlocks.lean ====
module

public import proofs.«01_k».proof.Proof.Gen.Kernel3Ideal.Value
public import proofs.«01_k».proof.Proof.Proj.Rot
public import Idealize.ShloMosaic.Lib.Claim
public import Idealize.ShloMosaic.Lib.Pointwise
public import Idealize.ShloMosaic.Lib.Pipeline.ValueKit

@[expose] public section
set_option maxRecDepth 16384
noncomputable section
namespace Cert.Proj.Sample
open Idealize.ShloMosaic Cert.Kernel3Ideal Cert.Kernel3Ideal.Gen Idealize.SL.Sem

/-! The projection of the samples: what the body leaves in its blocks. -/

section
variable (v4 v6 v8 : FVec Ideal S256x128 .f32) (v11 : FVec Ideal S256x1024 .f32) (p : Fin 256) (l : Fin 128)
/-- The lane formula at row `p` of a block. -/
abbrev ln (o : ℕ) (ho : o + 128 ≤ 1024) : EReal := lane (fun c => v11 (ix2 p c)) o ho (v4 (ix2 p l)) (v6 (ix2 p l)) (v8 (ix2 p l)) l
abbrev sc : EReal := Ideal.ofBits .f32 1040187392#32

theorem pay16_at : k0_pay16 (F := Ideal) v4 v6 v8 v11 (ix3 0 p l) = ln v4 v6 v8 v11 p l 640 (by decide) := by
  pointwise [k0_pay16, k0_pay15]
  rfl
theorem pay22_at : k0_pay22 (F := Ideal) v4 v6 v8 v11 (ix3 0 p l) = ln v4 v6 v8 v11 p l 768 (by decide) := by
  pointwise [k0_pay22, k0_pay21]
  rfl
theorem pay27_at : k0_pay27 (F := Ideal) v4 v6 v8 v11 (ix3 0 p l) = ln v4 v6 v8 v11 p l 896 (by decide) := by
  pointwise [k0_pay27, k0_pay26]
  rfl
theorem pay17_at : k0_pay17 (F := Ideal) v4 v6 v8 v11 (ix3 0 p l) = ln v4 v6 v8 v11 p l 640 (by decide) := by
  pointwise [k0_pay17, k0_pay15]
  rfl
theorem pay23_at : k0_pay23 (F := Ideal) v4 v6 v8 v11 (ix3 0 p l) = ln v4 v6 v8 v11 p l 768 (by decide) := by
  pointwise [k0_pay23, k0_pay21]
  rfl
theorem pay28_at : k0_pay28 (F := Ideal) v4 v6 v8 v11 (ix3 0 p l) = ln v4 v6 v8 v11 p l 896 (by decide) := by
  pointwise [k0_pay28, k0_pay26]
  rfl
theorem pay14_at : k0_pay14 (F := Ideal) v4 v6 v8 v11 (ix3 0 p l) = ln v4 v6 v8 v11 p l 128 (by decide) * sc := by
  pointwise [k0_pay14]
  rfl
theorem pay20_at : k0_pay20 (F := Ideal) v6 v8 (k0_pay18 (F := Ideal) v11) (k0_pay19 (F := Ideal) v4 v11) (ix3 0 p l) = ln v4 v6 v8 v11 p l 256 (by decide) * sc := by
  pointwise [k0_pay20, k0_pay18, k0_pay19]
  rfl
theorem pay25_at : k0_pay25 (F := Ideal) (k0_pay24 (F := Ideal) v4 v6 v8 v11) (ix3 0 p l) = ln v4 v6 v8 v11 p l 384 (by decide) * sc := by
  pointwise [k0_pay25, k0_pay24]
  rfl
end

section
variable (x0 : FVec Ideal S1x256x1024 .f32) (x1 : FVec Ideal S1024x2560 .bf16) (x2 x3 x4 : FVec Ideal S256x128 .f32) (p : Fin 256)
/-- The product's row `p` at column `c`. -/
def pr (c : Fin 2560) : EReal := ∑ k : Fin 1024, x0 (ix3 0 p k) * x1 (ix2 k c)

theorem hz2 : (![0, 0] : Fin 2 → ℕ) = fun _ => 0 := by decide
theorem hz3 : (![0, 0, 0] : Fin 3 → ℕ) = fun _ => 0 := by decide
theorem ld2 (k : Fin 1024) (j : Fin 1024) : View.ld (Val := Elt Ideal) (e' := .bf16) x1 r0_2 (ix2 k j) = x1 (ix2 k ⟨j.1, by omega⟩) := by
  rw [View.ld_unit]
  pointwise []
theorem ld7 (k : Fin 1024) (j : Fin 512) : View.ld (Val := Elt Ideal) (e' := .bf16) x1 r0_7 (ix2 k j) = x1 (ix2 k ⟨1024 + j.1, by omega⟩) := by
  rw [View.ld_unit]
  pointwise []
theorem ld9 (k : Fin 1024) (j : Fin 512) : View.ld (Val := Elt Ideal) (e' := .bf16) x1 r0_9 (ix2 k j) = x1 (ix2 k ⟨1536 + j.1, by omega⟩) := by
  rw [View.ld_unit]
  pointwise []
theorem ld10 (k : Fin 1024) (j : Fin 512) : View.ld (Val := Elt Ideal) (e' := .bf16) x1 r0_10 (ix2 k j) = x1 (ix2 k ⟨2048 + j.1, by omega⟩) := by
  rw [View.ld_unit]
  pointwise []
theorem pay33_at (k : Fin 1024) : k0_pay33 (F := Ideal) x0 x1 x2 x3 x4 (ix2 p k) = x0 (ix3 0 p k) := by
  unfold k0_pay33
  rw [View.ld_unit_zero (S := S1x256x1024) hz3]
  pointwise [k0_pay5]
theorem pay34_at (l : Fin 128) : k0_pay34 (F := Ideal) x0 x1 x2 x3 x4 (ix2 p l) = x2 (ix2 p l) := by
  unfold k0_pay34
  rw [View.ld_unit_zero (S := S256x128) hz2]
  pointwise [k0_pay6]
theorem pay35_at (l : Fin 128) : k0_pay35 (F := Ideal) x0 x1 x2 x3 x4 (ix2 p l) = x3 (ix2 p l) := by
  unfold k0_pay35
  rw [View.ld_unit_zero (S := S256x128) hz2]
  pointwise [k0_pay7]
theorem pay36_at (l : Fin 128) : k0_pay36 (F := Ideal) x0 x1 x2 x3 x4 (ix2 p l) = x4 (ix2 p l) := by
  unfold k0_pay36
  rw [View.ld_unit_zero (S := S256x128) hz2]
  pointwise [k0_pay8]
theorem prod_at (v : FVec Ideal S1x256x1024 .f32) (w : FVec Ideal S1024x1024 .bf16) (c : Fin 1024) :
    k0_pay9 (F := Ideal) v w (ix2 p c) = ∑ k : Fin 1024, v (ix3 0 p k) * w (ix2 k c) := by
  pointwise [k0_pay9, k0_pay5]
theorem pay37_at (c : Fin 1024) : k0_pay37 (F := Ideal) x0 x1 x2 x3 x4 (ix2 p c) = pr x0 x1 p ⟨c.1, by omega⟩ := by
  unfold k0_pay37
  rw [View.ld_unit_zero (S := S1x256x1024) hz3]
  refine (prod_at p _ _ c).trans ?_
  unfold pr
  exact Finset.sum_congr rfl fun k _ => congrArg (x0 (ix3 0 p k) * ·) (ld2 x1 k c)
theorem pay10_at (l : Fin 128) : k0_pay10 (F := Ideal) (View.ld x0 r0_0) (View.ld x2 r0_1) (View.ld x3 r0_1) (View.ld x4 r0_1) (View.ld x1 r0_2)
    (ix3 0 p l) = ln (k0_pay34 (F := Ideal) x0 x1 x2 x3 x4) (k0_pay35 (F := Ideal) x0 x1 x2 x3 x4) (k0_pay36 (F := Ideal) x0 x1 x2 x3 x4) (k0_pay37 (F := Ideal) x0 x1 x2 x3 x4) p l 0 (by decide) * sc := by
  pointwise [k0_pay10, k0_pay34, k0_pay35, k0_pay36, k0_pay37]
  simp only [lane, Nat.zero_add]
theorem pay13_at (l : Fin 128) : k0_pay13 (F := Ideal) (k0_pay38 (F := Ideal) x0 x1 x2 x3 x4) (ix3 0 p l)
     = ln (k0_pay34 (F := Ideal) x0 x1 x2 x3 x4) (k0_pay35 (F := Ideal) x0 x1 x2 x3 x4) (k0_pay36 (F := Ideal) x0 x1 x2 x3 x4) (k0_pay37 (F := Ideal) x0 x1 x2 x3 x4) p l 512 (by decide) := by
  pointwise [k0_pay13, k0_pay38, k0_pay11, k0_pay34, k0_pay35, k0_pay36, k0_pay37]
  rfl
theorem pay12_at (l : Fin 128) : k0_pay12 (F := Ideal) (k0_pay38 (F := Ideal) x0 x1 x2 x3 x4) (ix3 0 p l)
     = ln (k0_pay34 (F := Ideal) x0 x1 x2 x3 x4) (k0_pay35 (F := Ideal) x0 x1 x2 x3 x4) (k0_pay36 (F := Ideal) x0 x1 x2 x3 x4) (k0_pay37 (F := Ideal) x0 x1 x2 x3 x4) p l 512 (by decide) := by
  pointwise [k0_pay12, k0_pay38, k0_pay11, k0_pay34, k0_pay35, k0_pay36, k0_pay37]
  rfl

/-- The rotated product at column `c` of its first 1024, given the angles of row `p`. -/
abbrev rp (a : Fin 8 → EReal) (c : Fin 1024) : EReal := rotc (fun c => pr x0 x1 p ⟨c.1, by omega⟩) a c

variable (a : Fin 256 → Fin 8 → EReal)
  (h2 : ∀ (p : Fin 256) (l : Fin 128), x2 (ix2 p l) = tab (fun d => Ideal.cos (a p d)) (fun d => Ideal.cos (a p d)) 1 (l.1 % 64))
  (h3 : ∀ (p : Fin 256) (l : Fin 128), x3 (ix2 p l) = tab (fun _ => 0) (fun d => Ideal.sin (a p d)) 0 (l.1 % 64))
  (h4 : ∀ (p : Fin 256) (l : Fin 128), x4 (ix2 p l) = tab (fun d => -Ideal.sin (a p d)) (fun _ => 0) 0 (l.1 % 64))

include h2 h3 h4 in
theorem ln_rp (l : Fin 128) (o : ℕ) (ho : o + 128 ≤ 1024) (h64 : o % 64 = 0) :
    ln (k0_pay34 (F := Ideal) x0 x1 x2 x3 x4) (k0_pay35 (F := Ideal) x0 x1 x2 x3 x4) (k0_pay36 (F := Ideal) x0 x1 x2 x3 x4) (k0_pay37 (F := Ideal) x0 x1 x2 x3 x4) p l o ho
      = rp x0 x1 p (a p) ⟨o + l.1, by omega⟩ := by
  have e : (fun c => k0_pay37 (F := Ideal) x0 x1 x2 x3 x4 (ix2 p c)) = (fun c => pr x0 x1 p ⟨c.1, by omega⟩) := funext fun c => pay37_at ..
  unfold ln
  rw [e]
  exact lane_eq _ (a p) o ho h64 l _ _ _ ((pay34_at ..).trans (h2 p l)) ((pay35_at ..).trans (h3 p l)) ((pay36_at ..).trans (h4 p l))

/-- What the body leaves in the blocks of the rotated keys. -/
def KB : FVec Ideal S1x256x512 .f32 := fun y => rp x0 x1 (y 1) (a (y 1)) ⟨512 + (y 2).1, by have : (y 2).1 < 512 := (y 2).2; omega⟩
/-- What the body leaves in the block of the rotated, scaled queries. -/
def QB : FVec Ideal S1x256x512 .bf16 := fun y => rp x0 x1 (y 1) (a (y 1)) ⟨(y 2).1, by have : (y 2).1 < 512 := (y 2).2; omega⟩ * sc
/-- What the body leaves in the block of the values. -/
def VB : FVec Ideal S1x256x512 .bf16 := fun y => pr x0 x1 (y 1) ⟨1024 + (y 2).1, by have : (y 2).1 < 512 := (y 2).2; omega⟩

theorem kb_emb (p : Fin 256) (y : S1x256x512.Idx) (c : Fin 1024)
    (h1 : y 1 = p) (hc : c.1 = 512 + (y 2).1) : rp x0 x1 p (a p) c = KB x0 x1 a y := by
  subst h1
  exact congrArg (rp x0 x1 (y 1) (a (y 1))) (Fin.ext hc)
theorem qb_emb (p : Fin 256) (y : S1x256x512.Idx) (c : Fin 1024)
    (h1 : y 1 = p) (hc : c.1 = (y 2).1) : rp x0 x1 p (a p) c * sc = QB x0 x1 a y := by
  subst h1
  exact congrArg (rp x0 x1 (y 1) (a (y 1)) · * sc) (Fin.ext hc)
theorem vb_emb (p : Fin 256) (y : S1x256x512.Idx) (c : Fin 2560)
    (h1 : y 1 = p) (hc : c.1 = 1024 + (y 2).1) : pr x0 x1 p c = VB x0 x1 y := by
  subst h1
  exact congrArg (pr x0 x1 (y 1)) (Fin.ext hc)
theorem ix_k (x : S1x256x128.Idx) : ∃ (p : Fin 256) (l : Fin 128), x = (ix3 0 p l : S1x256x128.Idx) :=
  ⟨x 1, x 2, by rw [Subsingleton.elim (0 : Fin 1) (x 0)]; exact (ix3_eta x).symm⟩

theorem mm_at (v : FVec Ideal S256x1024 .bf16) (w : FVec Ideal S1024x512 .bf16) (p : Fin 256) (j : Fin 512) :
    k0_pay29 (F := Ideal) v w (ix2 p j) = ∑ k : Fin 1024, v (ix2 p k) * w (ix2 k j) := by
  pointwise [k0_pay29]
theorem pay30_at (v : FVec Ideal S256x1024 .bf16) (w : FVec Ideal S1024x512 .bf16) (p : Fin 256) (j : Fin 512) :
    k0_pay30 (F := Ideal) v w (ix3 0 p j) = ∑ k : Fin 1024, v (ix2 p k) * w (ix2 k j) := by
  pointwise [k0_pay30, k0_pay29]
theorem pay3_at (v : FVec Ideal S256x1024 .bf16) (w : FVec Ideal S1024x512 .bf16) (p : Fin 256) (j : Fin 512) :
    k0_pay3 (F := Ideal) v w (ix3 0 p j) = ∑ k : Fin 1024, v (ix2 p k) * w (ix2 k j) := by
  pointwise [k0_pay3]
theorem pay4_at (v : FVec Ideal S256x1024 .bf16) (w : FVec Ideal S1024x512 .bf16) (p : Fin 256) (j : Fin 512) :
    k0_pay4 (F := Ideal) v w (ix3 0 p j) = ∑ k : Fin 1024, v (ix2 p k) * w (ix2 k j) := by
  pointwise [k0_pay4]
theorem v_at (j : Fin 512) : k0_pay29 (F := Ideal) (k0_pay33 (F := Ideal) x0 x1 x2 x3 x4) (View.ld x1 r0_7) (ix2 p j) = pr x0 x1 p ⟨1024 + j.1, by omega⟩ := by
  refine (mm_at _ _ p j).trans ?_
  unfold pr
  exact Finset.sum_congr rfl fun k _ => congrArg₂ (· * ·) (pay33_at ..) (ld7 x1 k j)
theorem pay2_at (l : Fin 128) : k0_pay2 (F := Ideal) (k0_pay39 (F := Ideal) x0 x1 x2 x3 x4) (ix3 0 p l) = pr x0 x1 p ⟨1024 + (384 + l.1), by omega⟩ := by
  have e : k0_pay2 (F := Ideal) (k0_pay39 (F := Ideal) x0 x1 x2 x3 x4) (ix3 0 p l) = k0_pay29 (F := Ideal) (k0_pay33 (F := Ideal) x0 x1 x2 x3 x4) (View.ld x1 r0_7) (ix2 p ⟨384 + l.1, by omega⟩) := by
    pointwise [k0_pay2, k0_pay39]
    try simp only [Nat.zero_add]
    try rfl
  exact e.trans (v_at ..)
theorem pay1_at (l : Fin 128) : k0_pay1 (F := Ideal) (k0_pay39 (F := Ideal) x0 x1 x2 x3 x4) (ix3 0 p l) = pr x0 x1 p ⟨1024 + (256 + l.1), by omega⟩ := by
  have e : k0_pay1 (F := Ideal) (k0_pay39 (F := Ideal) x0 x1 x2 x3 x4) (ix3 0 p l) = k0_pay29 (F := Ideal) (k0_pay33 (F := Ideal) x0 x1 x2 x3 x4) (View.ld x1 r0_7) (ix2 p ⟨256 + l.1, by omega⟩) := by
    pointwise [k0_pay1, k0_pay39]
    try simp only [Nat.zero_add]
    try rfl
  exact e.trans (v_at ..)
theorem pay32_at (l : Fin 128) : k0_pay32 (F := Ideal) (k0_pay33 (F := Ideal) x0 x1 x2 x3 x4) (View.ld x1 r0_7) (ix3 0 p l) = pr x0 x1 p ⟨1024 + (128 + l.1), by omega⟩ := by
  have e : k0_pay32 (F := Ideal) (k0_pay33 (F := Ideal) x0 x1 x2 x3 x4) (View.ld x1 r0_7) (ix3 0 p l) = k0_pay29 (F := Ideal) (k0_pay33 (F := Ideal) x0 x1 x2 x3 x4) (View.ld x1 r0_7) (ix2 p ⟨128 + l.1, by omega⟩) := by
    pointwise [k0_pay32]
    try simp only [Nat.zero_add]
    try rfl
  exact e.trans (v_at ..)
theorem pay31_at (l : Fin 128) : k0_pay31 (F := Ideal) (k0_pay33 (F := Ideal) x0 x1 x2 x3 x4) (View.ld x1 r0_7) (ix3 0 p l) = pr x0 x1 p ⟨1024 + (0 + l.1), by omega⟩ := by
  have e : k0_pay31 (F := Ideal) (k0_pay33 (F := Ideal) x0 x1 x2 x3 x4) (View.ld x1 r0_7) (ix3 0 p l) = k0_pay29 (F := Ideal) (k0_pay33 (F := Ideal) x0 x1 x2 x3 x4) (View.ld x1 r0_7) (ix2 p ⟨0 + l.1, by omega⟩) := by
    pointwise [k0_pay31]
    try simp only [Nat.zero_add]
    try rfl
  exact e.trans (v_at ..)
include h2 h3 h4 in
theorem out8_eq (y : S1x256x512.Idx) : out0_8 (F := Ideal) x0 x1 x2 x3 x4 y = KB x0 x1 a y := by
  unfold out0_8
  refine View.canon_apply_of_pieces (Val := Elt Ideal) (e := .f32) (KB x0 x1 a) _ ?_ y (cover0_8 _ _ _ _ y)
  intro pc hpc
  rcases List.mem_cons.mp hpc with rfl | hpc
  · intro x
    obtain ⟨p, l, rfl⟩ := ix_k x
    refine (pay27_at ..).trans ((ln_rp x0 x1 x2 x3 x4 p a h2 h3 h4 l 896 _ (by decide)).trans (kb_emb x0 x1 a p _ _ ?_ ?_))
    · exact Fin.ext (by show 0 + 1 * p.1 = p.1; omega)
    · show 896 + l.1 = 512 + (384 + 1 * l.1); omega
  rcases List.mem_cons.mp hpc with rfl | hpc
  · intro x
    obtain ⟨p, l, rfl⟩ := ix_k x
    refine (pay22_at ..).trans ((ln_rp x0 x1 x2 x3 x4 p a h2 h3 h4 l 768 _ (by decide)).trans (kb_emb x0 x1 a p _ _ ?_ ?_))
    · exact Fin.ext (by show 0 + 1 * p.1 = p.1; omega)
    · show 768 + l.1 = 512 + (256 + 1 * l.1); omega
  rcases List.mem_cons.mp hpc with rfl | hpc
  · intro x
    obtain ⟨p, l, rfl⟩ := ix_k x
    refine (pay16_at ..).trans ((ln_rp x0 x1 x2 x3 x4 p a h2 h3 h4 l 640 _ (by decide)).trans (kb_emb x0 x1 a p _ _ ?_ ?_))
    · exact Fin.ext (by show 0 + 1 * p.1 = p.1; omega)
    · show 640 + l.1 = 512 + (128 + 1 * l.1); omega
  rcases List.mem_cons.mp hpc with rfl | hpc
  · intro x
    obtain ⟨p, l, rfl⟩ := ix_k x
    refine (pay12_at ..).trans ((ln_rp x0 x1 x2 x3 x4 p a h2 h3 h4 l 512 _ (by decide)).trans (kb_emb x0 x1 a p _ _ ?_ ?_))
    · exact Fin.ext (by show 0 + 1 * p.1 = p.1; omega)
    · show 512 + l.1 = 512 + (0 + 1 * l.1); omega
  nomatch hpc
include h2 h3 h4 in
theorem out6_eq (y : S1x256x512.Idx) : out0_6 (F := Ideal) x0 x1 x2 x3 x4 y = KB x0 x1 a y := by
  unfold out0_6
  refine View.canon_apply_of_pieces (Val := Elt Ideal) (e := .bf16) (KB x0 x1 a) _ ?_ y (cover0_6 _ _ _ _ y)
  intro pc hpc
  rcases List.mem_cons.mp hpc with rfl | hpc
  · intro x
    obtain ⟨p, l, rfl⟩ := ix_k x
    refine (pay28_at ..).trans ((ln_rp x0 x1 x2 x3 x4 p a h2 h3 h4 l 896 _ (by decide)).trans (kb_emb x0 x1 a p _ _ ?_ ?_))
    · exact Fin.ext (by show 0 + 1 * p.1 = p.1; omega)
    · show 896 + l.1 = 512 + (384 + 1 * l.1); omega
  rcases List.mem_cons.mp hpc with rfl | hpc
  · intro x
    obtain ⟨p, l, rfl⟩ := ix_k x
    refine (pay23_at ..).trans ((ln_rp x0 x1 x2 x3 x4 p a h2 h3 h4 l 768 _ (by decide)).trans (kb_emb x0 x1 a p _ _ ?_ ?_))
    · exact Fin.ext (by show 0 + 1 * p.1 = p.1; omega)
    · show 768 + l.1 = 512 + (256 + 1 * l.1); omega
  rcases List.mem_cons.mp hpc with rfl | hpc
  · intro x
    obtain ⟨p, l, rfl⟩ := ix_k x
    refine (pay17_at ..).trans ((ln_rp x0 x1 x2 x3 x4 p a h2 h3 h4 l 640 _ (by decide)).trans (kb_emb x0 x1 a p _ _ ?_ ?_))
    · exact Fin.ext (by show 0 + 1 * p.1 = p.1; omega)
    · show 640 + l.1 = 512 + (128 + 1 * l.1); omega
  rcases List.mem_cons.mp hpc with rfl | hpc
  · intro x
    obtain ⟨p, l, rfl⟩ := ix_k x
    refine (pay13_at ..).trans ((ln_rp x0 x1 x2 x3 x4 p a h2 h3 h4 l 512 _ (by decide)).trans (kb_emb x0 x1 a p _ _ ?_ ?_))
    · exact Fin.ext (by show 0 + 1 * p.1 = p.1; omega)
    · show 512 + l.1 = 512 + (0 + 1 * l.1); omega
  nomatch hpc
include h2 h3 h4 in
theorem out5_eq (y : S1x256x512.Idx) : out0_5 (F := Ideal) x0 x1 x2 x3 x4 y = QB x0 x1 a y := by
  unfold out0_5
  refine View.canon_apply_of_pieces (Val := Elt Ideal) (e := .bf16) (QB x0 x1 a) _ ?_ y (cover0_5 _ _ _ _ y)
  intro pc hpc
  rcases List.mem_cons.mp hpc with rfl | hpc
  · intro x
    obtain ⟨p, l, rfl⟩ := ix_k x
    refine (pay25_at ..).trans ((congrArg (· * sc) (ln_rp x0 x1 x2 x3 x4 p a h2 h3 h4 l 384 _ (by decide))).trans (qb_emb x0 x1 a p _ _ ?_ ?_))
    · exact Fin.ext (by show 0 + 1 * p.1 = p.1; omega)
    · show 384 + l.1 = 384 + 1 * l.1; omega
  rcases List.mem_cons.mp hpc with rfl | hpc
  · intro x
    obtain ⟨p, l, rfl⟩ := ix_k x
    refine (pay20_at ..).trans ((congrArg (· * sc) (ln_rp x0 x1 x2 x3 x4 p a h2 h3 h4 l 256 _ (by decide))).trans (qb_emb x0 x1 a p _ _ ?_ ?_))
    · exact Fin.ext (by show 0 + 1 * p.1 = p.1; omega)
    · show 256 + l.1 = 256 + 1 * l.1; omega
  rcases List.mem_cons.mp hpc with rfl | hpc
  · intro x
    obtain ⟨p, l, rfl⟩ := ix_k x
    refine (pay14_at ..).trans ((congrArg (· * sc) (ln_rp x0 x1 x2 x3 x4 p a h2 h3 h4 l 128 _ (by decide))).trans (qb_emb x0 x1 a p _ _ ?_ ?_))
    · exact Fin.ext (by show 0 + 1 * p.1 = p.1; omega)
    · show 128 + l.1 = 128 + 1 * l.1; omega
  rcases List.mem_cons.mp hpc with rfl | hpc
  · intro x
    obtain ⟨p, l, rfl⟩ := ix_k x
    refine (pay10_at ..).trans ((congrArg (· * sc) (ln_rp x0 x1 x2 x3 x4 p a h2 h3 h4 l 0 _ (by decide))).trans (qb_emb x0 x1 a p _ _ ?_ ?_))
    · exact Fin.ext (by show 0 + 1 * p.1 = p.1; omega)
    · show 0 + l.1 = 0 + 1 * l.1; omega
  nomatch hpc
theorem out7_eq (y : S1x256x512.Idx) : out0_7 (F := Ideal) x0 x1 x2 x3 x4 y = VB x0 x1 y := by
  unfold out0_7
  refine View.canon_apply_of_pieces (Val := Elt Ideal) (e := .bf16) (VB x0 x1) _ ?_ y (cover0_7 _ _ _ _ y)
  intro pc hpc
  rcases List.mem_cons.mp hpc with rfl | hpc
  · intro x
    obtain ⟨p, l, rfl⟩ := ix_k x
    refine (pay2_at ..).trans (vb_emb x0 x1 p _ _ ?_ ?_)
    · exact Fin.ext (by show 0 + 1 * p.1 = p.1; omega)
    · show 1024 + (384 + l.1) = 1024 + (384 + 1 * l.1); omega
  rcases List.mem_cons.mp hpc with rfl | hpc
  · intro x
    obtain ⟨p, l, rfl⟩ := ix_k x
    refine (pay1_at ..).trans (vb_emb x0 x1 p _ _ ?_ ?_)
    · exact Fin.ext (by show 0 + 1 * p.1 = p.1; omega)
    · show 1024 + (256 + l.1) = 1024 + (256 + 1 * l.1); omega
  rcases List.mem_cons.mp hpc with rfl | hpc
  · intro x
    obtain ⟨p, l, rfl⟩ := ix_k x
    refine (pay32_at ..).trans (vb_emb x0 x1 p _ _ ?_ ?_)
    · exact Fin.ext (by show 0 + 1 * p.1 = p.1; omega)
    · show 1024 + (128 + l.1) = 1024 + (128 + 1 * l.1); omega
  rcases List.mem_cons.mp hpc with rfl | hpc
  · intro x
    obtain ⟨p, l, rfl⟩ := ix_k x
    refine (pay31_at ..).trans (vb_emb x0 x1 p _ _ ?_ ?_)
    · exact Fin.ext (by show 0 + 1 * p.1 = p.1; omega)
    · show 1024 + (0 + l.1) = 1024 + (0 + 1 * l.1); omega
  nomatch hpc
theorem out9_at (p : Fin 256) (j : Fin 512) : out0_9 (F := Ideal) x0 x1 x2 x3 x4 (ix3 0 p j) = pr x0 x1 p ⟨1024 + j.1, by omega⟩ := by
  unfold out0_9
  rw [View.canon_cons_unit_zero hz3]
  refine (pay30_at _ _ p j).trans ?_
  unfold pr
  exact Finset.sum_congr rfl fun k _ => congrArg₂ (· * ·) (pay33_at ..) (ld7 x1 k j)
theorem out10_at (p : Fin 256) (j : Fin 512) : out0_10 (F := Ideal) x0 x1 x2 x3 x4 (ix3 0 p j) = pr x0 x1 p ⟨1536 + j.1, by omega⟩ := by
  unfold out0_10
  rw [View.canon_cons_unit_zero hz3]
  refine (pay3_at _ _ p j).trans ?_
  unfold pr
  exact Finset.sum_congr rfl fun k _ => congrArg₂ (· * ·) (pay33_at ..) (ld9 x1 k j)
theorem out11_at (p : Fin 256) (j : Fin 512) : out0_11 (F := Ideal) x0 x1 x2 x3 x4 (ix3 0 p j) = pr x0 x1 p ⟨2048 + j.1, by omega⟩ := by
  unfold out0_11
  rw [View.canon_cons_unit_zero hz3]
  refine (pay4_at _ _ p j).trans ?_
  unfold pr
  exact Finset.sum_congr rfl fun k _ => congrArg₂ (· * ·) (pay33_at ..) (ld10 x1 k j)
end
end Cert.Proj.Sample
end
end
-- ==== Proof.Proj.SampleKernel.lean ====
module

public import proofs.«01_k».proof.Proof.Proj.SampleBlocks
public import Idealize.ShloMosaic.Lib.StableHlo.RunRead

@[expose] public section
set_option maxRecDepth 16384
noncomputable section
namespace Cert.Proj.Sample
open Idealize.ShloMosaic Cert.Kernel3Ideal Cert.Kernel3Ideal.Gen Idealize.SL.Sem

/-! The projection of the samples: what the call leaves in its seven results. -/

/-- The angles' frequencies. -/
def inv : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The angle of a position after the past and a frequency. -/
def ang : FVec Ideal S8x8 .f32 :=
  mulf (broadcastInDim S8x8 ![0, 1] bcast_S8x1_S8x8_0_1 (broadcastInDim S8x1 ![0] bcast_S8_S8x1_0
      (sitofp .f32 (addi (broadcastInDim S8 ![] bcast_S_S8 (constantI S_ 32 8192#32)) (iotaInDim S8 32 0)))))
    (broadcastInDim S8x8 ![0, 1] bcast_S1x8_S8x8_0_1 (broadcastInDim S1x8 ![1] bcast_S8_S1x8_1 inv))

/-- The tables' constant parts. -/
def zeros8 : FVec Ideal S8x8 .f32 := broadcastInDim S8x8 ![] bcast_S_S8x8 (constant S_ .f32 0x00000000#32)
def zeros48 : FVec Ideal S8x48 .f32 := broadcastInDim S8x48 ![] bcast_S_S8x48 (constant S_ .f32 0x00000000#32)
def ones48 : FVec Ideal S8x48 .f32 := broadcastInDim S8x48 ![] bcast_S_S8x48 (constant S_ .f32 0x3F800000#32)

/-- A table: `u` at columns 0..8 of each 64, `v` at 8..16, `w` from 16 on, twice; its 8 rows repeated for 32 samples. -/
def tabv (u v : FVec Ideal S8x8 .f32) (w : FVec Ideal S8x48 .f32) : FVec Ideal S256x128 .f32 :=
  shapeCast S256x128 (broadcastInDim S32x8x1x128 ![0, 1, 2, 3] bcast_S1x8x1x128_S32x8x1x128_0_1_2_3 (shapeCast S1x8x1x128
  (shapeCast S8x128 (broadcastInDim S1x8x2x64 ![0, 1, 2, 3] bcast_S1x8x1x64_S1x8x2x64_0_1_2_3
    (shapeCast S1x8x1x64 (concatenate S8x64 1 [⟨S8x8, u⟩, ⟨S8x8, v⟩, ⟨S8x48, w⟩] concatenates_S8x8_S8x8_S8x48_S8x64_d1) shapeCasts_S8x64_S1x8x1x64))
    shapeCasts_S1x8x2x64_S8x128) shapeCasts_S8x128_S1x8x1x128)) shapeCasts_S32x8x1x128_S256x128

theorem tabv_at (u v : FVec Ideal S8x8 .f32) (w : FVec Ideal S8x48 .f32) (t : Fin 256) (l : Fin 128) (e : EReal) (he : ∀ d, w (ix2 ⟨t.1 % 8, by omega⟩ d) = e) :
    tabv u v w (ix2 t l) = tab (fun d => u (ix2 ⟨t.1 % 8, by omega⟩ d)) (fun d => v (ix2 ⟨t.1 % 8, by omega⟩ d)) e (l.1 % 64) := by
  pointwise [tabv]
  simp only [he]
  rfl

/-- The product's row `(s, t)` at column `c`. -/
def P (x : FVec Ideal S32x8x1024 .f32) (w : FVec Ideal S1x1024x2560 .f32) (s : Fin 32) (t : Fin 8) (c : Fin 2560) : EReal :=
  ∑ k : Fin 1024, x (ix3 s t k) * w (ix3 0 k c)
/-- The first 1024 columns rotated by the row's angles. -/
def R (x : FVec Ideal S32x8x1024 .f32) (w : FVec Ideal S1x1024x2560 .f32) (s : Fin 32) (t : Fin 8) (c : Fin 1024) : EReal :=
  rotc (fun c => P x w s t ⟨c.1, by omega⟩) (fun d => ang (ix2 t d)) c

/-- The sample and the token of row `p` of 256. -/
abbrev gs (p : Fin 256) : Fin 32 := ⟨p.1 / 8, by omega⟩
abbrev gt (p : Fin 256) : Fin 8 := ⟨p.1 % 8, by omega⟩

/-- The seven results: rotated, scaled queries; rotated keys; values; rotated keys and values again; the two branches. -/
def GQ (x : FVec Ideal S32x8x1024 .f32) (w : FVec Ideal S1x1024x2560 .f32) : FVec Ideal S1x256x512 .bf16 := fun i =>
  R x w (gs (i 1)) (gt (i 1)) ⟨(i 2).1, by have : (i 2).1 < 512 := (i 2).2; omega⟩ * sc
def GK (x : FVec Ideal S32x8x1024 .f32) (w : FVec Ideal S1x1024x2560 .f32) : FVec Ideal S1x256x512 .f32 := fun i =>
  R x w (gs (i 1)) (gt (i 1)) ⟨512 + (i 2).1, by have : (i 2).1 < 512 := (i 2).2; omega⟩
def GLin (o : ℕ) (ho : o + 512 ≤ 2560) (x : FVec Ideal S32x8x1024 .f32) (w : FVec Ideal S1x1024x2560 .f32) : FVec Ideal S1x256x512 .f32 := fun i =>
  P x w (gs (i 1)) (gt (i 1)) ⟨o + (i 2).1, by have : (i 2).1 < 512 := (i 2).2; omega⟩

variable (m : (ℓ : Loc nD τ sig) → Buf (Elt Ideal) ℓ)

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] :=
  (by decide +kernel : ∀ t : Fin grid0.N, _)

section
variable (c : Dev nD)
abbrev a0 : FVec Ideal S32x8x1024 .f32 := m (c.tc.loc main_arg0)
abbrev a1 : FVec Ideal S1x1024x2560 .f32 := m (c.tc.loc main_arg1)

theorem v39 : (V m c main_v39 : FVec Ideal S256x128 .f32) = tabv (Host.cos ang) (Host.cos ang) ones48 := by
  unfold V
  after_reads_simp
  rfl
theorem v42 : (V m c main_v42 : FVec Ideal S256x128 .f32) = tabv zeros8 (Host.sin ang) zeros48 := by
  unfold V
  after_reads_simp
  rfl
theorem v45 : (V m c main_v45 : FVec Ideal S256x128 .f32) = tabv (Host.negf (Host.sin ang)) zeros8 zeros48 := by
  unfold V
  after_reads_simp
  rfl

theorem in0 (t : Fin cfg0.N) (p : Fin 256) (k : Fin 1024) :
    (iblk m c 0 t : FVec Ideal S1x256x1024 .f32) (ix3 0 p k) = a0 m c (ix3 (gs p) (gt p) k) := by
  have e : V m c main_v46 = shapeCast S1x256x1024 (a0 m c) Gen.shapeCasts_S32x8x1024_S1x256x1024 := by
    unfold V
    after_reads_simp
    rfl
  have h : (iblk m c 0 t : FVec Ideal S1x256x1024 .f32) (ix3 0 p k) = (V m c main_v46 : FVec Ideal S1x256x1024 .f32) (ix3 0 p k) := by blk_ext [iblk, idx t]
  rw [h, e]
  pointwise []
theorem in1 (t : Fin cfg0.N) (k : Fin 1024) (j : Fin 2560) :
    (iblk m c 1 t : FVec Ideal S1024x2560 .bf16) (ix2 k j) = a1 m c (ix3 0 k j) := by
  have e : V m c main_v48 = truncf .bf16 (shapeCast S1024x2560 (a1 m c) Gen.shapeCasts_S1x1024x2560_S1024x2560) bitsLt_bf16_f32 := by
    unfold V
    after_reads_simp
    rfl
  have h : (iblk m c 1 t : FVec Ideal S1024x2560 .bf16) (ix2 k j) = (V m c main_v48 : FVec Ideal S1024x2560 .bf16) (ix2 k j) := by blk_ext [iblk, idx t]
  rw [h, e]
  pointwise []
theorem in2 (t : Fin cfg0.N) (p : Fin 256) (l : Fin 128) :
    (iblk m c 2 t : FVec Ideal S256x128 .f32) (ix2 p l) = tab (fun d => Ideal.cos (ang (ix2 (gt p) d))) (fun d => Ideal.cos (ang (ix2 (gt p) d))) 1 (l.1 % 64) := by
  have h : (iblk m c 2 t : FVec Ideal S256x128 .f32) (ix2 p l) = (V m c main_v39 : FVec Ideal S256x128 .f32) (ix2 p l) := by blk_ext [iblk, idx t]
  rw [h, v39, tabv_at _ _ _ _ _ 1 (fun d => by pointwise [ones48])]
  rfl
theorem in3 (t : Fin cfg0.N) (p : Fin 256) (l : Fin 128) :
    (iblk m c 3 t : FVec Ideal S256x128 .f32) (ix2 p l) = tab (fun _ => 0) (fun d => Ideal.sin (ang (ix2 (gt p) d))) 0 (l.1 % 64) := by
  have h : (iblk m c 3 t : FVec Ideal S256x128 .f32) (ix2 p l) = (V m c main_v42 : FVec Ideal S256x128 .f32) (ix2 p l) := by blk_ext [iblk, idx t]
  have z : ∀ d : Fin 8, zeros8 (ix2 ⟨p.1 % 8, by omega⟩ d) = 0 := fun d => by pointwise [zeros8]
  rw [h, v42, tabv_at _ _ _ _ _ 0 (fun d => by pointwise [zeros48])]
  simp only [z]
  rfl
theorem in4 (t : Fin cfg0.N) (p : Fin 256) (l : Fin 128) :
    (iblk m c 4 t : FVec Ideal S256x128 .f32) (ix2 p l) = tab (fun d => -Ideal.sin (ang (ix2 (gt p) d))) (fun _ => 0) 0 (l.1 % 64) := by
  have h : (iblk m c 4 t : FVec Ideal S256x128 .f32) (ix2 p l) = (V m c main_v45 : FVec Ideal S256x128 .f32) (ix2 p l) := by blk_ext [iblk, idx t]
  have z : ∀ d : Fin 8, zeros8 (ix2 ⟨p.1 % 8, by omega⟩ d) = 0 := fun d => by pointwise [zeros8]
  rw [h, v45, tabv_at _ _ _ _ _ 0 (fun d => by pointwise [zeros48])]
  simp only [z]
  rfl

theorem pr_eq (t : Fin cfg0.N) (p : Fin 256) (j : Fin 2560) : pr (iblk m c 0 t) (iblk m c 1 t) p j = P (a0 m c) (a1 m c) (gs p) (gt p) j := by
  unfold pr P
  exact Finset.sum_congr rfl fun k _ => congrArg₂ (· * ·) (in0 m c t p k) (in1 m c t k j)
theorem rp_eq (t : Fin cfg0.N) (p : Fin 256) (j : Fin 1024) :
    rp (iblk m c 0 t) (iblk m c 1 t) p (fun d => ang (ix2 (gt p) d)) j = R (a0 m c) (a1 m c) (gs p) (gt p) j := by
  unfold rp R
  exact congrArg (fun g => rotc g _ j) (funext fun c' => pr_eq m c t p ⟨c'.1, by omega⟩)

theorem final5 : (dats (F := Ideal) m 0 c).arrAt 5 cfg0.N = (GQ (a0 m c) (a1 m c) : FVec Ideal S1x256x512 .bf16) := by
  refine (dats m 0 c).arrAt_eq_of_covers 5 _ (by decide +kernel) fun t hf y => ?_
  rw [after0_5]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .bf16, X ((win0_5.blk t).view.emb (ix3 0 p q)) = X (ix3 0 p q) := fun X => by
    blk_ext [idx t]
  refine Eq.trans ?_ (he _).symm
  refine (out5_eq (iblk m c 0 t) (iblk m c 1 t) (iblk m c 2 t) (iblk m c 3 t) (iblk m c 4 t) (fun p d => ang (ix2 (gt p) d)) (in2 m c t) (in3 m c t) (in4 m c t) _).trans ?_
  exact congrArg (· * sc) (rp_eq m c t p _)

theorem final6 : (dats (F := Ideal) m 0 c).arrAt 6 cfg0.N = (GK (a0 m c) (a1 m c) : FVec Ideal S1x256x512 .bf16) := by
  refine (dats m 0 c).arrAt_eq_of_covers 6 _ (by decide +kernel) fun t hf y => ?_
  rw [after0_6]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .bf16, X ((win0_6.blk t).view.emb (ix3 0 p q)) = X (ix3 0 p q) := fun X => by
    blk_ext [idx t]
  refine Eq.trans ?_ (he _).symm
  refine (out6_eq (iblk m c 0 t) (iblk m c 1 t) (iblk m c 2 t) (iblk m c 3 t) (iblk m c 4 t) (fun p d => ang (ix2 (gt p) d)) (in2 m c t) (in3 m c t) (in4 m c t) _).trans ?_
  exact rp_eq m c t p _

theorem final7 : (dats (F := Ideal) m 0 c).arrAt 7 cfg0.N = (GLin 1024 (by decide) (a0 m c) (a1 m c) : FVec Ideal S1x256x512 .bf16) := by
  refine (dats m 0 c).arrAt_eq_of_covers 7 _ (by decide +kernel) fun t hf y => ?_
  rw [after0_7]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .bf16, X ((win0_7.blk t).view.emb (ix3 0 p q)) = X (ix3 0 p q) := fun X => by
    blk_ext [idx t]
  refine Eq.trans ?_ (he _).symm
  refine (out7_eq (iblk m c 0 t) (iblk m c 1 t) (iblk m c 2 t) (iblk m c 3 t) (iblk m c 4 t) _).trans ?_
  exact pr_eq m c t p _

theorem final8 : (dats (F := Ideal) m 0 c).arrAt 8 cfg0.N = (GK (a0 m c) (a1 m c) : FVec Ideal S1x256x512 .f32) := by
  refine (dats m 0 c).arrAt_eq_of_covers 8 _ (by decide +kernel) fun t hf y => ?_
  rw [after0_8]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .f32, X ((win0_8.blk t).view.emb (ix3 0 p q)) = X (ix3 0 p q) := fun X => by
    blk_ext [idx t]
  refine Eq.trans ?_ (he _).symm
  refine (out8_eq (iblk m c 0 t) (iblk m c 1 t) (iblk m c 2 t) (iblk m c 3 t) (iblk m c 4 t) (fun p d => ang (ix2 (gt p) d)) (in2 m c t) (in3 m c t) (in4 m c t) _).trans ?_
  exact rp_eq m c t p _

theorem final9 : (dats (F := Ideal) m 0 c).arrAt 9 cfg0.N = (GLin 1024 (by decide) (a0 m c) (a1 m c) : FVec Ideal S1x256x512 .f32) := by
  refine (dats m 0 c).arrAt_eq_of_covers 9 _ (by decide +kernel) fun t hf y => ?_
  rw [after0_9]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .f32, X ((win0_9.blk t).view.emb (ix3 0 p q)) = X (ix3 0 p q) := fun X => by
    blk_ext [idx t]
  refine Eq.trans ?_ (he _).symm
  refine (out9_at (iblk m c 0 t) (iblk m c 1 t) (iblk m c 2 t) (iblk m c 3 t) (iblk m c 4 t) p q).trans ?_
  exact pr_eq m c t p _

theorem final10 : (dats (F := Ideal) m 0 c).arrAt 10 cfg0.N = (GLin 1536 (by decide) (a0 m c) (a1 m c) : FVec Ideal S1x256x512 .f32) := by
  refine (dats m 0 c).arrAt_eq_of_covers 10 _ (by decide +kernel) fun t hf y => ?_
  rw [after0_10]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .f32, X ((win0_10.blk t).view.emb (ix3 0 p q)) = X (ix3 0 p q) := fun X => by
    blk_ext [idx t]
  refine Eq.trans ?_ (he _).symm
  refine (out10_at (iblk m c 0 t) (iblk m c 1 t) (iblk m c 2 t) (iblk m c 3 t) (iblk m c 4 t) p q).trans ?_
  exact pr_eq m c t p _

theorem final11 : (dats (F := Ideal) m 0 c).arrAt 11 cfg0.N = (GLin 2048 (by decide) (a0 m c) (a1 m c) : FVec Ideal S1x256x512 .f32) := by
  refine (dats m 0 c).arrAt_eq_of_covers 11 _ (by decide +kernel) fun t hf y => ?_
  rw [after0_11]
  blk_simp []
  obtain ⟨p, hp⟩ : ∃ p : Fin 256, p = y 1 := ⟨y 1, rfl⟩
  obtain ⟨q, hq⟩ : ∃ q : Fin 512, q = y 2 := ⟨y 2, rfl⟩
  have hy : y = (ix3 0 p q : S1x256x512.Idx) := by
    rw [hp, hq, Subsingleton.elim (0 : Fin 1) (y 0)]
    exact (ix3_eta y).symm
  rw [hy]
  have he : ∀ X : FVec Ideal S1x256x512 .f32, X ((win0_11.blk t).view.emb (ix3 0 p q)) = X (ix3 0 p q) := fun X => by
    blk_ext [idx t]
  refine Eq.trans ?_ (he _).symm
  refine (out11_at (iblk m c 0 t) (iblk m c 1 t) (iblk m c 2 t) (iblk m c 3 t) (iblk m c 4 t) p q).trans ?_
  exact pr_eq m c t p _
end

end Cert.Proj.Sample
end
end
-- ==== Proof.Proj.SampleRef.lean ====
module

public import proofs.«01_k».proof.Proof.Gen.Reference3Ideal.Read
public import proofs.«01_k».proof.Proof.Proj.SampleKernel

@[expose] public section
set_option maxRecDepth 16384
noncomputable section
namespace Cert.Proj.SampleRef
open Idealize.ShloMosaic Cert.Reference3Ideal Cert.Reference3Ideal.Read Idealize.SL.Sem

/-! The projection of the samples: the reference's seven results. -/

theorem ang1 : val_main_v22 (F := Ideal) = Sample.ang := rfl
theorem ang2 : val_main_v64 (F := Ideal) = Sample.ang := rfl

variable (x : FVec Ideal S32x8x1024 .f32) (w : FVec Ideal S1x1024x2560 .f32)

theorem v87_at (b : Fin 32) (t : Fin 8) (c : Fin 4) (e : Fin 2) (d : Fin 64) :
    val_main_v87 (F := Ideal) x w (ix5 b t c e d) = Sample.R x w b t ⟨512 + (c.1 * 128 + e.1 * 64 + d.1), by omega⟩ := by
  refine Eq.trans ?_ (congrArg (fun A : FVec Ideal S8x8 .f32 => rotc (fun c => Sample.P x w b t ⟨c.1, by omega⟩) (fun d => A (ix2 t d)) ⟨512 + (c.1 * 128 + e.1 * 64 + d.1), by omega⟩) ang2)
  refine Eq.trans ?_ (head_eq (fun c => Sample.P x w b t ⟨c.1, by omega⟩) (fun d => val_main_v64 (F := Ideal) (ix2 t d)) 512 (by decide) (by decide) c e d)
  pointwise [val_main_v87, val_main_v85, val_main_v86, val_main_v77, val_main_v84, val_main_v73, val_main_v76, val_main_v80, val_main_v83, val_main_v69, val_main_v70, val_main_v48, val_main_v47, val_main_v72, val_main_v71, val_main_v66, val_main_v65, val_main_v75, val_main_v74, val_main_v68, val_main_v67, val_main_v79, val_main_v78, val_main_v82, val_main_v81, val_main_v4, val_main_v0]
  rfl
theorem v45_at (b : Fin 32) (t : Fin 8) (c : Fin 4) (e : Fin 2) (d : Fin 64) :
    val_main_v45 (F := Ideal) x w (ix5 b t c e d) = Sample.R x w b t ⟨c.1 * 128 + e.1 * 64 + d.1, by omega⟩ := by
  refine Eq.trans ?_ (congrArg (fun A : FVec Ideal S8x8 .f32 => rotc (fun c => Sample.P x w b t ⟨c.1, by omega⟩) (fun d => A (ix2 t d)) ⟨c.1 * 128 + e.1 * 64 + d.1, by omega⟩) ang1)
  have h := head_eq (fun c => Sample.P x w b t ⟨c.1, by omega⟩) (fun d => val_main_v22 (F := Ideal) (ix2 t d)) 0 (by decide) (by decide) c e d
  simp only [Nat.zero_add] at h
  refine Eq.trans ?_ h
  pointwise [val_main_v45, val_main_v43, val_main_v44, val_main_v35, val_main_v42, val_main_v31, val_main_v34, val_main_v38, val_main_v41, val_main_v27, val_main_v28, val_main_v6, val_main_v5, val_main_v30, val_main_v29, val_main_v24, val_main_v23, val_main_v33, val_main_v32, val_main_v26, val_main_v25, val_main_v37, val_main_v36, val_main_v40, val_main_v39, val_main_v4, val_main_v0]
  rfl

theorem R_congr (b b' : Fin 32) (t t' : Fin 8) (c c' : Fin 1024) (hb : b.1 = b'.1) (ht : t.1 = t'.1) (hc : c.1 = c'.1) : Sample.R x w b t c = Sample.R x w b' t' c' := by
  rw [Fin.ext hb, Fin.ext ht, Fin.ext hc]

theorem k_at (b : Fin 32) (t : Fin 8) (j : Fin 512) : val_main_v88 (F := Ideal) x w (ix3 b t j) = Sample.R x w b t ⟨512 + j.1, by omega⟩ := by
  pointwise [val_main_v88]
  rw [v87_at]
  exact R_congr x w b b t t _ _ rfl rfl (by show 512 + (j.1 / 128 * 128 + j.1 / 64 % 2 * 64 + j.1 % 64) = 512 + j.1; omega)
theorem q_at (b : Fin 32) (t : Fin 8) (j : Fin 512) : val_main_v46 (F := Ideal) x w (ix3 b t j) = Sample.R x w b t ⟨j.1, by omega⟩ := by
  pointwise [val_main_v46]
  rw [v45_at]
  exact R_congr x w b b t t _ _ rfl rfl (by show j.1 / 128 * 128 + j.1 / 64 % 2 * 64 + j.1 % 64 = j.1; omega)
theorem ix_eta (i : S1x256x512.Idx) : i = (ix3 0 (i 1) (i 2) : S1x256x512.Idx) := by
  rw [Subsingleton.elim (0 : Fin 1) (i 0)]
  exact (ix3_eta i).symm
theorem q_eq : val_main_v95 (F := Ideal) x w = Sample.GQ x w := funext fun i => by
  rw [ix_eta i]
  pointwise [val_main_v95, val_main_v94, val_main_v93, val_main_v92, val_main_cst_7]
  exact congrArg (· * _) (q_at x w _ _ _)
theorem kb_eq : val_main_v97 (F := Ideal) x w = Sample.GK x w := funext fun i => by
  rw [ix_eta i]
  pointwise [val_main_v97, val_main_v96]
  exact k_at x w _ _ _
theorem k_eq : val_main_v100 (F := Ideal) x w = Sample.GK x w := funext fun i => by
  rw [ix_eta i]
  pointwise [val_main_v100]
  exact k_at x w _ _ _
theorem vb_eq : val_main_v99 (F := Ideal) x w = Sample.GLin 1024 (by decide) x w := funext fun i => by
  rw [ix_eta i]
  pointwise [val_main_v99, val_main_v98, val_main_v89, val_main_v4, val_main_v0]
  rfl
theorem v_eq : val_main_v101 (F := Ideal) x w = Sample.GLin 1024 (by decide) x w := funext fun i => by
  rw [ix_eta i]
  pointwise [val_main_v101, val_main_v89, val_main_v4, val_main_v0]
  rfl
theorem xr_eq : val_main_v102 (F := Ideal) x w = Sample.GLin 1536 (by decide) x w := funext fun i => by
  rw [ix_eta i]
  pointwise [val_main_v102, val_main_v90, val_main_v4, val_main_v0]
  rfl
theorem gate_eq : val_main_v103 (F := Ideal) x w = Sample.GLin 2048 (by decide) x w := funext fun i => by
  rw [ix_eta i]
  pointwise [val_main_v103, val_main_v91, val_main_v4, val_main_v0]
  rfl
end Cert.Proj.SampleRef
end
end
-- ==== Proof.Tail.Norm.lean ====
module

public import Idealize.ShloMosaic.Lib.Pointwise

@[expose] public section
noncomputable section
namespace Cert.Tail
open Idealize.ShloMosaic

/-! A row's normalization, and the sigmoid written with the hyperbolic tangent. -/

def wAlpha : EReal := Ideal.ofBits .f32 0x3F9837F0#32
def wLen : EReal := Ideal.ofBits .f32 0x44800000#32
def wEps : EReal := Ideal.ofBits .f32 0x3727C5AC#32

/-- The mean of a row of 1024. -/
def mu (z : Fin 1024 → EReal) : EReal := Ideal.div (∑ k, z k) wLen

/-- Entry `q` of a row, normalized, with its gain and its shift. -/
def ln (z : Fin 1024 → EReal) (q : Fin 1024) (g b : EReal) : EReal :=
  (z q - mu z) * Ideal.rsqrt (mu (fun k => (z k - mu z) * (z k - mu z)) + wEps) * g + b

theorem half_bits : Ideal.ofBits .f32 0x3F000000#32 = ((1 / 2 : ℝ) : EReal) := by
  simp [Ideal.ofBits, Ideal.ieee]
  rw [← EReal.coe_mul]
  norm_num
theorem one_bits : Ideal.ofBits .f32 0x3F800000#32 = ((1 : ℝ) : EReal) := by
  simp [Ideal.ofBits, Ideal.ieee]
  rw [← EReal.coe_mul, ← EReal.coe_one]
  norm_num
theorem zero_bits : Ideal.ofBits .f32 0x00000000#32 = 0 := by
  simp [Ideal.ofBits, Ideal.ieee]

theorem sigmoid_real (x : ℝ) : 1 / 2 * (Real.tanh (1 / 2 * x) + 1) = (1 + Real.exp (-x))⁻¹ := by
  rw [Real.tanh_eq_sinh_div_cosh, Real.sinh_eq, Real.cosh_eq]
  have e : Real.exp (-x) = Real.exp (-(1 / 2 * x)) * Real.exp (-(1 / 2 * x)) := by rw [← Real.exp_add]; congr 1; ring
  rw [e, Real.exp_neg]
  have h := Real.exp_pos (1 / 2 * x)
  field_simp
  ring

/-- The sigmoid by the hyperbolic tangent is the logistic function, at the infinities too. -/
theorem sigmoid (x : EReal) :
    Ideal.ofBits .f32 0x3F000000#32 * (Ideal.tanh (Ideal.ofBits .f32 0x3F000000#32 * x) + Ideal.ofBits .f32 0x3F800000#32) = Ideal.logistic x := by
  rw [half_bits, one_bits]
  induction x using EReal.rec with
  | bot => rw [EReal.coe_mul_bot_of_pos (by norm_num), Ideal.tanh_bot, Ideal.logistic_bot,
      show (-1 : EReal) = ((-1 : ℝ) : EReal) from by rw [EReal.coe_neg, EReal.coe_one], ← EReal.coe_add, ← EReal.coe_mul]; norm_num
  | top => rw [EReal.coe_mul_top_of_pos (by norm_num), Ideal.tanh_top, Ideal.logistic_top]; norm_cast; norm_num
  | coe r =>
    rw [← EReal.coe_mul, Ideal.tanh_coe, Ideal.logistic_coe, ← EReal.coe_add, ← EReal.coe_mul, sigmoid_real]

end Cert.Tail
end
end
-- ==== Proof.Tail.Ln2Kernel.lean ====
module

public import proofs.«01_k».proof.Proof.Gen.Kernel4Ideal.Value
public import proofs.«01_k».proof.Proof.Tail.Norm

@[expose] public section
set_option maxRecDepth 16384
noncomputable section
namespace Cert.Tail.Ln2
open Idealize.ShloMosaic Cert.Kernel4Ideal Cert.Kernel4Ideal.Gen Idealize.SL.Sem

theorem pay2_at (v0 v3 : FVec Ideal S512x1024 .f32) (v5 v7 : FVec Ideal S1x1024 .f32) (p : Fin 512) (q : Fin 1024) :
    k0_pay2 (F := Ideal) v0 v3 v5 v7 (ix2 p q) = ln (fun k => wAlpha * v0 (ix2 p k) + v3 (ix2 p k)) q (v5 (ix2 0 q)) (v7 (ix2 0 q)) := by
  pointwise [k0_pay2]
  rfl

theorem pay3_at (v0 v3 : FVec Ideal S512x1024 .f32) (v5 v7 : FVec Ideal S1x1024 .f32) (w : FVec Ideal S1024x1024 .bf16) (v33 : FVec Ideal S1x1024 .f32) (p : Fin 512) (q : Fin 1024) :
    k0_pay3 (F := Ideal) v0 v3 v5 v7 w v33 (ix2 p q)
      = Ideal.ofBits .f32 0x3F000000#32 * ((∑ k : Fin 1024, k0_pay2 (F := Ideal) v0 v3 v5 v7 (ix2 p k) * w (ix2 k q)) + v33 (ix2 0 q)) := by
  pointwise [k0_pay3]

theorem pay1_at (x2 gt : FVec Ideal S512x1024 .f32) (pe : FVec Ideal S512x256 .f32) (w : FVec Ideal S256x1024 .bf16) (p : Fin 512) (q : Fin 1024) :
    k0_pay1 (F := Ideal) x2 gt pe w (ix2 p q)
      = x2 (ix2 p q) + Ideal.ofBits .f32 0x3F000000#32 * (Ideal.tanh (gt (ix2 p q)) + Ideal.ofBits .f32 0x3F800000#32) * (∑ k : Fin 256, pe (ix2 p k) * w (ix2 k q)) := by
  pointwise [k0_pay1]

end Cert.Tail.Ln2
end
end
-- ==== Proof.Tail.Ln2Out.lean ====
module

public import proofs.«01_k».proof.Proof.Tail.Ln2Kernel
public import Idealize.ShloMosaic.Lib.Claim
public import Idealize.ShloMosaic.Lib.Pointwise
public import Idealize.ShloMosaic.Lib.Pipeline.ValueKit

@[expose] public section
set_option maxRecDepth 16384
noncomputable section
namespace Cert.Tail.Ln2
open Idealize.ShloMosaic Cert.Kernel4Ideal Cert.Kernel4Ideal.Gen Idealize.SL.Sem

/-! The last normalization and the gated embedding: what the call leaves in its result. -/

/-- The result at row `t`, column `q`. -/
def out (x0 x1 : FVec Ideal S16384x1024 .f32) (x2 : FVec Ideal S16384x256 .f32) (g b : FVec Ideal S1024 .f32) (w : FVec Ideal S1024x1024 .f32)
    (gb : FVec Ideal S1024 .f32) (pw : FVec Ideal S256x1024 .f32) (t : Fin 16384) (q : Fin 1024) : EReal :=
  ln (fun k => wAlpha * x0 (ix2 t k) + x1 (ix2 t k)) q (g (ix1 q)) (b (ix1 q))
    + Ideal.logistic ((∑ k : Fin 1024, ln (fun k => wAlpha * x0 (ix2 t k) + x1 (ix2 t k)) k (g (ix1 k)) (b (ix1 k)) * w (ix2 k q)) + gb (ix1 q))
      * (∑ k : Fin 256, x2 (ix2 t k) * pw (ix2 k q))

def G (x0 x1 : FVec Ideal S16384x1024 .f32) (x2 : FVec Ideal S16384x256 .f32) (g b : FVec Ideal S1024 .f32) (w : FVec Ideal S1024x1024 .f32)
    (gb : FVec Ideal S1024 .f32) (pw : FVec Ideal S256x1024 .f32) : FVec Ideal S16384x1024 .f32 := fun i => out x0 x1 x2 g b w gb pw (i 0) (i 1)

theorem G_at (x0 x1 : FVec Ideal S16384x1024 .f32) (x2 : FVec Ideal S16384x256 .f32) (g b : FVec Ideal S1024 .f32) (w : FVec Ideal S1024x1024 .f32)
    (gb : FVec Ideal S1024 .f32) (pw : FVec Ideal S256x1024 .f32) (t : Fin 16384) (q : Fin 1024) :
    G x0 x1 x2 g b w gb pw (ix2 t q) = out x0 x1 x2 g b w gb pw t q := rfl

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

section
variable (c : Dev nD)
abbrev a0 : FVec Ideal S16384x1024 .f32 := m (c.tc.loc main_arg0)
abbrev a1 : FVec Ideal S16384x1024 .f32 := m (c.tc.loc main_arg1)
abbrev a2 : FVec Ideal S16384x256 .f32 := m (c.tc.loc main_arg2)
abbrev a3 : FVec Ideal S1024 .f32 := m (c.tc.loc main_arg3)
abbrev a4 : FVec Ideal S1024 .f32 := m (c.tc.loc main_arg4)
abbrev a5 : FVec Ideal S1024x1024 .f32 := m (c.tc.loc main_arg5)
abbrev a6 : FVec Ideal S1024 .f32 := m (c.tc.loc main_arg6)
abbrev a7 : FVec Ideal S256x1024 .f32 := m (c.tc.loc main_arg7)

theorem in0 (t : Fin cfg0.N) (p : Fin 512) (k : Fin 1024) :
    (iblk m c 0 t : FVec Ideal S512x1024 .f32) (ix2 p k) = a0 m c (ix2 ⟨512 * t.val + p.1, by have : t.val < 32 := t.2; omega⟩ k) := by
  blk_ext [iblk, V, idx t]
theorem in1 (t : Fin cfg0.N) (p : Fin 512) (k : Fin 1024) :
    (iblk m c 1 t : FVec Ideal S512x1024 .f32) (ix2 p k) = a1 m c (ix2 ⟨512 * t.val + p.1, by have : t.val < 32 := t.2; omega⟩ k) := by
  blk_ext [iblk, V, idx t]
theorem in2 (t : Fin cfg0.N) (p : Fin 512) (k : Fin 256) :
    (iblk m c 2 t : FVec Ideal S512x256 .f32) (ix2 p k) = a2 m c (ix2 ⟨512 * t.val + p.1, by have : t.val < 32 := t.2; omega⟩ k) := by
  blk_ext [iblk, V, idx t]
theorem in3 (t : Fin cfg0.N) (k : Fin 1024) : (iblk m c 3 t : FVec Ideal S1x1024 .f32) (ix2 0 k) = a3 m c (ix1 k) := by
  have e : V m c main_v0 = shapeCast S1x1024 (a3 m c) Gen.shapeCasts_S1024_S1x1024 := by entry_read; rfl
  have h : (iblk m c 3 t : FVec Ideal S1x1024 .f32) (ix2 0 k) = (V m c main_v0 : FVec Ideal S1x1024 .f32) (ix2 0 k) := by blk_ext [iblk, idx t]
  rw [h, e]
  pointwise []
theorem in4 (t : Fin cfg0.N) (k : Fin 1024) : (iblk m c 4 t : FVec Ideal S1x1024 .f32) (ix2 0 k) = a4 m c (ix1 k) := by
  have e : V m c main_v1 = shapeCast S1x1024 (a4 m c) Gen.shapeCasts_S1024_S1x1024 := by entry_read; rfl
  have h : (iblk m c 4 t : FVec Ideal S1x1024 .f32) (ix2 0 k) = (V m c main_v1 : FVec Ideal S1x1024 .f32) (ix2 0 k) := by blk_ext [iblk, idx t]
  rw [h, e]
  pointwise []
theorem in5 (t : Fin cfg0.N) (p : Fin 1024) (k : Fin 1024) : (iblk m c 5 t : FVec Ideal S1024x1024 .bf16) (ix2 p k) = a5 m c (ix2 p k) := by
  have e : V m c main_v2 = truncf .bf16 (a5 m c) bitsLt_bf16_f32 := by entry_read; rfl
  have h : (iblk m c 5 t : FVec Ideal S1024x1024 .bf16) (ix2 p k) = (V m c main_v2 : FVec Ideal S1024x1024 .bf16) (ix2 p k) := by blk_ext [iblk, idx t]
  rw [h, e]
  pointwise []
theorem in6 (t : Fin cfg0.N) (k : Fin 1024) : (iblk m c 6 t : FVec Ideal S1x1024 .f32) (ix2 0 k) = a6 m c (ix1 k) := by
  have e : V m c main_v3 = shapeCast S1x1024 (a6 m c) Gen.shapeCasts_S1024_S1x1024 := by entry_read; rfl
  have h : (iblk m c 6 t : FVec Ideal S1x1024 .f32) (ix2 0 k) = (V m c main_v3 : FVec Ideal S1x1024 .f32) (ix2 0 k) := by blk_ext [iblk, idx t]
  rw [h, e]
  pointwise []
theorem in7 (t : Fin cfg0.N) (p : Fin 256) (k : Fin 1024) : (iblk m c 7 t : FVec Ideal S256x1024 .bf16) (ix2 p k) = a7 m c (ix2 p k) := by
  have e : V m c main_v4 = truncf .bf16 (a7 m c) bitsLt_bf16_f32 := by entry_read; rfl
  have h : (iblk m c 7 t : FVec Ideal S256x1024 .bf16) (ix2 p k) = (V m c main_v4 : FVec Ideal S256x1024 .bf16) (ix2 p k) := by blk_ext [iblk, idx t]
  rw [h, e]
  pointwise []

theorem out8_at (x0 x1 : FVec Ideal S512x1024 .f32) (x2 : FVec Ideal S512x256 .f32) (x3 x4 : FVec Ideal S1x1024 .f32) (x5 : FVec Ideal S1024x1024 .bf16)
    (x6 : FVec Ideal S1x1024 .f32) (x7 : FVec Ideal S256x1024 .bf16) (p : Fin 512) (q : Fin 1024) :
    out0_8 (F := Ideal) x0 x1 x2 x3 x4 x5 x6 x7 (ix2 p q) = ln (fun k => wAlpha * x0 (ix2 p k) + x1 (ix2 p k)) q (x3 (ix2 0 q)) (x4 (ix2 0 q))
      + Ideal.logistic ((∑ k : Fin 1024, ln (fun k => wAlpha * x0 (ix2 p k) + x1 (ix2 p k)) k (x3 (ix2 0 k)) (x4 (ix2 0 k)) * x5 (ix2 k q)) + x6 (ix2 0 q))
        * (∑ k : Fin 256, x2 (ix2 p k) * x7 (ix2 k q)) := by
  unfold out0_8
  have hz : (![0, 0] : Fin 2 → ℕ) = fun _ => 0 := by decide
  rw [View.canon_cons_unit_zero hz]
  simp only [View.ld_unit_zero (S := S512x1024) hz, View.ld_unit_zero (S := S512x256) hz, View.ld_unit_zero (S := S1x1024) hz,
    View.ld_unit_zero (S := S1024x1024) hz, View.ld_unit_zero (S := S256x1024) hz]
  rw [pay1_at, pay3_at]
  simp only [pay2_at, sigmoid]

/-- The call's result is `G` of its arguments. -/
theorem final : (dats (F := Ideal) m 0 c).arrAt 8 cfg0.N
      = G (a0 m c) (a1 m c) (a2 m c) (a3 m c) (a4 m c) (a5 m c) (a6 m c) (a7 m c) := by
  refine (dats m 0 c).arrAt_eq_of_covers 8 _ (by decide +kernel) fun t hf y => ?_
  rw [after0_8]
  blk_simp []
  have ht : t.val < 32 := t.2
  obtain ⟨p, hp⟩ : ∃ p : Fin 512, p = y 0 := ⟨y 0, rfl⟩
  obtain ⟨q, hq⟩ : ∃ q : Fin 1024, q = y 1 := ⟨y 1, rfl⟩
  have hy : y = (ix2 p q : S512x1024.Idx) := by rw [hp, hq]; exact (ix2_eta y).symm
  rw [hy]
  have he : ∀ X : FVec Ideal S16384x1024 .f32, X ((win0_8.blk t).view.emb (ix2 p q)) = X (ix2 ⟨512 * t.val + p.1, by omega⟩ q) := fun X => by
    blk_ext [idx t]
  refine Eq.trans ?_ (he _).symm
  refine (out8_at _ _ _ _ _ _ _ _ p q).trans ?_
  simp only [in0, in1, in2, in3, in4, in5, in6, in7]
  rw [G_at, out]
end

end Cert.Tail.Ln2
end
end
-- ==== Proof.Tail.Ln2sKernel.lean ====
module

public import proofs.«01_k».proof.Proof.Gen.Kernel7Ideal.Value
public import proofs.«01_k».proof.Proof.Tail.Norm

@[expose] public section
set_option maxRecDepth 16384
noncomputable section
namespace Cert.Tail.Ln2s
open Idealize.ShloMosaic Cert.Kernel7Ideal Cert.Kernel7Ideal.Gen Idealize.SL.Sem

theorem pay2_at (v0 v3 : FVec Ideal S256x1024 .f32) (v5 v7 : FVec Ideal S1x1024 .f32) (p : Fin 256) (q : Fin 1024) :
    k0_pay2 (F := Ideal) v0 v3 v5 v7 (ix2 p q) = ln (fun k => wAlpha * v0 (ix2 p k) + v3 (ix2 p k)) q (v5 (ix2 0 q)) (v7 (ix2 0 q)) := by
  pointwise [k0_pay2]
  rfl

theorem pay3_at (v0 v3 : FVec Ideal S256x1024 .f32) (v5 v7 : FVec Ideal S1x1024 .f32) (w : FVec Ideal S1024x1024 .bf16) (v33 : FVec Ideal S1x1024 .f32) (p : Fin 256) (q : Fin 1024) :
    k0_pay3 (F := Ideal) v0 v3 v5 v7 w v33 (ix2 p q)
      = Ideal.ofBits .f32 0x3F000000#32 * ((∑ k : Fin 1024, k0_pay2 (F := Ideal) v0 v3 v5 v7 (ix2 p k) * w (ix2 k q)) + v33 (ix2 0 q)) := by
  pointwise [k0_pay3]

theorem pay1_at (x2 gt : FVec Ideal S256x1024 .f32) (pe : FVec Ideal S256x256 .f32) (w : FVec Ideal S256x1024 .bf16) (p : Fin 256) (q : Fin 1024) :
    k0_pay1 (F := Ideal) x2 gt pe w (ix2 p q)
      = x2 (ix2 p q) + Ideal.ofBits .f32 0x3F000000#32 * (Ideal.tanh (gt (ix2 p q)) + Ideal.ofBits .f32 0x3F800000#32) * (∑ k : Fin 256, pe (ix2 p k) * w (ix2 k q)) := by
  pointwise [k0_pay1]

end Cert.Tail.Ln2s
end
end
-- ==== Proof.Tail.Ln2sOut.lean ====
module

public import proofs.«01_k».proof.Proof.Tail.Ln2sKernel
public import Idealize.ShloMosaic.Lib.Claim
public import Idealize.ShloMosaic.Lib.Pointwise
public import Idealize.ShloMosaic.Lib.Pipeline.ValueKit

@[expose] public section
set_option maxRecDepth 16384
noncomputable section
namespace Cert.Tail.Ln2s
open Idealize.ShloMosaic Cert.Kernel7Ideal Cert.Kernel7Ideal.Gen Idealize.SL.Sem

/-! The last normalization and the gated embedding: what the call leaves in its result. -/

/-- The result at row `t`, column `q`. -/
def out (x0 x1 : FVec Ideal S256x1024 .f32) (x2 : FVec Ideal S256x256 .f32) (g b : FVec Ideal S1024 .f32) (w : FVec Ideal S1024x1024 .f32)
    (gb : FVec Ideal S1024 .f32) (pw : FVec Ideal S256x1024 .f32) (t : Fin 256) (q : Fin 1024) : EReal :=
  ln (fun k => wAlpha * x0 (ix2 t k) + x1 (ix2 t k)) q (g (ix1 q)) (b (ix1 q))
    + Ideal.logistic ((∑ k : Fin 1024, ln (fun k => wAlpha * x0 (ix2 t k) + x1 (ix2 t k)) k (g (ix1 k)) (b (ix1 k)) * w (ix2 k q)) + gb (ix1 q))
      * (∑ k : Fin 256, x2 (ix2 t k) * pw (ix2 k q))

def G (x0 x1 : FVec Ideal S256x1024 .f32) (x2 : FVec Ideal S256x256 .f32) (g b : FVec Ideal S1024 .f32) (w : FVec Ideal S1024x1024 .f32)
    (gb : FVec Ideal S1024 .f32) (pw : FVec Ideal S256x1024 .f32) : FVec Ideal S256x1024 .f32 := fun i => out x0 x1 x2 g b w gb pw (i 0) (i 1)

theorem G_at (x0 x1 : FVec Ideal S256x1024 .f32) (x2 : FVec Ideal S256x256 .f32) (g b : FVec Ideal S1024 .f32) (w : FVec Ideal S1024x1024 .f32)
    (gb : FVec Ideal S1024 .f32) (pw : FVec Ideal S256x1024 .f32) (t : Fin 256) (q : Fin 1024) :
    G x0 x1 x2 g b w gb pw (ix2 t q) = out x0 x1 x2 g b w gb pw t q := rfl

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

section
variable (c : Dev nD)
abbrev a0 : FVec Ideal S256x1024 .f32 := m (c.tc.loc main_arg0)
abbrev a1 : FVec Ideal S256x1024 .f32 := m (c.tc.loc main_arg1)
abbrev a2 : FVec Ideal S256x256 .f32 := m (c.tc.loc main_arg2)
abbrev a3 : FVec Ideal S1024 .f32 := m (c.tc.loc main_arg3)
abbrev a4 : FVec Ideal S1024 .f32 := m (c.tc.loc main_arg4)
abbrev a5 : FVec Ideal S1024x1024 .f32 := m (c.tc.loc main_arg5)
abbrev a6 : FVec Ideal S1024 .f32 := m (c.tc.loc main_arg6)
abbrev a7 : FVec Ideal S256x1024 .f32 := m (c.tc.loc main_arg7)

theorem in0 (t : Fin cfg0.N) (p : Fin 256) (k : Fin 1024) :
    (iblk m c 0 t : FVec Ideal S256x1024 .f32) (ix2 p k) = a0 m c (ix2 ⟨256 * t.val + p.1, by have : t.val < 1 := t.2; omega⟩ k) := by
  blk_ext [iblk, V, idx t]
theorem in1 (t : Fin cfg0.N) (p : Fin 256) (k : Fin 1024) :
    (iblk m c 1 t : FVec Ideal S256x1024 .f32) (ix2 p k) = a1 m c (ix2 ⟨256 * t.val + p.1, by have : t.val < 1 := t.2; omega⟩ k) := by
  blk_ext [iblk, V, idx t]
theorem in2 (t : Fin cfg0.N) (p : Fin 256) (k : Fin 256) :
    (iblk m c 2 t : FVec Ideal S256x256 .f32) (ix2 p k) = a2 m c (ix2 ⟨256 * t.val + p.1, by have : t.val < 1 := t.2; omega⟩ k) := by
  blk_ext [iblk, V, idx t]
theorem in3 (t : Fin cfg0.N) (k : Fin 1024) : (iblk m c 3 t : FVec Ideal S1x1024 .f32) (ix2 0 k) = a3 m c (ix1 k) := by
  have e : V m c main_v0 = shapeCast S1x1024 (a3 m c) Gen.shapeCasts_S1024_S1x1024 := by entry_read; rfl
  have h : (iblk m c 3 t : FVec Ideal S1x1024 .f32) (ix2 0 k) = (V m c main_v0 : FVec Ideal S1x1024 .f32) (ix2 0 k) := by blk_ext [iblk, idx t]
  rw [h, e]
  pointwise []
theorem in4 (t : Fin cfg0.N) (k : Fin 1024) : (iblk m c 4 t : FVec Ideal S1x1024 .f32) (ix2 0 k) = a4 m c (ix1 k) := by
  have e : V m c main_v1 = shapeCast S1x1024 (a4 m c) Gen.shapeCasts_S1024_S1x1024 := by entry_read; rfl
  have h : (iblk m c 4 t : FVec Ideal S1x1024 .f32) (ix2 0 k) = (V m c main_v1 : FVec Ideal S1x1024 .f32) (ix2 0 k) := by blk_ext [iblk, idx t]
  rw [h, e]
  pointwise []
theorem in5 (t : Fin cfg0.N) (p : Fin 1024) (k : Fin 1024) : (iblk m c 5 t : FVec Ideal S1024x1024 .bf16) (ix2 p k) = a5 m c (ix2 p k) := by
  have e : V m c main_v2 = truncf .bf16 (a5 m c) bitsLt_bf16_f32 := by entry_read; rfl
  have h : (iblk m c 5 t : FVec Ideal S1024x1024 .bf16) (ix2 p k) = (V m c main_v2 : FVec Ideal S1024x1024 .bf16) (ix2 p k) := by blk_ext [iblk, idx t]
  rw [h, e]
  pointwise []
theorem in6 (t : Fin cfg0.N) (k : Fin 1024) : (iblk m c 6 t : FVec Ideal S1x1024 .f32) (ix2 0 k) = a6 m c (ix1 k) := by
  have e : V m c main_v3 = shapeCast S1x1024 (a6 m c) Gen.shapeCasts_S1024_S1x1024 := by entry_read; rfl
  have h : (iblk m c 6 t : FVec Ideal S1x1024 .f32) (ix2 0 k) = (V m c main_v3 : FVec Ideal S1x1024 .f32) (ix2 0 k) := by blk_ext [iblk, idx t]
  rw [h, e]
  pointwise []
theorem in7 (t : Fin cfg0.N) (p : Fin 256) (k : Fin 1024) : (iblk m c 7 t : FVec Ideal S256x1024 .bf16) (ix2 p k) = a7 m c (ix2 p k) := by
  have e : V m c main_v4 = truncf .bf16 (a7 m c) bitsLt_bf16_f32 := by entry_read; rfl
  have h : (iblk m c 7 t : FVec Ideal S256x1024 .bf16) (ix2 p k) = (V m c main_v4 : FVec Ideal S256x1024 .bf16) (ix2 p k) := by blk_ext [iblk, idx t]
  rw [h, e]
  pointwise []

theorem out8_at (x0 x1 : FVec Ideal S256x1024 .f32) (x2 : FVec Ideal S256x256 .f32) (x3 x4 : FVec Ideal S1x1024 .f32) (x5 : FVec Ideal S1024x1024 .bf16)
    (x6 : FVec Ideal S1x1024 .f32) (x7 : FVec Ideal S256x1024 .bf16) (p : Fin 256) (q : Fin 1024) :
    out0_8 (F := Ideal) x0 x1 x2 x3 x4 x5 x6 x7 (ix2 p q) = ln (fun k => wAlpha * x0 (ix2 p k) + x1 (ix2 p k)) q (x3 (ix2 0 q)) (x4 (ix2 0 q))
      + Ideal.logistic ((∑ k : Fin 1024, ln (fun k => wAlpha * x0 (ix2 p k) + x1 (ix2 p k)) k (x3 (ix2 0 k)) (x4 (ix2 0 k)) * x5 (ix2 k q)) + x6 (ix2 0 q))
        * (∑ k : Fin 256, x2 (ix2 p k) * x7 (ix2 k q)) := by
  unfold out0_8
  have hz : (![0, 0] : Fin 2 → ℕ) = fun _ => 0 := by decide
  rw [View.canon_cons_unit_zero hz]
  simp only [View.ld_unit_zero (S := S256x1024) hz, View.ld_unit_zero (S := S256x256) hz, View.ld_unit_zero (S := S1x1024) hz,
    View.ld_unit_zero (S := S1024x1024) hz, View.ld_unit_zero (S := S256x1024) hz]
  rw [pay1_at, pay3_at]
  simp only [pay2_at, sigmoid]

/-- The call's result is `G` of its arguments. -/
theorem final : (dats (F := Ideal) m 0 c).arrAt 8 cfg0.N
      = G (a0 m c) (a1 m c) (a2 m c) (a3 m c) (a4 m c) (a5 m c) (a6 m c) (a7 m c) := by
  refine (dats m 0 c).arrAt_eq_of_covers 8 _ (by decide +kernel) fun t hf y => ?_
  rw [after0_8]
  blk_simp []
  have ht : t.val < 1 := t.2
  obtain ⟨p, hp⟩ : ∃ p : Fin 256, p = y 0 := ⟨y 0, rfl⟩
  obtain ⟨q, hq⟩ : ∃ q : Fin 1024, q = y 1 := ⟨y 1, rfl⟩
  have hy : y = (ix2 p q : S256x1024.Idx) := by rw [hp, hq]; exact (ix2_eta y).symm
  rw [hy]
  have he : ∀ X : FVec Ideal S256x1024 .f32, X ((win0_8.blk t).view.emb (ix2 p q)) = X (ix2 ⟨256 * t.val + p.1, by omega⟩ q) := fun X => by
    blk_ext [idx t]
  refine Eq.trans ?_ (he _).symm
  refine (out8_at _ _ _ _ _ _ _ _ p q).trans ?_
  simp only [in0, in1, in2, in3, in4, in5, in6, in7]
  rw [G_at, out]
end

end Cert.Tail.Ln2s
end
end
-- ==== Proof.Tail.Ln2Ref.lean ====
module

public import proofs.«01_k».proof.Proof.Gen.Reference4Ideal.Read
public import proofs.«01_k».proof.Proof.Tail.Ln2Out
public import Idealize.ShloMosaic.Lib.Pointwise

@[expose] public section
set_option maxRecDepth 16384
noncomputable section
namespace Cert.Tail.Ln2Ref
open Idealize.ShloMosaic Cert.Reference4Ideal Cert.Reference4Ideal.Read Idealize.SL.Sem

/-! The reference of the last normalization and the gated embedding, read at an index. -/

variable (x0 x1 : FVec Ideal S16384x1024 .f32) (x2 : FVec Ideal S16384x256 .f32) (g b : FVec Ideal S1024 .f32) (w : FVec Ideal S1024x1024 .f32)
    (gb : FVec Ideal S1024 .f32) (pw : FVec Ideal S256x1024 .f32)

theorem r2 (t : Fin 16384) (q : Fin 1024) : val_main_v2 (F := Ideal) x0 x1 (ix2 t q) = wAlpha * x0 (ix2 t q) + x1 (ix2 t q) := by
  pointwise [val_main_v2, val_main_v1, val_main_cst]
  rfl

theorem r6 (t : Fin 16384) : val_main_v6 (F := Ideal) x0 x1 (ix2 t 0) = mu (fun k => wAlpha * x0 (ix2 t k) + x1 (ix2 t k)) := by
  simp only [← r2]
  pointwise [val_main_v6, val_main_v5, val_main_v4, val_main_v3, val_main_cst_0, val_main_cst_1]
  rfl

theorem r13 (t : Fin 16384) : val_main_v13 (F := Ideal) x0 x1 (ix2 t 0) = mu (fun k => (val_main_v2 (F := Ideal) x0 x1 (ix2 t k) - val_main_v6 (F := Ideal) x0 x1 (ix2 t 0)) * (val_main_v2 (F := Ideal) x0 x1 (ix2 t k) - val_main_v6 (F := Ideal) x0 x1 (ix2 t 0))) := by
  pointwise [val_main_v13, val_main_v12, val_main_v11, val_main_v10, val_main_v9, val_main_v8, val_main_v7, val_main_cst_2, val_main_cst_3]
  rfl

theorem r26 (t : Fin 16384) (q : Fin 1024) : val_main_v26 (F := Ideal) x0 x1 g b (ix2 t q) = ln (fun k => wAlpha * x0 (ix2 t k) + x1 (ix2 t k)) q (g (ix1 q)) (b (ix1 q)) := by
  have h : val_main_v26 (F := Ideal) x0 x1 g b (ix2 t q) = (val_main_v2 (F := Ideal) x0 x1 (ix2 t q) - val_main_v6 (F := Ideal) x0 x1 (ix2 t 0)) * Ideal.rsqrt (val_main_v13 (F := Ideal) x0 x1 (ix2 t 0) + wEps) * g (ix1 q) + b (ix1 q) := by
    pointwise [val_main_v26, val_main_v25, val_main_v24, val_main_v23, val_main_v22, val_main_v21, val_main_v20, val_main_v19, val_main_v18, val_main_v17, val_main_v16, val_main_v15, val_main_v14, val_main_cst_4]
    rfl
  rw [h, r13, r6]
  simp only [r2]
  rfl

theorem r39 (t : Fin 16384) (q : Fin 1024) : val_main_v39 (F := Ideal) x0 x1 x2 g b w gb pw (ix2 t q) = Ln2.out x0 x1 x2 g b w gb pw t q := by
  have h : val_main_v39 (F := Ideal) x0 x1 x2 g b w gb pw (ix2 t q) = val_main_v26 (F := Ideal) x0 x1 g b (ix2 t q)
      + Ideal.logistic ((∑ k : Fin 1024, val_main_v26 (F := Ideal) x0 x1 g b (ix2 t k) * w (ix2 k q)) + gb (ix1 q)) * (∑ k : Fin 256, x2 (ix2 t k) * pw (ix2 k q)) := by
    pointwise [val_main_v39, val_main_v38, val_main_v37, val_main_v36, val_main_v35, val_main_v34, val_main_v33, val_main_v32, val_main_v31, val_main_v30, val_main_v29, val_main_v28, val_main_v27, val_main_cst_5, val_main_cst_6]
    rfl
  rw [h]
  simp only [r26]
  rfl

/-- The reference's result is `G` of its arguments. -/
theorem ref_eq : val_main_v39 (F := Ideal) x0 x1 x2 g b w gb pw = Ln2.G x0 x1 x2 g b w gb pw :=
  funext fun i => by
    rw [← ix2_eta i]
    exact r39 x0 x1 x2 g b w gb pw (i 0) (i 1)

end Cert.Tail.Ln2Ref
end
end
-- ==== Proof.Tail.Ln2sRef.lean ====
module

public import proofs.«01_k».proof.Proof.Gen.Reference7Ideal.Read
public import proofs.«01_k».proof.Proof.Tail.Ln2sOut
public import Idealize.ShloMosaic.Lib.Pointwise

@[expose] public section
set_option maxRecDepth 16384
noncomputable section
namespace Cert.Tail.Ln2sRef
open Idealize.ShloMosaic Cert.Reference7Ideal Cert.Reference7Ideal.Read Idealize.SL.Sem

/-! The reference of the last normalization and the gated embedding, read at an index. -/

variable (x0 x1 : FVec Ideal S256x1024 .f32) (x2 : FVec Ideal S256x256 .f32) (g b : FVec Ideal S1024 .f32) (w : FVec Ideal S1024x1024 .f32)
    (gb : FVec Ideal S1024 .f32) (pw : FVec Ideal S256x1024 .f32)

theorem r2 (t : Fin 256) (q : Fin 1024) : val_main_v2 (F := Ideal) x0 x1 (ix2 t q) = wAlpha * x0 (ix2 t q) + x1 (ix2 t q) := by
  pointwise [val_main_v2, val_main_v1, val_main_cst]
  rfl

theorem r6 (t : Fin 256) : val_main_v6 (F := Ideal) x0 x1 (ix2 t 0) = mu (fun k => wAlpha * x0 (ix2 t k) + x1 (ix2 t k)) := by
  simp only [← r2]
  pointwise [val_main_v6, val_main_v5, val_main_v4, val_main_v3, val_main_cst_0, val_main_cst_1]
  rfl

theorem r13 (t : Fin 256) : val_main_v13 (F := Ideal) x0 x1 (ix2 t 0) = mu (fun k => (val_main_v2 (F := Ideal) x0 x1 (ix2 t k) - val_main_v6 (F := Ideal) x0 x1 (ix2 t 0)) * (val_main_v2 (F := Ideal) x0 x1 (ix2 t k) - val_main_v6 (F := Ideal) x0 x1 (ix2 t 0))) := by
  pointwise [val_main_v13, val_main_v12, val_main_v11, val_main_v10, val_main_v9, val_main_v8, val_main_v7, val_main_cst_2, val_main_cst_3]
  rfl

theorem r26 (t : Fin 256) (q : Fin 1024) : val_main_v26 (F := Ideal) x0 x1 g b (ix2 t q) = ln (fun k => wAlpha * x0 (ix2 t k) + x1 (ix2 t k)) q (g (ix1 q)) (b (ix1 q)) := by
  have h : val_main_v26 (F := Ideal) x0 x1 g b (ix2 t q) = (val_main_v2 (F := Ideal) x0 x1 (ix2 t q) - val_main_v6 (F := Ideal) x0 x1 (ix2 t 0)) * Ideal.rsqrt (val_main_v13 (F := Ideal) x0 x1 (ix2 t 0) + wEps) * g (ix1 q) + b (ix1 q) := by
    pointwise [val_main_v26, val_main_v25, val_main_v24, val_main_v23, val_main_v22, val_main_v21, val_main_v20, val_main_v19, val_main_v18, val_main_v17, val_main_v16, val_main_v15, val_main_v14, val_main_cst_4]
    rfl
  rw [h, r13, r6]
  simp only [r2]
  rfl

theorem r39 (t : Fin 256) (q : Fin 1024) : val_main_v39 (F := Ideal) x0 x1 x2 g b w gb pw (ix2 t q) = Ln2s.out x0 x1 x2 g b w gb pw t q := by
  have h : val_main_v39 (F := Ideal) x0 x1 x2 g b w gb pw (ix2 t q) = val_main_v26 (F := Ideal) x0 x1 g b (ix2 t q)
      + Ideal.logistic ((∑ k : Fin 1024, val_main_v26 (F := Ideal) x0 x1 g b (ix2 t k) * w (ix2 k q)) + gb (ix1 q)) * (∑ k : Fin 256, x2 (ix2 t k) * pw (ix2 k q)) := by
    pointwise [val_main_v39, val_main_v38, val_main_v37, val_main_v36, val_main_v35, val_main_v34, val_main_v33, val_main_v32, val_main_v31, val_main_v30, val_main_v29, val_main_v28, val_main_v27, val_main_cst_5, val_main_cst_6]
    rfl
  rw [h]
  simp only [r26]
  rfl

/-- The reference's result is `G` of its arguments. -/
theorem ref_eq : val_main_v39 (F := Ideal) x0 x1 x2 g b w gb pw = Ln2s.G x0 x1 x2 g b w gb pw :=
  funext fun i => by
    rw [← ix2_eta i]
    exact r39 x0 x1 x2 g b w gb pw (i 0) (i 1)

end Cert.Tail.Ln2sRef
end
end
-- ==== Proof.Tail.Out1Kernel.lean ====
module

public import proofs.«01_k».proof.Proof.Gen.Kernel5Ideal.Value
public import proofs.«01_k».proof.Proof.Tail.Norm
public import Idealize.ShloMosaic.Lib.Claim
public import Idealize.ShloMosaic.Lib.Pointwise
public import Idealize.ShloMosaic.Lib.Pipeline.ValueKit

@[expose] public section
set_option maxRecDepth 16384
noncomputable section
namespace Cert.Tail.Out1
open Idealize.ShloMosaic Cert.Kernel5Ideal Cert.Kernel5Ideal.Gen Idealize.SL.Sem

/-! The output product and the first normalization: what the call leaves in its two results. -/

/-- The upper half and the lower half of the 1024 rows of the output matrix. -/
abbrev lo (k : Fin 512) : Fin 1024 := ⟨k.1, by omega⟩
abbrev hi (k : Fin 512) : Fin 1024 := ⟨512 + k.1, by omega⟩

/-- What is normalized, at row `t`, column `q`. -/
def pre (x : FVec Ideal S16384x1024 .f32) (o y : FVec Ideal S16384x512 .bf16) (w : FVec Ideal S1024x1024 .f32) (t : Fin 16384) (q : Fin 1024) : EReal :=
  wAlpha * x (ix2 t q) + ((∑ k : Fin 512, o (ix2 t k) * w (ix2 (lo k) q)) + (∑ k : Fin 512, y (ix2 t k) * w (ix2 (hi k) q)))

/-- The first result at row `t`, column `q`; the second is its transpose. -/
def out (x : FVec Ideal S16384x1024 .f32) (o y : FVec Ideal S16384x512 .bf16) (w : FVec Ideal S1024x1024 .f32) (g b : FVec Ideal S1024 .f32) (t : Fin 16384) (q : Fin 1024) : EReal :=
  ln (fun k => pre x o y w t k) q (g (ix1 q)) (b (ix1 q))

def G (x : FVec Ideal S16384x1024 .f32) (o y : FVec Ideal S16384x512 .bf16) (w : FVec Ideal S1024x1024 .f32) (g b : FVec Ideal S1024 .f32) : FVec Ideal S16384x1024 .f32 :=
  fun i => out x o y w g b (i 0) (i 1)
def GT (x : FVec Ideal S16384x1024 .f32) (o y : FVec Ideal S16384x512 .bf16) (w : FVec Ideal S1024x1024 .f32) (g b : FVec Ideal S1024 .f32) : FVec Ideal S1024x16384 .bf16 :=
  fun i => out x o y w g b (i 1) (i 0)

theorem G_at (x : FVec Ideal S16384x1024 .f32) (o y : FVec Ideal S16384x512 .bf16) (w : FVec Ideal S1024x1024 .f32) (g b : FVec Ideal S1024 .f32) (t : Fin 16384) (q : Fin 1024) :
    G x o y w g b (ix2 t q) = out x o y w g b t q := rfl
theorem GT_at (x : FVec Ideal S16384x1024 .f32) (o y : FVec Ideal S16384x512 .bf16) (w : FVec Ideal S1024x1024 .f32) (g b : FVec Ideal S1024 .f32) (t : Fin 16384) (q : Fin 1024) :
    GT x o y w g b (ix2 q t) = out x o y w g b t q := rfl

theorem pay2_at (v0 : FVec Ideal S512x512 .bf16) (v1 : FVec Ideal S512x1024 .bf16) (v4 : FVec Ideal S512x512 .bf16) (v5 : FVec Ideal S512x1024 .bf16) (v9 : FVec Ideal S512x1024 .f32)
    (v13 v15 : FVec Ideal S1x1024 .f32) (p : Fin 512) (q : Fin 1024) :
    k0_pay2 (F := Ideal) v0 v1 v4 v5 v9 v13 v15 (ix2 p q)
      = ln (fun j => wAlpha * v9 (ix2 p j) + ((∑ k : Fin 512, v0 (ix2 p k) * v1 (ix2 k j)) + (∑ k : Fin 512, v4 (ix2 p k) * v5 (ix2 k j)))) q (v13 (ix2 0 q)) (v15 (ix2 0 q)) := by
  pointwise [k0_pay2]
  rfl

theorem pay1_at (v : FVec Ideal S512x1024 .f32) (p : Fin 512) (q : Fin 1024) : k0_pay1 (F := Ideal) v (ix2 q p) = v (ix2 p q) := by
  pointwise [k0_pay1]

theorem pay3_at (x0 : FVec Ideal S512x1024 .f32) (x1 x2 : FVec Ideal S512x512 .bf16) (x3 : FVec Ideal S1024x1024 .bf16) (x4 x5 : FVec Ideal S1x1024 .f32) (p : Fin 512) (q : Fin 1024) :
    k0_pay3 (F := Ideal) x0 x1 x2 x3 x4 x5 (ix2 p q)
      = ln (fun j => wAlpha * x0 (ix2 p j) + ((∑ k : Fin 512, x1 (ix2 p k) * x3 (ix2 (lo k) j)) + (∑ k : Fin 512, x2 (ix2 p k) * x3 (ix2 (hi k) j)))) q (x4 (ix2 0 q)) (x5 (ix2 0 q)) := by
  have hz : (![0, 0] : Fin 2 → ℕ) = fun _ => 0 := by decide
  have h1 : ∀ (k : Fin 512) (j : Fin 1024), View.ld (Val := Elt Ideal) (e' := .bf16) x3 r0_1 (ix2 k j) = x3 (ix2 (lo k) j) := fun k j => by
    rw [View.ld_unit]
    pointwise []
  have h2 : ∀ (k : Fin 512) (j : Fin 1024), View.ld (Val := Elt Ideal) (e' := .bf16) x3 r0_2 (ix2 k j) = x3 (ix2 (hi k) j) := fun k j => by
    rw [View.ld_unit]
    pointwise []
  unfold k0_pay3
  rw [pay2_at, View.ld_unit_zero (S := S512x512) hz, View.ld_unit_zero (S := S512x512) hz, View.ld_unit_zero (S := S512x1024) hz, View.ld_unit_zero (S := S1x1024) hz, View.ld_unit_zero (S := S1x1024) hz]
  simp only [h1, h2]

theorem out6_at (x0 : FVec Ideal S512x1024 .f32) (x1 x2 : FVec Ideal S512x512 .bf16) (x3 : FVec Ideal S1024x1024 .bf16) (x4 x5 : FVec Ideal S1x1024 .f32) (p : Fin 512) (q : Fin 1024) :
    out0_6 (F := Ideal) x0 x1 x2 x3 x4 x5 (ix2 p q) = k0_pay3 (F := Ideal) x0 x1 x2 x3 x4 x5 (ix2 p q) := by
  have hz : (![0, 0] : Fin 2 → ℕ) = fun _ => 0 := by decide
  unfold out0_6
  rw [View.canon_cons_unit_zero hz]

theorem out7_at (x0 : FVec Ideal S512x1024 .f32) (x1 x2 : FVec Ideal S512x512 .bf16) (x3 : FVec Ideal S1024x1024 .bf16) (x4 x5 : FVec Ideal S1x1024 .f32) (p : Fin 512) (q : Fin 1024) :
    out0_7 (F := Ideal) x0 x1 x2 x3 x4 x5 (ix2 q p) = k0_pay3 (F := Ideal) x0 x1 x2 x3 x4 x5 (ix2 p q) := by
  have hz : (![0, 0] : Fin 2 → ℕ) = fun _ => 0 := by decide
  unfold out0_7
  rw [View.canon_cons_unit_zero hz, pay1_at]

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![0, t.val] :=
  (by decide +kernel : ∀ t : Fin grid0.N, _)

section
variable (c : Dev nD)
abbrev a0 : FVec Ideal S16384x1024 .f32 := m (c.tc.loc main_arg0)
abbrev a1 : FVec Ideal S16384x512 .bf16 := m (c.tc.loc main_arg1)
abbrev a2 : FVec Ideal S16384x512 .bf16 := m (c.tc.loc main_arg2)
abbrev a3 : FVec Ideal S1024x1024 .f32 := m (c.tc.loc main_arg3)
abbrev a4 : FVec Ideal S1024 .f32 := m (c.tc.loc main_arg4)
abbrev a5 : FVec Ideal S1024 .f32 := m (c.tc.loc main_arg5)

theorem in0 (t : Fin cfg0.N) (p : Fin 512) (k : Fin 1024) :
    (iblk m c 0 t : FVec Ideal S512x1024 .f32) (ix2 p k) = a0 m c (ix2 ⟨512 * t.val + p.1, by have : t.val < 32 := t.2; omega⟩ k) := by
  blk_ext [iblk, V, idx t]
theorem in1 (t : Fin cfg0.N) (p : Fin 512) (k : Fin 512) :
    (iblk m c 1 t : FVec Ideal S512x512 .bf16) (ix2 p k) = a1 m c (ix2 ⟨512 * t.val + p.1, by have : t.val < 32 := t.2; omega⟩ k) := by
  blk_ext [iblk, V, idx t]
theorem in2 (t : Fin cfg0.N) (p : Fin 512) (k : Fin 512) :
    (iblk m c 2 t : FVec Ideal S512x512 .bf16) (ix2 p k) = a2 m c (ix2 ⟨512 * t.val + p.1, by have : t.val < 32 := t.2; omega⟩ k) := by
  blk_ext [iblk, V, idx t]
theorem in3 (t : Fin cfg0.N) (p : Fin 1024) (k : Fin 1024) : (iblk m c 3 t : FVec Ideal S1024x1024 .bf16) (ix2 p k) = a3 m c (ix2 p k) := by
  have e : V m c main_v0 = truncf .bf16 (a3 m c) bitsLt_bf16_f32 := by entry_read; rfl
  have h : (iblk m c 3 t : FVec Ideal S1024x1024 .bf16) (ix2 p k) = (V m c main_v0 : FVec Ideal S1024x1024 .bf16) (ix2 p k) := by blk_ext [iblk, idx t]
  rw [h, e]
  pointwise []
theorem in4 (t : Fin cfg0.N) (k : Fin 1024) : (iblk m c 4 t : FVec Ideal S1x1024 .f32) (ix2 0 k) = a4 m c (ix1 k) := by
  have e : V m c main_v1 = shapeCast S1x1024 (a4 m c) Gen.shapeCasts_S1024_S1x1024 := by entry_read; rfl
  have h : (iblk m c 4 t : FVec Ideal S1x1024 .f32) (ix2 0 k) = (V m c main_v1 : FVec Ideal S1x1024 .f32) (ix2 0 k) := by blk_ext [iblk, idx t]
  rw [h, e]
  pointwise []
theorem in5 (t : Fin cfg0.N) (k : Fin 1024) : (iblk m c 5 t : FVec Ideal S1x1024 .f32) (ix2 0 k) = a5 m c (ix1 k) := by
  have e : V m c main_v2 = shapeCast S1x1024 (a5 m c) Gen.shapeCasts_S1024_S1x1024 := by entry_read; rfl
  have h : (iblk m c 5 t : FVec Ideal S1x1024 .f32) (ix2 0 k) = (V m c main_v2 : FVec Ideal S1x1024 .f32) (ix2 0 k) := by blk_ext [iblk, idx t]
  rw [h, e]
  pointwise []

/-- The call's result 1 is `G` of its arguments. -/
theorem final6 : (dats (F := Ideal) m 0 c).arrAt 6 cfg0.N = G (a0 m c) (a1 m c) (a2 m c) (a3 m c) (a4 m c) (a5 m c) := by
  refine (dats m 0 c).arrAt_eq_of_covers 6 _ (by decide +kernel) fun t hf y => ?_
  rw [after0_6]
  blk_simp []
  have ht : t.val < 32 := t.2
  obtain ⟨p, hp⟩ : ∃ p : Fin 512, p = y 0 := ⟨y 0, rfl⟩
  obtain ⟨q, hq⟩ : ∃ q : Fin 1024, q = y 1 := ⟨y 1, rfl⟩
  have hy : y = (ix2 p q : S512x1024.Idx) := by rw [hp, hq]; exact (ix2_eta y).symm
  rw [hy]
  have he : ∀ X : FVec Ideal S16384x1024 .f32, X ((win0_6.blk t).view.emb (ix2 p q)) = X (ix2 ⟨512 * t.val + p.1, by omega⟩ q) := fun X => by
    blk_ext [idx t]
  refine Eq.trans ?_ (he _).symm
  refine (out6_at _ _ _ _ _ _ p q).trans ?_
  rw [pay3_at]
  simp only [in0, in1, in2, in3, in4, in5]
  rw [G_at]
  unfold out pre
  with_reducible rfl

/-- The call's result 2 is `GT` of its arguments. -/
theorem final7 : (dats (F := Ideal) m 0 c).arrAt 7 cfg0.N = GT (a0 m c) (a1 m c) (a2 m c) (a3 m c) (a4 m c) (a5 m c) := by
  refine (dats m 0 c).arrAt_eq_of_covers 7 _ (by decide +kernel) fun t hf y => ?_
  rw [after0_7]
  blk_simp []
  have ht : t.val < 32 := t.2
  obtain ⟨p, hp⟩ : ∃ p : Fin 512, p = y 1 := ⟨y 1, rfl⟩
  obtain ⟨q, hq⟩ : ∃ q : Fin 1024, q = y 0 := ⟨y 0, rfl⟩
  have hy : y = (ix2 q p : S1024x512.Idx) := by rw [hp, hq]; exact (ix2_eta y).symm
  rw [hy]
  have he : ∀ X : FVec Ideal S1024x16384 .bf16, X ((win0_7.blk t).view.emb (ix2 q p)) = X (ix2 q ⟨512 * t.val + p.1, by omega⟩) := fun X => by
    blk_ext [idx t]
  refine Eq.trans ?_ (he _).symm
  refine (out7_at _ _ _ _ _ _ p q).trans ?_
  rw [pay3_at]
  simp only [in0, in1, in2, in3, in4, in5]
  rw [GT_at]
  unfold out pre
  with_reducible rfl
end

end Cert.Tail.Out1
end
end
-- ==== Proof.Tail.Out1Ref.lean ====
module

public import proofs.«01_k».proof.Proof.Gen.Reference5Ideal.Read
public import proofs.«01_k».proof.Proof.Tail.Out1Kernel
public import Idealize.ShloMosaic.Lib.Pointwise

@[expose] public section
set_option maxRecDepth 16384
noncomputable section
namespace Cert.Tail.Out1Ref
open Idealize.ShloMosaic Cert.Reference5Ideal Cert.Reference5Ideal.Read Idealize.SL.Sem Cert.Tail.Out1

/-! The reference of the output product and the first normalization, read at an index. -/

variable (x : FVec Ideal S16384x1024 .f32) (o y : FVec Ideal S16384x512 .bf16) (w : FVec Ideal S1024x1024 .f32) (g b : FVec Ideal S1024 .f32)

theorem r2lo (t : Fin 16384) (k : Fin 512) : val_main_v2 (F := Ideal) o y (ix2 t (lo k)) = o (ix2 t k) := by
  pointwise [val_main_v2, val_main_v1, val_main_v0]

theorem r2hi (t : Fin 16384) (k : Fin 512) : val_main_v2 (F := Ideal) o y (ix2 t (hi k)) = y (ix2 t k) := by
  pointwise [val_main_v2, val_main_v1, val_main_v0]

theorem sum_halves (f : Fin 1024 → EReal) : ∑ k : Fin 1024, f k = (∑ k : Fin 512, f (lo k)) + ∑ k : Fin 512, f (hi k) :=
  Fin.sum_univ_add (a := 512) (b := 512) f

theorem r6 (t : Fin 16384) (q : Fin 1024) : val_main_v6 (F := Ideal) x o y w (ix2 t q) = pre x o y w t q := by
  have h : val_main_v6 (F := Ideal) x o y w (ix2 t q) = wAlpha * x (ix2 t q) + ∑ k : Fin 1024, val_main_v2 (F := Ideal) o y (ix2 t k) * w (ix2 k q) := by
    pointwise [val_main_v6, val_main_v5, val_main_v4, val_main_cst, val_main_v3]
    rfl
  rw [h, sum_halves]
  simp only [r2lo, r2hi]
  rfl

theorem r10 (t : Fin 16384) : val_main_v10 (F := Ideal) x o y w (ix2 t 0) = mu (fun k => val_main_v6 (F := Ideal) x o y w (ix2 t k)) := by
  pointwise [val_main_v10, val_main_v9, val_main_v8, val_main_v7, val_main_cst_0, val_main_cst_1]
  rfl

theorem r17 (t : Fin 16384) : val_main_v17 (F := Ideal) x o y w (ix2 t 0) = mu (fun k => (val_main_v6 (F := Ideal) x o y w (ix2 t k) - val_main_v10 (F := Ideal) x o y w (ix2 t 0)) * (val_main_v6 (F := Ideal) x o y w (ix2 t k) - val_main_v10 (F := Ideal) x o y w (ix2 t 0))) := by
  pointwise [val_main_v17, val_main_v16, val_main_v15, val_main_v14, val_main_v13, val_main_v12, val_main_v11, val_main_cst_2, val_main_cst_3]
  rfl

theorem r30 (t : Fin 16384) (q : Fin 1024) : val_main_v30 (F := Ideal) x o y w g b (ix2 t q) = out x o y w g b t q := by
  have h : val_main_v30 (F := Ideal) x o y w g b (ix2 t q) = (val_main_v6 (F := Ideal) x o y w (ix2 t q) - val_main_v10 (F := Ideal) x o y w (ix2 t 0)) * Ideal.rsqrt (val_main_v17 (F := Ideal) x o y w (ix2 t 0) + wEps) * g (ix1 q) + b (ix1 q) := by
    pointwise [val_main_v30, val_main_v29, val_main_v28, val_main_v27, val_main_v26, val_main_v25, val_main_v24, val_main_v23, val_main_v22, val_main_v21, val_main_v20, val_main_v19, val_main_v18, val_main_cst_4]
    rfl
  rw [h, r17, r10]
  simp only [r6]
  rfl

/-- The reference's first result is `G` of its arguments. -/
theorem ref_eq : val_main_v30 (F := Ideal) x o y w g b = G x o y w g b :=
  funext fun i => by
    rw [← ix2_eta i]
    exact r30 x o y w g b (i 0) (i 1)

/-- The reference's second result is the transpose. -/
theorem refT_eq : val_main_v32 (F := Ideal) x o y w g b = GT x o y w g b :=
  funext fun i => by
    rw [← ix2_eta i]
    have h : ∀ (t : Fin 16384) (q : Fin 1024), val_main_v32 (F := Ideal) x o y w g b (ix2 q t) = val_main_v30 (F := Ideal) x o y w g b (ix2 t q) := fun t q => by
      pointwise [val_main_v32, val_main_v31]
    exact (h (i 1) (i 0)).trans (r30 x o y w g b (i 1) (i 0))

end Cert.Tail.Out1Ref
end
end
-- ==== Proof.Rec.Math.lean ====
module

public import Idealize.ShloMosaic.Lib.Pointwise
public import proofs.«01_k».proof.Proof.Tail.Norm

@[expose] public section
noncomputable section
namespace Cert.Rec
open Idealize.ShloMosaic

/-! The gated linear recurrence over eight steps, and the scalar functions around it, on the extended reals. -/

/-- A decay: a real number that is not negative. -/
def Good (x : EReal) : Prop := ∃ r : ℝ, 0 ≤ r ∧ x = (r : EReal)

theorem Good.mul {x y : EReal} (hx : Good x) (hy : Good y) : Good (x * y) := by
  obtain ⟨r, hr, rfl⟩ := hx
  obtain ⟨s, hs, rfl⟩ := hy
  exact ⟨r * s, mul_nonneg hr hs, (EReal.coe_mul r s).symm⟩
theorem Good.distrib {x : EReal} (hx : Good x) (y z : EReal) : x * (y + z) = x * y + x * z := by
  obtain ⟨r, hr, rfl⟩ := hx
  exact EReal.left_distrib_of_nonneg_of_ne_top (EReal.coe_nonneg.mpr hr) (EReal.coe_ne_top r) y z

/-- The state after step `n`, from the state `h`. -/
def run (a u : Fin 8 → EReal) (h : EReal) : (n : ℕ) → n < 8 → EReal
  | 0, hn => a ⟨0, hn⟩ * h + u ⟨0, hn⟩
  | n + 1, hn => a ⟨n + 1, hn⟩ * run a u h n (Nat.lt_of_succ_lt hn) + u ⟨n + 1, hn⟩

/-- Row `t` after `d` rows more are taken together: the values, and the decays. -/
def su (d : ℕ) (a u : Fin 8 → EReal) (t : Fin 8) : EReal :=
  if d ≤ t.1 then a t * u ⟨t.1 - d, by omega⟩ + u t else u t
def sa (d : ℕ) (a : Fin 8 → EReal) (t : Fin 8) : EReal := if d ≤ t.1 then a t * a ⟨t.1 - d, by omega⟩ else a t

/-- Three doublings, and then the start's share. -/
def dbl (a u : Fin 8 → EReal) (h : EReal) (t : Fin 8) : EReal :=
  su 4 (sa 2 (sa 1 a)) (su 2 (sa 1 a) (su 1 a u)) t + sa 4 (sa 2 (sa 1 a)) t * h

theorem dbl_eq (a u : Fin 8 → EReal) (h : EReal) (ha : ∀ t, Good (a t)) (t : Fin 8) : dbl a u h t = run a u h t.1 t.2 := by
  have hd : ∀ t y z, a t * (y + z) = a t * y + a t * z := fun t y z => (ha t).distrib y z
  have hd2 : ∀ s t y z, a s * a t * (y + z) = a s * a t * y + a s * a t * z := fun s t y z => ((ha s).mul (ha t)).distrib y z
  have hd4 : ∀ s t p q y z, a s * a t * (a p * a q) * (y + z) = a s * a t * (a p * a q) * y + a s * a t * (a p * a q) * z :=
    fun s t p q y z => (((ha s).mul (ha t)).mul ((ha p).mul (ha q))).distrib y z
  have hd3 : ∀ s t p y z, a s * a t * a p * (y + z) = a s * a t * a p * y + a s * a t * a p * z :=
    fun s t p y z => (((ha s).mul (ha t)).mul (ha p)).distrib y z
  obtain ⟨t, ht⟩ := t
  interval_cases t <;> simp only [dbl, su, sa, run, hd, hd2, hd3, hd4, Nat.reduceLeDiff, Nat.reduceSub, Nat.le_refl, if_true, if_false, reduceIte] <;> ac_rfl

end Cert.Rec
end
end
-- ==== Proof.Rec.Scalar.lean ====
module

public import proofs.«01_k».proof.Proof.Rec.Math

@[expose] public section
noncomputable section
namespace Cert.Rec
open Idealize.ShloMosaic Cert.Tail

/-! The scalar functions of the recurrence. -/

/-- The softplus of `x`. -/
def sp (x : EReal) : EReal := max x 0 + Ideal.log (1 + Ideal.exp (-(max x (-x))))
/-- The logarithm of a decay: of the parameter `lam` and the gate's argument `z`. -/
def lg (lam z : EReal) : EReal := Ideal.ofBits .f32 0xC1000000#32 * sp (-lam) * Ideal.logistic z

theorem eight_bits : Ideal.ofBits .f32 0xC1000000#32 = ((-8 : ℝ) : EReal) := by
  simp [Ideal.ofBits, Ideal.ieee]
  rw [← EReal.coe_mul]
  norm_num
theorem two_bits : Ideal.ofBits .f32 0x40000000#32 = ((2 : ℝ) : EReal) := by
  simp [Ideal.ofBits, Ideal.ieee]
  rw [← EReal.coe_mul]
  norm_num

theorem log_nonneg (y : EReal) : 0 ≤ Ideal.log (1 + Ideal.exp y) := by
  induction y using EReal.rec with
  | bot => rw [Ideal.exp_bot, add_zero, ← EReal.coe_one, Ideal.log_coe, if_neg (by norm_num), Real.log_one]; exact le_refl _
  | top => rw [Ideal.exp_top, ← EReal.coe_one, EReal.coe_add_top, Ideal.log_top]; exact le_top
  | coe r =>
    have h := Real.exp_pos r
    rw [Ideal.exp_coe, ← EReal.coe_one, ← EReal.coe_add, Ideal.log_coe, if_neg (by linarith)]
    exact EReal.coe_nonneg.mpr (Real.log_nonneg (by linarith))
theorem sp_nonneg (x : EReal) : 0 ≤ sp x := add_nonneg (le_max_right _ _) (log_nonneg _)
theorem logistic_nonneg (x : EReal) : 0 ≤ Ideal.logistic x := by
  induction x using EReal.rec with
  | bot => rw [Ideal.logistic_bot]
  | top => rw [Ideal.logistic_top]; exact zero_le_one
  | coe r => rw [Ideal.logistic_coe]; exact EReal.coe_nonneg.mpr (inv_nonneg.mpr (by positivity))
theorem lg_nonpos (lam z : EReal) : lg lam z ≤ 0 := by
  unfold lg
  rw [eight_bits, EReal.coe_neg, EReal.neg_mul, EReal.neg_mul, EReal.neg_le, neg_zero]
  exact mul_nonneg (mul_nonneg (EReal.coe_nonneg.mpr (by norm_num)) (sp_nonneg _)) (logistic_nonneg _)

theorem exp_good {x : EReal} (hx : x ≤ 0) : Good (Ideal.exp x) := by
  induction x using EReal.rec with
  | bot => exact ⟨0, le_refl _, by rw [Ideal.exp_bot, EReal.coe_zero]⟩
  | top => exact absurd hx (by simp)
  | coe r => exact ⟨Real.exp r, (Real.exp_pos r).le, Ideal.exp_coe r⟩

theorem tanh_exp (r : ℝ) : Real.tanh (-r) * (Real.exp r * Real.exp r + 1) = -(Real.exp (2 * r) - 1) := by
  rw [Real.tanh_eq_sinh_div_cosh, Real.sinh_eq, Real.cosh_eq, neg_neg, Real.exp_neg, show 2 * r = r + r by ring, Real.exp_add]
  have h := Real.exp_pos r
  field_simp
  ring

/-- One less the square of a decay, by the hyperbolic tangent of its logarithm. -/
theorem root {x : EReal} (hx : x ≤ 0) :
    Ideal.tanh (-x) * (Ideal.exp x * Ideal.exp x + Ideal.ofBits .f32 0x3F800000#32) = -(Ideal.expm1 (Ideal.ofBits .f32 0x40000000#32 * x)) := by
  rw [one_bits, two_bits, Ideal.expm1]
  induction x using EReal.rec with
  | bot =>
    rw [EReal.coe_mul_bot_of_pos (by norm_num), Ideal.exp_bot, EReal.neg_bot, Ideal.tanh_top]
    simp
  | top => exact absurd hx (by simp)
  | coe r =>
    rw [← EReal.coe_neg, Ideal.tanh_coe, Ideal.exp_coe, ← EReal.coe_mul, ← EReal.coe_add, ← EReal.coe_mul, tanh_exp, ← EReal.coe_mul, Ideal.exp_coe,
      ← EReal.coe_one, ← EReal.coe_sub, ← EReal.coe_neg]

def cG : ℝ := 6693141 / 8388608
def kG : ℝ := 12003091 / 268435456
theorem cG_bits : Ideal.ofBits .f32 0x3F4C422A#32 = (cG : EReal) := by
  simp [Ideal.ofBits, Ideal.ieee, cG]
  rw [← EReal.coe_mul]
  norm_num
theorem kG_bits : Ideal.ofBits .f32 0x3D372713#32 = (kG : EReal) := by
  simp [Ideal.ofBits, Ideal.ieee, kG]
  rw [← EReal.coe_mul]
  norm_num

/-- The gelu, in the form with the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

theorem half_tanh (w : ℝ) : 1 / 2 * (1 + Real.tanh w) = 1 / (1 + Real.exp (-(2 * w))) := by
  have h := sigmoid_real (2 * w)
  rw [show (1 / 2 : ℝ) * (2 * w) = w by ring, add_comm] at h
  rw [h, one_div]

theorem gelu_real (r : ℝ) :
    r * (1 / (1 + Real.rpow 2 (r * (-((2 * cG) * (Real.log 2)⁻¹) + -((2 * cG) * (Real.log 2)⁻¹) * kG * (r * r))))) = r * (1 / 2 * (1 + Real.tanh (cG * (r + kG * (r * r * r))))) := by
  rw [half_tanh]
  have hl : Real.log 2 ≠ 0 := (Real.log_pos (by norm_num)).ne'
  have e : Real.rpow 2 (r * (-((2 * cG) * (Real.log 2)⁻¹) + -((2 * cG) * (Real.log 2)⁻¹) * kG * (r * r))) = Real.exp (-(2 * (cG * (r + kG * (r * r * r))))) := by
    rw [Real.rpow_eq_pow, Real.rpow_def_of_pos (by norm_num)]
    congr 1
    field_simp
    ring
  rw [e]

theorem slope_neg : -((2 * cG) * (Real.log 2)⁻¹) < 0 := by
  have : 0 < Real.log 2 := Real.log_pos (by norm_num)
  unfold cG
  exact neg_neg_of_pos (by positivity)
theorem kG_pos : 0 < kG := by unfold kG; norm_num
theorem cG_pos : 0 < cG := by unfold cG; norm_num

/-- The gelu by a power of two and a quotient, with the two constants it needs. -/
theorem gelu_eq (x : EReal) :
    Ideal.div x (Ideal.ofBits .f32 0x3F800000#32 + Ideal.exp2 (x * (((-((2 * cG) * (Real.log 2)⁻¹) : ℝ) : EReal)
      + ((-((2 * cG) * (Real.log 2)⁻¹) * kG : ℝ) : EReal) * (x * x)))) = gelu x := by
  have hs := slope_neg
  have hk : -((2 * cG) * (Real.log 2)⁻¹) * kG < 0 := mul_neg_of_neg_of_pos hs kG_pos
  rw [gelu, one_bits, half_bits, cG_bits, kG_bits]
  induction x using EReal.rec with
  | bot =>
    rw [EReal.bot_mul_bot, EReal.coe_mul_top_of_neg hk, EReal.add_bot, EReal.bot_mul_bot, Ideal.exp2_top, EReal.coe_add_top, EReal.top_mul_bot,
      EReal.coe_mul_bot_of_pos kG_pos, EReal.add_bot, EReal.coe_mul_bot_of_pos cG_pos, Ideal.tanh_bot, Ideal.div, if_neg (by simp),
      show (-1 : EReal) = ((-1 : ℝ) : EReal) from by rw [EReal.coe_neg, EReal.coe_one], ← EReal.coe_add, add_neg_cancel, ← EReal.coe_mul]
    simp
  | top =>
    rw [EReal.top_mul_top, EReal.coe_mul_top_of_neg hk, EReal.add_bot, EReal.top_mul_bot, Ideal.exp2_bot, add_zero, EReal.top_mul_top,
      EReal.coe_mul_top_of_pos kG_pos, EReal.top_add_top, EReal.coe_mul_top_of_pos cG_pos, Ideal.tanh_top, Ideal.div_coe (by norm_num), ← EReal.coe_one,
      ← EReal.coe_add, ← EReal.coe_mul]
    norm_num
  | coe r =>
    have hp : (0 : ℝ) < Real.rpow 2 (r * (-((2 * cG) * (Real.log 2)⁻¹) + -((2 * cG) * (Real.log 2)⁻¹) * kG * (r * r))) := Real.rpow_pos_of_pos (by norm_num) _
    simp only [← EReal.coe_mul, ← EReal.coe_add, Ideal.tanh_coe, Ideal.exp2_coe]
    rw [Ideal.div_coe (by linarith), ← EReal.coe_mul, gelu_real]

end Cert.Rec
end
end
-- ==== Proof.Rec.Payloads.lean ====
module

public import proofs.«01_k».proof.Proof.Gen.Kernel6Ideal.Value
public import proofs.«01_k».proof.Proof.Rec.Scalar
public import Idealize.ShloMosaic.Lib.Claim
public import Idealize.ShloMosaic.Lib.Pointwise
public import Idealize.ShloMosaic.Lib.Pipeline.ValueKit

@[expose] public section
set_option maxRecDepth 16384
noncomputable section
namespace Cert.Rec
open Idealize.ShloMosaic Cert.Kernel6Ideal Cert.Kernel6Ideal.Gen Idealize.SL.Sem

/-! The recurrence of the samples: the body's values, read at an index. -/

abbrev half : EReal := Ideal.ofBits .f32 0x3F000000#32
/-- A step's weight of the gated input, from the parameter, the two gates' arguments and the input. -/
def inp (lam z z' x : EReal) : EReal := Ideal.sqrt (-(Ideal.expm1 (Ideal.ofBits .f32 0x40000000#32 * lg lam z))) * (Ideal.logistic z' * x)

theorem pay6_at (v : FVec Ideal S1x512 .f32) (q : Fin 512) :
    k0_pay6 (F := Ideal) v (ix2 0 q) = Ideal.ofBits .f32 0xC1000000#32 * sp (-(v (ix2 0 q))) := by
  pointwise [k0_pay6]
  simp only [sp, zero_sub]
  rfl
theorem pay7_at (v : FVec Ideal S1x1x512 .f32) (q : Fin 512) : k0_pay7 (F := Ideal) v (ix2 0 q) = v (ix3 0 0 q) := by
  pointwise [k0_pay7]
theorem pay8_at (v35 : FVec Ideal S1x512 .f32) (v37 : FVec Ideal S8x512 .f32) (v38 : FVec Ideal S1x512 .f32) (v43 : FVec Ideal S8x512 .f32)
    (v44 : FVec Ideal S1x512 .f32) (v48 : FVec Ideal S8x512 .f32) (v49 : FVec Ideal S1x512 .f32) (v53 : FVec Ideal S8x512 .f32) (v54 : FVec Ideal S1x512 .f32)
    (t : Fin 8) (q : Fin 512) :
    k0_pay8 (F := Ideal) v35 v37 v38 v43 v44 v48 v49 v53 v54 (ix2 t q) = v35 (ix2 0 q) + v37 (ix2 t q) * v38 (ix2 0 q) + v43 (ix2 t q) * v44 (ix2 0 q)
      + v48 (ix2 t q) * v49 (ix2 0 q) + v53 (ix2 t q) * v54 (ix2 0 q) := by
  pointwise [k0_pay8]
theorem pay10_at (v35 : FVec Ideal S1x512 .f32) (v37 : FVec Ideal S8x512 .f32) (v38 : FVec Ideal S1x512 .f32) (v43 : FVec Ideal S8x512 .f32)
    (v44 : FVec Ideal S1x512 .f32) (v48 : FVec Ideal S8x512 .f32) (v49 : FVec Ideal S1x512 .f32) (v53 : FVec Ideal S8x512 .f32) (v54 : FVec Ideal S1x512 .f32)
    (w : FVec Ideal S512x512 .bf16) (b : FVec Ideal S1x512 .f32) (t : Fin 8) (q : Fin 512) :
    k0_pay10 (F := Ideal) v35 v37 v38 v43 v44 v48 v49 v53 v54 w b (ix2 t q)
      = (∑ k : Fin 512, k0_pay8 (F := Ideal) v35 v37 v38 v43 v44 v48 v49 v53 v54 (ix2 t k) * w (ix2 k q)) + b (ix2 0 q) := by
  pointwise [k0_pay10, k0_pay9]
theorem pay11_at (v31 : FVec Ideal S1x512 .f32) (v65 : FVec Ideal S8x512 .f32) (t : Fin 8) (q : Fin 512) :
    k0_pay11 (F := Ideal) v31 v65 half (ix2 t q) = v31 (ix2 0 q) * Ideal.logistic (v65 (ix2 t q)) := by
  rw [← Tail.sigmoid]
  pointwise [k0_pay11]
theorem pay13_at (v31 : FVec Ideal S1x512 .f32) (v65 : FVec Ideal S8x512 .f32) (t : Fin 8) (q : Fin 512) :
    k0_pay13 (F := Ideal) v31 v65 half (ix2 t q) = Ideal.exp (v31 (ix2 0 q) * Ideal.logistic (v65 (ix2 t q))) := by
  rw [← pay11_at]
  pointwise [k0_pay13, k0_pay12]
theorem pay14_at (v31 : FVec Ideal S1x512 .f32) (v57 : FVec Ideal S8x512 .f32) (v58 : FVec Ideal S8x512 .bf16) (v65 : FVec Ideal S8x512 .f32)
    (w : FVec Ideal S512x512 .bf16) (b : FVec Ideal S1x512 .f32) (t : Fin 8) (q : Fin 512) (lam : EReal)
    (h : v31 (ix2 0 q) = Ideal.ofBits .f32 0xC1000000#32 * sp (-lam)) :
    k0_pay14 (F := Ideal) v31 v57 v58 v65 half w b (ix2 t q)
      = inp lam (v65 (ix2 t q)) ((∑ k : Fin 512, v58 (ix2 t k) * w (ix2 k q)) + b (ix2 0 q)) (v57 (ix2 t q)) := by
  have e : k0_pay14 (F := Ideal) v31 v57 v58 v65 half w b (ix2 t q)
      = Ideal.sqrt (Ideal.tanh (-(k0_pay11 (F := Ideal) v31 v65 half (ix2 t q))) * (Ideal.exp (k0_pay11 (F := Ideal) v31 v65 half (ix2 t q)) * Ideal.exp (k0_pay11 (F := Ideal) v31 v65 half (ix2 t q)) + Ideal.ofBits .f32 0x3F800000#32))
        * (half * (Ideal.tanh (half * ((∑ k : Fin 512, v58 (ix2 t k) * w (ix2 k q)) + b (ix2 0 q))) + Ideal.ofBits .f32 0x3F800000#32) * v57 (ix2 t q)) := by
    rw [← zero_sub]
    pointwise [k0_pay14, k0_pay12]
  rw [e, pay11_at, h, Tail.sigmoid]
  exact congrArg (Ideal.sqrt · * _) (root (lg_nonpos lam (v65 (ix2 t q))))

theorem pay15_at (v34 : FVec Ideal S1x512 .f32) (a u : FVec Ideal S8x512 .f32) (t : Fin 8) (q : Fin 512) :
    k0_pay15 (F := Ideal) (kernelRun0_A.sl.v32) v34 a u (ix2 t q) = dbl (fun s => a (ix2 s q)) (fun s => u (ix2 s q)) (v34 (ix2 0 q)) t := by
  obtain ⟨t, ht⟩ := t
  interval_cases t
  · pointwise [k0_pay15, kernelRun0_A.sl.v32]
    rfl
  all_goals
    pointwise [k0_pay15, kernelRun0_A.sl.v32]
    rfl
end Cert.Rec
end
end
-- ==== Proof.Rec.Blocks.lean ====
module

public import proofs.«01_k».proof.Proof.Rec.Payloads
public import Idealize.ShloMosaic.Lib.WholeRead

@[expose] public section
set_option maxRecDepth 16384
noncomputable section
namespace Cert.Rec
open Idealize.ShloMosaic Cert.Kernel6Ideal Cert.Kernel6Ideal.Gen Idealize.SL.Sem

/-! The recurrence of the samples: what the body leaves in its blocks. -/

/-- A channel's rows: three from the buffer, then eight of the input. -/
def rows (buf : Fin 3 → EReal) (xr : Fin 8 → EReal) (n : Fin 11) : EReal :=
  if h : n.1 < 3 then buf ⟨n.1, h⟩ else xr ⟨n.1 - 3, by omega⟩
/-- The convolution of four steps at step `t`. -/
def conv (X : Fin 11 → EReal) (w : Fin 4 → EReal) (b : EReal) (t : Fin 8) : EReal :=
  b + X ⟨t.1, by omega⟩ * w 0 + X ⟨t.1 + 1, by omega⟩ * w 1 + X ⟨t.1 + 2, by omega⟩ * w 2 + X ⟨t.1 + 3, by omega⟩ * w 3

theorem rd {s : Shape} {e : EltTy} {m : Memref sig .tc .vmem s e} (h : m.IsWhole) (X : s.Idx → Elt Ideal e) {off : Fin s.rank → ℕ} (hz : off = fun _ => 0)
    (inb : ∀ a, off a + s.size a ≤ s.size a) :
    View.readAt (Elt Ideal) m.view (Rect.unit off s.size inb).toLoadRect (h.unread X) = X := by
  subst hz
  funext x
  exact (h.readAt_unread (Val := Elt Ideal) X _ x).trans (congrArg X (funext fun a => Fin.ext (by show 0 + 1 * (x a).1 = (x a).1; omega)))
theorem rdrow {m : Memref sig .tc .vmem S4x512 .f32} (h : m.IsWhole) (X : FVec Ideal S4x512 .f32) (k : Fin 4)
    (inb : ∀ a, (![k.1, 0] : Fin 2 → ℕ) a + S1x512.size a ≤ S4x512.size a) (q : Fin 512) :
    View.readAt (Elt Ideal) m.view (Rect.unit (s := S4x512) ![k.1, 0] S1x512.size inb).toLoadRect (h.unread X) (ix2 0 q) = X (ix2 k q) := by
  refine (h.readAt_unread (Val := Elt Ideal) X _ _).trans (congrArg X (funext fun a => ?_))
  match a with
  | ⟨0, _⟩ => exact Fin.ext (by show k.1 + 1 * 0 = k.1; omega)
  | ⟨1, _⟩ => exact Fin.ext (by show 0 + 1 * q.1 = q.1; omega)

section
variable (p4 p3 : FVec Ideal S8x512 .f32)
/-- The two stores of the padded rows, as one function of the row. -/
def both (y : S16x512.Idx) : EReal := if h : (y 0).1 < 8 then p3 (ix2 ⟨(y 0).1, h⟩ (y 1)) else p4 (ix2 ⟨(y 0).1 - 8, by have : (y 0).1 < 16 := (y 0).2; omega⟩ (y 1))
theorem canon_both (h8 : ∀ a, (![8, 0] : Fin 2 → ℕ) a + S8x512.size a ≤ S16x512.size a) (h0 : ∀ a, (![0, 0] : Fin 2 → ℕ) a + S8x512.size a ≤ S16x512.size a)
    (y : S16x512.Idx) :
    View.canon (Val := Elt Ideal) (e := .f32) [⟨Rect.unit (s := S16x512) ![8, 0] S8x512.size h8, p4⟩, ⟨Rect.unit (s := S16x512) ![0, 0] S8x512.size h0, p3⟩] y = both p4 p3 y := by
  refine View.canon_apply_of_pieces (Val := Elt Ideal) (e := .f32) (both p4 p3) _ ?_ y ?_
  · intro pc hpc
    rcases List.mem_cons.mp hpc with rfl | hpc
    · intro x
      obtain ⟨s, q, rfl⟩ : ∃ (s : Fin 8) (q : Fin 512), x = (ix2 s q : S8x512.Idx) := ⟨x 0, x 1, (ix2_eta x).symm⟩
      refine Eq.trans ?_ (dif_neg (by show ¬ (8 + 1 * s.1 < 8); omega)).symm
      refine congrArg p4 (congrArg₂ ix2 (Fin.ext ?_) (Fin.ext ?_))
      · show s.1 = 8 + 1 * s.1 - 8; omega
      · show q.1 = 0 + 1 * q.1; omega
    rcases List.mem_cons.mp hpc with rfl | hpc
    · intro x
      obtain ⟨s, q, rfl⟩ : ∃ (s : Fin 8) (q : Fin 512), x = (ix2 s q : S8x512.Idx) := ⟨x 0, x 1, (ix2_eta x).symm⟩
      refine Eq.trans ?_ (dif_pos (by show 0 + 1 * s.1 < 8; omega)).symm
      refine congrArg p3 (congrArg₂ ix2 (Fin.ext ?_) (Fin.ext ?_))
      · show s.1 = 0 + 1 * s.1; omega
      · show q.1 = 0 + 1 * q.1; omega
    nomatch hpc
  · have h1 : (y 1).1 < 512 := (y 1).2
    have h16 : (y 0).1 < 16 := (y 0).2
    by_cases h : (y 0).1 < 8
    · refine ⟨⟨Rect.unit (s := S16x512) ![0, 0] S8x512.size h0, p3⟩, by simp, (Rect.mem_set_unit (s := S16x512) (inb := h0)).2 fun a => ?_⟩
      match a with
      | ⟨0, _⟩ => exact ⟨by show 0 ≤ (y 0).1; omega, by show (y 0).1 < 0 + 8; omega⟩
      | ⟨1, _⟩ => exact ⟨by show 0 ≤ (y 1).1; omega, by show (y 1).1 < 0 + 512; omega⟩
    · refine ⟨⟨Rect.unit (s := S16x512) ![8, 0] S8x512.size h8, p4⟩, by simp, (Rect.mem_set_unit (s := S16x512) (inb := h8)).2 fun a => ?_⟩
      match a with
      | ⟨0, _⟩ => exact ⟨by show 8 ≤ (y 0).1; omega, by show (y 0).1 < 8 + 8; omega⟩
      | ⟨1, _⟩ => exact ⟨by show 0 ≤ (y 1).1; omega, by show (y 1).1 < 0 + 512; omega⟩
end

theorem pay3_at (v : FVec Ideal S1x3x512 .f32) (s : Fin 3) (q : Fin 512) : k0_pay3 (F := Ideal) v (ix2 ⟨5 + s.1, by omega⟩ q) = v (ix3 0 s q) := by
  obtain ⟨s, hs⟩ := s
  interval_cases s <;> pointwise [k0_pay3] <;> rfl
theorem pay4_at (v : FVec Ideal S1x8x512 .f32) (s : Fin 8) (q : Fin 512) : k0_pay4 (F := Ideal) v (ix2 s q) = v (ix3 0 s q) := by
  pointwise [k0_pay4]
theorem pay5_at (v : FVec Ideal S3x512 .f32) (s : Fin 3) (q : Fin 512) : k0_pay5 (F := Ideal) v (ix3 0 s q) = v (ix2 s q) := by
  pointwise [k0_pay5]
theorem pay2_at (v : FVec Ideal S1x512 .f32) (q : Fin 512) : k0_pay2 (F := Ideal) v (ix3 0 0 q) = v (ix2 0 q) := by
  pointwise [k0_pay2]
theorem pay17_at (v32) (v34 : FVec Ideal S1x512 .f32) (a u : FVec Ideal S8x512 .f32) (q : Fin 512) :
    k0_pay17 (F := Ideal) v32 v34 a u (ix2 0 q) = k0_pay15 (F := Ideal) v32 v34 a u (ix2 7 q) := by
  pointwise [k0_pay17]
theorem pay16_at (v32) (v34 : FVec Ideal S1x512 .f32) (a u : FVec Ideal S8x512 .f32) (t : Fin 8) (q : Fin 512) :
    k0_pay16 (F := Ideal) v32 v34 a u (ix2 t q) = k0_pay15 (F := Ideal) v32 v34 a u (ix2 t q) := by
  pointwise [k0_pay16]
theorem pay1_at (v : FVec Ideal S8x512 .f32) (g : FVec Ideal S1x8x512 .f32) (t : Fin 8) (q : Fin 512) :
    k0_pay1 (F := Ideal) v g (ix3 0 t q) = v (ix2 t q) * gelu (g (ix3 0 t q)) := by
  rw [← gelu_eq]
  pointwise [k0_pay1]
  rfl

section
variable (c : Dev nD) (i : grid0.Coords) (arg1 : Memref sig .tc .vmem S1x8x512 .f32) (harg1 : arg1.IsWhole) (arg2 : Memref sig .tc .vmem S1x8x512 .f32) (harg2 : arg2.IsWhole) (arg3 : Memref sig .tc .vmem S1x1x512 .f32) (harg3 : arg3.IsWhole) (arg4 : Memref sig .tc .vmem S1x3x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x8x512 .bf16) (harg12 : arg12.IsWhole) (arg13 : Memref sig .tc .vmem S1x1x512 .f32) (harg13 : arg13.IsWhole) (arg14 : Memref sig .tc .vmem S1x3x512 .f32) (harg14 : arg14.IsWhole) (arg15 : Memref sig .tc .vmem S16x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole)
    (x0 : FVec Ideal S1x8x512 .f32) (x1 : FVec Ideal S1x8x512 .f32) (x2 : FVec Ideal S1x1x512 .f32) (x3 : FVec Ideal S1x3x512 .f32) (x4 : FVec Ideal S4x512 .f32) (x5 : FVec Ideal S1x512 .f32) (x6 : FVec Ideal S512x512 .bf16) (x7 : FVec Ideal S1x512 .f32) (x8 : FVec Ideal S512x512 .bf16) (x9 : FVec Ideal S1x512 .f32) (x10 : FVec Ideal S1x512 .f32)

abbrev bX (q : Fin 512) : Fin 11 → EReal := rows (fun s => x3 (ix3 0 s q)) (fun s => x0 (ix3 0 s q))
abbrev bC (t : Fin 8) (q : Fin 512) : EReal := conv (bX x0 x3 q) (fun k => x4 (ix2 k q)) (x5 (ix2 0 q)) t
abbrev bZ (w : FVec Ideal S512x512 .bf16) (b : FVec Ideal S1x512 .f32) (t : Fin 8) (q : Fin 512) : EReal :=
  (∑ k : Fin 512, bC x0 x3 x4 x5 t k * w (ix2 k q)) + b (ix2 0 q)
/-- The state of channel `q` after step `t`. -/
abbrev bH (q : Fin 512) (n : ℕ) (hn : n < 8) : EReal :=
  run (fun t => Ideal.exp (lg (x10 (ix2 0 q)) (bZ x0 x3 x4 x5 x6 x7 t q))) (fun t => inp (x10 (ix2 0 q)) (bZ x0 x3 x4 x5 x6 x7 t q) (bZ x0 x3 x4 x5 x8 x9 t q) (bC x0 x3 x4 x5 t q))
    (x2 (ix3 0 0 q)) n hn

theorem hz2 : (![0, 0] : Fin 2 → ℕ) = fun _ => 0 := by decide
theorem hz3 : (![0, 0, 0] : Fin 3 → ℕ) = fun _ => 0 := by decide

theorem at_row (n : Fin 11) (q : Fin 512) :
    both (k0_pay4 (F := Ideal) x0) (k0_pay3 (F := Ideal) x3) (ix2 ⟨5 + n.1, by omega⟩ q) = bX x0 x3 q n := by
  by_cases h : n.1 < 3
  · refine (dif_pos (by show 5 + n.1 < 8; omega)).trans (Eq.trans ?_ (dif_pos h).symm)
    exact pay3_at x3 ⟨n.1, h⟩ q
  · refine (dif_neg (by show ¬ (5 + n.1 < 8); omega)).trans (Eq.trans ?_ (dif_neg h).symm)
    refine (pay4_at x0 _ q).trans (congrArg (fun s => x0 (ix3 0 s q)) (Fin.ext ?_))
    show 5 + n.1 - 8 = n.1 - 3
    omega

theorem HS_at (y : S16x512.Idx) : View.canon (kernelRun0_A.sl.HS0_2 (F := Ideal) c arg1 harg1 arg4 harg4 x0 x3) y = both (k0_pay4 (F := Ideal) x0) (k0_pay3 (F := Ideal) x3) y := by
  unfold kernelRun0_A.sl.HS0_2
  rw [rd harg1 x0 hz3, rd harg4 x3 hz3]
  exact canon_both _ _ _ _ y

theorem v12_at (s : Fin 3) (q : Fin 512) : kernelRun0_A.sl.v12 (F := Ideal) c arg1 harg1 arg4 harg4 arg15 x0 x3 (ix2 s q) = bX x0 x3 q ⟨8 + s.1, by omega⟩ := by
  unfold kernelRun0_A.sl.v12
  rw [View.readCov_eq_canon']
  refine (HS_at c arg1 harg1 arg4 harg4 x0 x3 _).trans (Eq.trans (congrArg _ ?_) (at_row x0 x3 ⟨8 + s.1, by omega⟩ q))
  exact funext fun a => match a with
    | ⟨0, _⟩ => Fin.ext (by show 13 + 1 * s.1 = 5 + (8 + s.1); omega)
    | ⟨1, _⟩ => Fin.ext (by show 0 + 1 * q.1 = q.1; omega)
theorem v37_at (t : Fin 8) (q : Fin 512) : kernelRun0_A.sl.v37 (F := Ideal) c arg1 harg1 arg4 harg4 arg15 x0 x3 (ix2 t q) = bX x0 x3 q ⟨t.1 + 0, by omega⟩ := by
  unfold kernelRun0_A.sl.v37
  rw [View.readCov_eq_canon']
  refine (HS_at c arg1 harg1 arg4 harg4 x0 x3 _).trans (Eq.trans (congrArg _ ?_) (at_row x0 x3 ⟨t.1 + 0, by omega⟩ q))
  exact funext fun a => match a with
    | ⟨0, _⟩ => Fin.ext (by show 5 + 1 * t.1 = 5 + (t.1 + 0); omega)
    | ⟨1, _⟩ => Fin.ext (by show 0 + 1 * q.1 = q.1; omega)
theorem v43_at (t : Fin 8) (q : Fin 512) : kernelRun0_A.sl.v43 (F := Ideal) c arg1 harg1 arg4 harg4 arg15 x0 x3 (ix2 t q) = bX x0 x3 q ⟨t.1 + 1, by omega⟩ := by
  unfold kernelRun0_A.sl.v43
  rw [View.readCov_eq_canon']
  refine (HS_at c arg1 harg1 arg4 harg4 x0 x3 _).trans (Eq.trans (congrArg _ ?_) (at_row x0 x3 ⟨t.1 + 1, by omega⟩ q))
  exact funext fun a => match a with
    | ⟨0, _⟩ => Fin.ext (by show 6 + 1 * t.1 = 5 + (t.1 + 1); omega)
    | ⟨1, _⟩ => Fin.ext (by show 0 + 1 * q.1 = q.1; omega)
theorem v48_at (t : Fin 8) (q : Fin 512) : kernelRun0_A.sl.v48 (F := Ideal) c arg1 harg1 arg4 harg4 arg15 x0 x3 (ix2 t q) = bX x0 x3 q ⟨t.1 + 2, by omega⟩ := by
  unfold kernelRun0_A.sl.v48
  rw [View.readCov_eq_canon']
  refine (HS_at c arg1 harg1 arg4 harg4 x0 x3 _).trans (Eq.trans (congrArg _ ?_) (at_row x0 x3 ⟨t.1 + 2, by omega⟩ q))
  exact funext fun a => match a with
    | ⟨0, _⟩ => Fin.ext (by show 7 + 1 * t.1 = 5 + (t.1 + 2); omega)
    | ⟨1, _⟩ => Fin.ext (by show 0 + 1 * q.1 = q.1; omega)
theorem v53_at (t : Fin 8) (q : Fin 512) : kernelRun0_A.sl.v53 (F := Ideal) c arg1 harg1 arg4 harg4 arg15 x0 x3 (ix2 t q) = bX x0 x3 q ⟨t.1 + 3, by omega⟩ := by
  unfold kernelRun0_A.sl.v53
  rw [View.readCov_eq_canon']
  refine (HS_at c arg1 harg1 arg4 harg4 x0 x3 _).trans (Eq.trans (congrArg _ ?_) (at_row x0 x3 ⟨t.1 + 3, by omega⟩ q))
  exact funext fun a => match a with
    | ⟨0, _⟩ => Fin.ext (by show 8 + 1 * t.1 = 5 + (t.1 + 3); omega)
    | ⟨1, _⟩ => Fin.ext (by show 0 + 1 * q.1 = q.1; omega)

theorem r_at (q : Fin 512) : kernelRun0_A.sl.r (F := Ideal) c arg11 harg11 x10 (ix2 0 q) = Ideal.ofBits .f32 0xC1000000#32 * sp (-(x10 (ix2 0 q))) := by
  unfold kernelRun0_A.sl.r
  rw [rd harg11 x10 hz2]
  exact pay6_at x10 q
theorem r1_at (q : Fin 512) : kernelRun0_A.sl.r_1 (F := Ideal) c arg3 harg3 x2 (ix2 0 q) = x2 (ix3 0 0 q) := by
  unfold kernelRun0_A.sl.r_1
  rw [rd harg3 x2 hz3]
  exact pay7_at x2 q
theorem r2_at (t : Fin 8) (q : Fin 512) : kernelRun0_A.sl.r_2 (F := Ideal) c arg1 harg1 arg4 harg4 arg5 harg5 arg6 harg6 arg15 x0 x3 x4 x5 (ix2 t q) = bC x0 x3 x4 x5 t q := by
  unfold kernelRun0_A.sl.r_2
  rw [pay8_at, rd harg6 x5 hz2, v37_at, v43_at, v48_at, v53_at]
  exact congrArg₂ (· + ·) (congrArg₂ (· + ·) (congrArg₂ (· + ·) (congrArg (_ + ·) (congrArg (_ * ·) (rdrow harg5 x4 0 _ q))) (congrArg (_ * ·) (rdrow harg5 x4 1 _ q)))
    (congrArg (_ * ·) (rdrow harg5 x4 2 _ q))) (congrArg (_ * ·) (rdrow harg5 x4 3 _ q))
theorem r3_at (t : Fin 8) (q : Fin 512) : kernelRun0_A.sl.r_3 (F := Ideal) c arg1 harg1 arg4 harg4 arg5 harg5 arg6 harg6 arg15 x0 x3 x4 x5 (ix2 t q) = bC x0 x3 x4 x5 t q :=
  r2_at c arg1 harg1 arg4 harg4 arg5 harg5 arg6 harg6 arg15 x0 x3 x4 x5 t q
theorem r4_at (t : Fin 8) (q : Fin 512) : kernelRun0_A.sl.r_4 (F := Ideal) c arg1 harg1 arg4 harg4 arg5 harg5 arg6 harg6 arg7 harg7 arg8 harg8 arg15 x0 x3 x4 x5 x6 x7 (ix2 t q) = bZ x0 x3 x4 x5 x6 x7 t q := by
  unfold kernelRun0_A.sl.r_4
  rw [pay10_at, rd harg8 x7 hz2, rd harg7 x6 hz2]
  exact congrArg (· + _) (Finset.sum_congr rfl fun k _ => congrArg (· * _) (r2_at c arg1 harg1 arg4 harg4 arg5 harg5 arg6 harg6 arg15 x0 x3 x4 x5 t k))
end
end Cert.Rec
end
end
-- ==== Proof.Rec.Points.lean ====
module

public import proofs.«01_k».proof.Proof.Rec.Blocks

@[expose] public section
set_option maxRecDepth 16384
noncomputable section
namespace Cert.Rec
open Idealize.ShloMosaic Cert.Kernel6Ideal Cert.Kernel6Ideal.Gen Idealize.SL.Sem

/-! The recurrence of the samples: the three blocks that the body writes. -/

section
variable (c : Dev nD) (i : grid0.Coords) (arg1 : Memref sig .tc .vmem S1x8x512 .f32) (harg1 : arg1.IsWhole) (arg2 : Memref sig .tc .vmem S1x8x512 .f32) (harg2 : arg2.IsWhole) (arg3 : Memref sig .tc .vmem S1x1x512 .f32) (harg3 : arg3.IsWhole) (arg4 : Memref sig .tc .vmem S1x3x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x8x512 .bf16) (harg12 : arg12.IsWhole) (arg13 : Memref sig .tc .vmem S1x1x512 .f32) (harg13 : arg13.IsWhole) (arg14 : Memref sig .tc .vmem S1x3x512 .f32) (harg14 : arg14.IsWhole) (arg15 : Memref sig .tc .vmem S16x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole)
    (x0 : FVec Ideal S1x8x512 .f32) (x1 : FVec Ideal S1x8x512 .f32) (x2 : FVec Ideal S1x1x512 .f32) (x3 : FVec Ideal S1x3x512 .f32) (x4 : FVec Ideal S4x512 .f32) (x5 : FVec Ideal S1x512 .f32) (x6 : FVec Ideal S512x512 .bf16) (x7 : FVec Ideal S1x512 .f32) (x8 : FVec Ideal S512x512 .bf16) (x9 : FVec Ideal S1x512 .f32) (x10 : FVec Ideal S1x512 .f32)

theorem unit_idx {s : Shape} {off : Fin s.rank → ℕ} (hz : off = fun _ => 0) (inb : ∀ a, off a + s.size a ≤ s.size a) (y : s.Idx) :
    (Rect.unit off s.size inb).toLoadRect.idx y = y := by
  subst hz
  exact funext fun a => Fin.ext (by show 0 + 1 * (y a).1 = (y a).1; omega)
theorem hoff : k0_off1 = fun _ => 0 := k0_off1_eq.trans hz2

theorem v110_at (t : Fin 8) (q : Fin 512) :
    kernelRun0_A.sl.v110 (F := Ideal) c arg1 harg1 arg4 harg4 arg5 harg5 arg6 harg6 arg7 harg7 arg8 harg8 arg11 harg11 arg15 arg16 x0 x3 x4 x5 x6 x7 x10 (ix2 t q) = Ideal.exp (lg (x10 (ix2 0 q)) (bZ x0 x3 x4 x5 x6 x7 t q)) := by
  unfold kernelRun0_A.sl.v110
  rw [View.readCov_eq_canon']
  refine (congrArg (View.canon _) (unit_idx (s := S8x512) hoff _ _)).trans ?_
  unfold kernelRun0_A.sl.HS1_1
  rw [View.canon_unit_zero hz2]
  refine (pay13_at _ _ t q).trans ?_
  rw [r_at, r4_at]
  rfl
theorem v112_at (t : Fin 8) (q : Fin 512) :
    kernelRun0_A.sl.v112 (F := Ideal) c arg1 harg1 arg4 harg4 arg5 harg5 arg6 harg6 arg7 harg7 arg8 harg8 arg9 harg9 arg10 harg10 arg11 harg11 arg15 arg17 x0 x3 x4 x5 x6 x7 x8 x9 x10 (ix2 t q)
      = inp (x10 (ix2 0 q)) (bZ x0 x3 x4 x5 x6 x7 t q) (bZ x0 x3 x4 x5 x8 x9 t q) (bC x0 x3 x4 x5 t q) := by
  unfold kernelRun0_A.sl.v112
  rw [View.readCov_eq_canon']
  refine (congrArg (View.canon _) (unit_idx (s := S8x512) hoff _ _)).trans ?_
  unfold kernelRun0_A.sl.HS2_1
  rw [View.canon_unit_zero hz2]
  refine (pay14_at _ _ _ _ _ _ t q (x10 (ix2 0 q)) (r_at c arg11 harg11 x10 q)).trans ?_
  rw [r4_at, r2_at, rd harg10 x9 hz2, rd harg9 x8 hz2]
  exact congrArg (inp _ _ · _) (congrArg (· + _) (Finset.sum_congr rfl fun k _ => congrArg (· * _) (r3_at c arg1 harg1 arg4 harg4 arg5 harg5 arg6 harg6 arg15 x0 x3 x4 x5 t k)))
theorem p15_at (t : Fin 8) (q : Fin 512) :
    k0_pay15 (F := Ideal) kernelRun0_A.sl.v32 (kernelRun0_A.sl.r_1 (F := Ideal) c arg3 harg3 x2) (kernelRun0_A.sl.v110 (F := Ideal) c arg1 harg1 arg4 harg4 arg5 harg5 arg6 harg6 arg7 harg7 arg8 harg8 arg11 harg11 arg15 arg16 x0 x3 x4 x5 x6 x7 x10) (kernelRun0_A.sl.v112 (F := Ideal) c arg1 harg1 arg4 harg4 arg5 harg5 arg6 harg6 arg7 harg7 arg8 harg8 arg9 harg9 arg10 harg10 arg11 harg11 arg15 arg17 x0 x3 x4 x5 x6 x7 x8 x9 x10) (ix2 t q)
      = bH x0 x2 x3 x4 x5 x6 x7 x8 x9 x10 q t.1 t.2 := by
  rw [pay15_at, r1_at]
  have ea : (fun s => kernelRun0_A.sl.v110 (F := Ideal) c arg1 harg1 arg4 harg4 arg5 harg5 arg6 harg6 arg7 harg7 arg8 harg8 arg11 harg11 arg15 arg16 x0 x3 x4 x5 x6 x7 x10 (ix2 s q)) = fun s => Ideal.exp (lg (x10 (ix2 0 q)) (bZ x0 x3 x4 x5 x6 x7 s q)) :=
    funext fun s => v110_at c arg1 harg1 arg4 harg4 arg5 harg5 arg6 harg6 arg7 harg7 arg8 harg8 arg11 harg11 arg15 arg16 x0 x3 x4 x5 x6 x7 x10 s q
  have eu : (fun s => kernelRun0_A.sl.v112 (F := Ideal) c arg1 harg1 arg4 harg4 arg5 harg5 arg6 harg6 arg7 harg7 arg8 harg8 arg9 harg9 arg10 harg10 arg11 harg11 arg15 arg17 x0 x3 x4 x5 x6 x7 x8 x9 x10 (ix2 s q)) = fun s => inp (x10 (ix2 0 q)) (bZ x0 x3 x4 x5 x6 x7 s q) (bZ x0 x3 x4 x5 x8 x9 s q) (bC x0 x3 x4 x5 s q) :=
    funext fun s => v112_at c arg1 harg1 arg4 harg4 arg5 harg5 arg6 harg6 arg7 harg7 arg8 harg8 arg9 harg9 arg10 harg10 arg11 harg11 arg15 arg17 x0 x3 x4 x5 x6 x7 x8 x9 x10 s q
  rw [ea, eu]
  exact dbl_eq _ _ _ (fun s => exp_good (lg_nonpos _ _)) t
theorem r5_at (q : Fin 512) : kernelRun0_A.sl.r_5 (F := Ideal) c arg1 harg1 arg3 harg3 arg4 harg4 arg5 harg5 arg6 harg6 arg7 harg7 arg8 harg8 arg9 harg9 arg10 harg10 arg11 harg11 arg15 arg16 arg17 x0 x2 x3 x4 x5 x6 x7 x8 x9 x10 (ix2 0 q) = bH x0 x2 x3 x4 x5 x6 x7 x8 x9 x10 q 7 (by omega) := by
  unfold kernelRun0_A.sl.r_5
  rw [pay17_at]
  exact p15_at c arg1 harg1 arg3 harg3 arg4 harg4 arg5 harg5 arg6 harg6 arg7 harg7 arg8 harg8 arg9 harg9 arg10 harg10 arg11 harg11 arg15 arg16 arg17 x0 x2 x3 x4 x5 x6 x7 x8 x9 x10 7 q
theorem v148_at (t : Fin 8) (q : Fin 512) : kernelRun0_A.sl.v148 (F := Ideal) c arg1 harg1 arg3 harg3 arg4 harg4 arg5 harg5 arg6 harg6 arg7 harg7 arg8 harg8 arg9 harg9 arg10 harg10 arg11 harg11 arg15 arg16 arg17 arg18 x0 x2 x3 x4 x5 x6 x7 x8 x9 x10 (ix2 t q) = bH x0 x2 x3 x4 x5 x6 x7 x8 x9 x10 q t.1 t.2 := by
  unfold kernelRun0_A.sl.v148
  rw [View.readCov_eq_canon']
  refine (congrArg (View.canon _) (unit_idx (s := S8x512) hz2 _ _)).trans ?_
  unfold kernelRun0_A.sl.HS3_1
  rw [View.canon_unit_zero hoff, pay16_at]
  exact p15_at c arg1 harg1 arg3 harg3 arg4 harg4 arg5 harg5 arg6 harg6 arg7 harg7 arg8 harg8 arg9 harg9 arg10 harg10 arg11 harg11 arg15 arg16 arg17 x0 x2 x3 x4 x5 x6 x7 x8 x9 x10 t q
theorem out11_at (t : Fin 8) (q : Fin 512) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 t q) = bH x0 x2 x3 x4 x5 x6 x7 x8 x9 x10 q t.1 t.2 * gelu (x1 (ix3 0 t q)) := by
  unfold out0_A_11
  rw [View.read_writes_junk_eq_canon]
  unfold kernelRun0_A
  dsimp only
  rw [View.canon_unit_zero hz3, pay1_at, v148_at, rd harg2 x1 hz3]
theorem out12_at (q : Fin 512) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 0 q) = bH x0 x2 x3 x4 x5 x6 x7 x8 x9 x10 q 7 (by omega) := by
  unfold out0_A_12
  rw [View.read_writes_junk_eq_canon]
  unfold kernelRun0_A
  dsimp only
  rw [View.canon_unit_zero hz3, pay2_at, r5_at]
theorem out13_at (s : Fin 3) (q : Fin 512) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 s q) = bX x0 x3 q ⟨8 + s.1, by omega⟩ := by
  unfold out0_A_13
  rw [View.read_writes_junk_eq_canon]
  unfold kernelRun0_A
  dsimp only
  rw [View.canon_unit_zero hz3, pay5_at, v12_at]
end
end Cert.Rec
end
end
-- ==== Proof.Rec.Spec.lean ====
module

public import proofs.«01_k».proof.Proof.Rec.Points
public import Idealize.ShloMosaic.Lib.StableHlo.RunRead

@[expose] public section
set_option maxRecDepth 16384
noncomputable section
namespace Cert.Rec
open Idealize.ShloMosaic Cert.Kernel6Ideal Cert.Kernel6Ideal.Gen Idealize.SL.Sem

/-! The recurrence of the samples: what the call's results are, from its arguments. -/

section
variable (xr gate : FVec Ideal S32x8x512 .f32) (h0 : FVec Ideal S32x512 .f32) (buf : FVec Ideal S32x3x512 .f32) (cw : FVec Ideal S4x512 .f32)
  (cb : FVec Ideal S512 .f32) (wa : FVec Ideal S8x64x64 .f32) (ba : FVec Ideal S512 .f32) (wx : FVec Ideal S8x64x64 .f32) (bx lam : FVec Ideal S512 .f32)

def gX (b : Fin 32) (q : Fin 512) : Fin 11 → EReal := rows (fun s => buf (ix3 b s q)) (fun s => xr (ix3 b s q))
def gC (b : Fin 32) (t : Fin 8) (q : Fin 512) : EReal := conv (gX xr buf b q) (fun k => cw (ix2 k q)) (cb (ix1 q)) t
/-- A gate's argument: channel `q` reads the 64 channels of its block. -/
def gZ (w : FVec Ideal S8x64x64 .f32) (bb : FVec Ideal S512 .f32) (b : Fin 32) (t : Fin 8) (q : Fin 512) : EReal :=
  (∑ d : Fin 64, gC xr buf cw cb b t ⟨64 * (q.1 / 64) + d.1, by omega⟩ * w (ix3 ⟨q.1 / 64, by omega⟩ d ⟨q.1 % 64, by omega⟩)) + bb (ix1 q)
def gH (b : Fin 32) (q : Fin 512) (n : ℕ) (hn : n < 8) : EReal :=
  run (fun t => Ideal.exp (lg (lam (ix1 q)) (gZ xr buf cw cb wa ba b t q)))
    (fun t => inp (lam (ix1 q)) (gZ xr buf cw cb wa ba b t q) (gZ xr buf cw cb wx bx b t q) (gC xr buf cw cb b t q)) (h0 (ix2 b q)) n hn
def GY : FVec Ideal S32x8x512 .bf16 := fun i => gH xr h0 buf cw cb wa ba wx bx lam (i 0) (i 2) (i 1).1 (i 1).2 * gelu (gate i)
def GH : FVec Ideal S32x1x512 .f32 := fun i => gH xr h0 buf cw cb wa ba wx bx lam (i 0) (i 2) 7 (by omega)
def GB : FVec Ideal S32x3x512 .f32 := fun i => gX xr buf (i 0) (i 2) ⟨8 + (i 1).1, by have : (i 1).1 < 3 := (i 1).2; omega⟩
end

/-- The identity of the blocks, as the host makes it. -/
def eye : FVec Ideal S8x8 .f32 :=
  uitofp .f32 (cmpi .eq (addi (iotaInDim S8x8 32 0) (broadcastInDim S8x8 ![] bcast_S_S8x8 (constantI S_ 32 0#32))) (iotaInDim S8x8 32 1))
theorem eye_bit : ∀ n m : Fin 8, IntOp.cmpi .eq (IntOp.addi (BitVec.ofNat 32 n.1) 0#32) (BitVec.ofNat 32 m.1) = if n = m then 1#1 else 0#1 := by decide
theorem eye_at (n m : Fin 8) : eye (ix2 n m) = if n = m then 1 else 0 := by
  pointwise [eye]
  refine (congrArg (FloatOps.uitofp (F := Ideal) .f32) (eye_bit n m)).trans ?_
  split
  · show (((1#1 : BitVec 1).toNat : ℝ) : EReal) = 1
    norm_num
  · show (((0#1 : BitVec 1).toNat : ℝ) : EReal) = 0
    norm_num
/-- The blocks on the diagonal. -/
def bd (w : FVec Ideal S8x64x64 .f32) : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S8x64x1x64_S8x64x8x64_0_1_2_3 (broadcastInDim S8x64x1x64 ![0, 1, 3] bcast_S8x64x64_S8x64x1x64_0_1_3 w)))
    shapeCasts_S8x64x8x64_S512x512) bitsLt_bf16_f32
theorem bd_at (w : FVec Ideal S8x64x64 .f32) (k q : Fin 512) :
    bd w (ix2 k q) = (if k.1 / 64 = q.1 / 64 then 1 else 0) * w (ix3 ⟨k.1 / 64, by omega⟩ ⟨k.1 % 64, by omega⟩ ⟨q.1 % 64, by omega⟩) := by
  have e : bd w (ix2 k q) = eye (ix2 ⟨k.1 / 64, by omega⟩ ⟨q.1 / 64, by omega⟩) * w (ix3 ⟨k.1 / 64, by omega⟩ ⟨k.1 % 64, by omega⟩ ⟨q.1 % 64, by omega⟩) := by
    pointwise [bd]
  rw [e, eye_at]
  simp only [Fin.mk.injEq]
theorem bd_sum (f : Fin 512 → EReal) (w : FVec Ideal S8x64x64 .f32) (q : Fin 512) :
    ∑ k : Fin 512, f k * bd w (ix2 k q) = ∑ d : Fin 64, f ⟨64 * (q.1 / 64) + d.1, by omega⟩ * w (ix3 ⟨q.1 / 64, by omega⟩ d ⟨q.1 % 64, by omega⟩) := by
  symm
  refine Finset.sum_of_injOn (fun d : Fin 64 => (⟨64 * (q.1 / 64) + d.1, by omega⟩ : Fin 512)) ?_ (fun _ _ => Finset.mem_coe.2 (Finset.mem_univ _)) ?_ ?_
  · intro a _ b _ h
    have := congrArg Fin.val h
    exact Fin.ext (by simpa using this)
  · intro k _ hk
    rw [bd_at, if_neg, zero_mul, mul_zero]
    intro h
    refine hk ⟨⟨k.1 % 64, by omega⟩, Finset.mem_coe.2 (Finset.mem_univ _), Fin.ext ?_⟩
    show 64 * (q.1 / 64) + k.1 % 64 = k.1
    omega
  · intro d _
    have h1 : (64 * (q.1 / 64) + d.1) / 64 = q.1 / 64 := by omega
    have h2 : (64 * (q.1 / 64) + d.1) % 64 = d.1 := by omega
    rw [bd_at, if_pos h1, one_mul]
    simp only [h1, h2]
end Cert.Rec
end
end
-- ==== Proof.Rec.Kernel.lean ====
module

public import proofs.«01_k».proof.Proof.Rec.Spec

@[expose] public section
set_option maxRecDepth 16384
noncomputable section
namespace Cert.Rec
open Idealize.ShloMosaic Cert.Kernel6Ideal Cert.Kernel6Ideal.Gen Idealize.SL.Sem

/-! The recurrence of the samples: what the call leaves in its three results. -/

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0]
    ∧ win0_11.index t = ![t.val, 0, 0] ∧ win0_12.index t = ![t.val, 0, 0] ∧ win0_13.index t = ![t.val, 0, 0] :=
  (by decide +kernel : ∀ t : Fin grid0.N, _)

section
variable (c : Dev nD)
abbrev a0 : FVec Ideal S32x8x512 .f32 := m (c.tc.loc main_arg0)
abbrev a1 : FVec Ideal S32x8x512 .f32 := m (c.tc.loc main_arg1)
abbrev a2 : FVec Ideal S32x512 .f32 := m (c.tc.loc main_arg2)
abbrev a3 : FVec Ideal S32x3x512 .f32 := m (c.tc.loc main_arg3)
abbrev a4 : FVec Ideal S4x512 .f32 := m (c.tc.loc main_arg4)
abbrev a5 : FVec Ideal S512 .f32 := m (c.tc.loc main_arg5)
abbrev a6 : FVec Ideal S8x64x64 .f32 := m (c.tc.loc main_arg6)
abbrev a7 : FVec Ideal S512 .f32 := m (c.tc.loc main_arg7)
abbrev a8 : FVec Ideal S8x64x64 .f32 := m (c.tc.loc main_arg8)
abbrev a9 : FVec Ideal S512 .f32 := m (c.tc.loc main_arg9)
abbrev a10 : FVec Ideal S512 .f32 := m (c.tc.loc main_arg10)

/-- The sample of a grid point. -/
abbrev gb (t : Fin cfg0.N) : Fin 32 := ⟨t.val, t.2⟩

theorem in0 (t : Fin cfg0.N) (s : Fin 8) (q : Fin 512) : (iblk m c 0 t : FVec Ideal S1x8x512 .f32) (ix3 0 s q) = a0 m c (ix3 (gb t) s q) := by
  blk_ext [iblk, V, idx t]
theorem in1 (t : Fin cfg0.N) (s : Fin 8) (q : Fin 512) : (iblk m c 1 t : FVec Ideal S1x8x512 .f32) (ix3 0 s q) = a1 m c (ix3 (gb t) s q) := by
  blk_ext [iblk, V, idx t]
theorem in2 (t : Fin cfg0.N) (q : Fin 512) : (iblk m c 2 t : FVec Ideal S1x1x512 .f32) (ix3 0 0 q) = a2 m c (ix2 (gb t) q) := by
  have e : V m c main_v0 = shapeCast S32x1x512 (a2 m c) Gen.shapeCasts_S32x512_S32x1x512 := by unfold V; after_reads_simp; rfl
  have h : (iblk m c 2 t : FVec Ideal S1x1x512 .f32) (ix3 0 0 q) = (V m c main_v0 : FVec Ideal S32x1x512 .f32) (ix3 (gb t) 0 q) := by blk_ext [iblk, idx t]
  rw [h, e]
  pointwise []
theorem in3 (t : Fin cfg0.N) (s : Fin 3) (q : Fin 512) : (iblk m c 3 t : FVec Ideal S1x3x512 .f32) (ix3 0 s q) = a3 m c (ix3 (gb t) s q) := by
  blk_ext [iblk, V, idx t]
theorem in4 (t : Fin cfg0.N) (k : Fin 4) (q : Fin 512) : (iblk m c 4 t : FVec Ideal S4x512 .f32) (ix2 k q) = a4 m c (ix2 k q) := by
  blk_ext [iblk, V, idx t]
theorem in5 (t : Fin cfg0.N) (q : Fin 512) : (iblk m c 5 t : FVec Ideal S1x512 .f32) (ix2 0 q) = a5 m c (ix1 q) := by
  have e : V m c main_v1 = shapeCast S1x512 (a5 m c) Gen.shapeCasts_S512_S1x512 := by unfold V; after_reads_simp; rfl
  have h : (iblk m c 5 t : FVec Ideal S1x512 .f32) (ix2 0 q) = (V m c main_v1 : FVec Ideal S1x512 .f32) (ix2 0 q) := by blk_ext [iblk, idx t]
  rw [h, e]
  pointwise []
theorem in6 (t : Fin cfg0.N) (k q : Fin 512) : (iblk m c 6 t : FVec Ideal S512x512 .bf16) (ix2 k q) = bd (a6 m c) (ix2 k q) := by
  have e : V m c main_v14 = bd (a6 m c) := by unfold V; after_reads_simp; rfl
  have h : (iblk m c 6 t : FVec Ideal S512x512 .bf16) (ix2 k q) = (V m c main_v14 : FVec Ideal S512x512 .bf16) (ix2 k q) := by blk_ext [iblk, idx t]
  rw [h, e]
theorem in7 (t : Fin cfg0.N) (q : Fin 512) : (iblk m c 7 t : FVec Ideal S1x512 .f32) (ix2 0 q) = a7 m c (ix1 q) := by
  have e : V m c main_v15 = shapeCast S1x512 (a7 m c) Gen.shapeCasts_S512_S1x512 := by unfold V; after_reads_simp; rfl
  have h : (iblk m c 7 t : FVec Ideal S1x512 .f32) (ix2 0 q) = (V m c main_v15 : FVec Ideal S1x512 .f32) (ix2 0 q) := by blk_ext [iblk, idx t]
  rw [h, e]
  pointwise []
theorem in8 (t : Fin cfg0.N) (k q : Fin 512) : (iblk m c 8 t : FVec Ideal S512x512 .bf16) (ix2 k q) = bd (a8 m c) (ix2 k q) := by
  have e : V m c main_v28 = bd (a8 m c) := by unfold V; after_reads_simp; rfl
  have h : (iblk m c 8 t : FVec Ideal S512x512 .bf16) (ix2 k q) = (V m c main_v28 : FVec Ideal S512x512 .bf16) (ix2 k q) := by blk_ext [iblk, idx t]
  rw [h, e]
theorem in9 (t : Fin cfg0.N) (q : Fin 512) : (iblk m c 9 t : FVec Ideal S1x512 .f32) (ix2 0 q) = a9 m c (ix1 q) := by
  have e : V m c main_v29 = shapeCast S1x512 (a9 m c) Gen.shapeCasts_S512_S1x512 := by unfold V; after_reads_simp; rfl
  have h : (iblk m c 9 t : FVec Ideal S1x512 .f32) (ix2 0 q) = (V m c main_v29 : FVec Ideal S1x512 .f32) (ix2 0 q) := by blk_ext [iblk, idx t]
  rw [h, e]
  pointwise []
theorem in10 (t : Fin cfg0.N) (q : Fin 512) : (iblk m c 10 t : FVec Ideal S1x512 .f32) (ix2 0 q) = a10 m c (ix1 q) := by
  have e : V m c main_v30 = shapeCast S1x512 (a10 m c) Gen.shapeCasts_S512_S1x512 := by unfold V; after_reads_simp; rfl
  have h : (iblk m c 10 t : FVec Ideal S1x512 .f32) (ix2 0 q) = (V m c main_v30 : FVec Ideal S1x512 .f32) (ix2 0 q) := by blk_ext [iblk, idx t]
  rw [h, e]
  pointwise []

theorem x_eq (t : Fin cfg0.N) (q : Fin 512) : bX (iblk m c 0 t) (iblk m c 3 t) q = gX (a0 m c) (a3 m c) (gb t) q := by
  simp only [bX, in0, in3]
  rfl
theorem c_eq (t : Fin cfg0.N) (s : Fin 8) (q : Fin 512) :
    bC (iblk m c 0 t) (iblk m c 3 t) (iblk m c 4 t) (iblk m c 5 t) s q = gC (a0 m c) (a3 m c) (a4 m c) (a5 m c) (gb t) s q := by
  have := x_eq m c t q
  unfold bC gC
  rw [this, in5]
  simp only [in4]
theorem za_eq (t : Fin cfg0.N) (s : Fin 8) (q : Fin 512) :
    bZ (iblk m c 0 t) (iblk m c 3 t) (iblk m c 4 t) (iblk m c 5 t) (iblk m c 6 t) (iblk m c 7 t) s q
      = gZ (a0 m c) (a3 m c) (a4 m c) (a5 m c) (a6 m c) (a7 m c) (gb t) s q := by
  unfold bZ gZ
  rw [in7]
  refine congrArg (· + _) ((Finset.sum_congr rfl fun k _ => congrArg₂ (· * ·) (c_eq m c t s k) (in6 m c t k q)).trans ?_)
  exact bd_sum _ _ q
theorem zx_eq (t : Fin cfg0.N) (s : Fin 8) (q : Fin 512) :
    bZ (iblk m c 0 t) (iblk m c 3 t) (iblk m c 4 t) (iblk m c 5 t) (iblk m c 8 t) (iblk m c 9 t) s q
      = gZ (a0 m c) (a3 m c) (a4 m c) (a5 m c) (a8 m c) (a9 m c) (gb t) s q := by
  unfold bZ gZ
  rw [in9]
  refine congrArg (· + _) ((Finset.sum_congr rfl fun k _ => congrArg₂ (· * ·) (c_eq m c t s k) (in8 m c t k q)).trans ?_)
  exact bd_sum _ _ q
theorem h_eq (t : Fin cfg0.N) (q : Fin 512) (n : ℕ) (hn : n < 8) :
    bH (iblk m c 0 t) (iblk m c 2 t) (iblk m c 3 t) (iblk m c 4 t) (iblk m c 5 t) (iblk m c 6 t) (iblk m c 7 t) (iblk m c 8 t) (iblk m c 9 t) (iblk m c 10 t) q n hn
      = gH (a0 m c) (a2 m c) (a3 m c) (a4 m c) (a5 m c) (a6 m c) (a7 m c) (a8 m c) (a9 m c) (a10 m c) (gb t) q n hn := by
  unfold bH gH
  have ea := funext fun s => congrArg (fun z => Ideal.exp (lg (a10 m c (ix1 q)) z)) (za_eq m c t s q)
  rw [in2, in10]
  refine congrArg₂ (fun a u => run a u _ n hn) ea (funext fun s => ?_)
  rw [za_eq, zx_eq]
  exact congrArg (inp _ _ _) (c_eq m c t s q)

theorem o11 (t : Fin cfg0.N) (s : Fin 8) (q : Fin 512) : ((outsAt0 (F := Ideal) m c t).1 : FVec Ideal S1x8x512 .bf16) (ix3 0 s q) = gH (a0 m c) (a2 m c) (a3 m c) (a4 m c) (a5 m c) (a6 m c) (a7 m c) (a8 m c) (a9 m c) (a10 m c) (gb t) q s.1 s.2 * gelu (a1 m c (ix3 (gb t) s q)) := by
  unfold outsAt0
  dsimp only
  rw [out11_at, h_eq, in1]
theorem o12 (t : Fin cfg0.N) (q : Fin 512) : ((outsAt0 (F := Ideal) m c t).2.1 : FVec Ideal S1x1x512 .f32) (ix3 0 0 q) = gH (a0 m c) (a2 m c) (a3 m c) (a4 m c) (a5 m c) (a6 m c) (a7 m c) (a8 m c) (a9 m c) (a10 m c) (gb t) q 7 (by omega) := by
  unfold outsAt0
  dsimp only
  rw [out12_at, h_eq]
theorem o13 (t : Fin cfg0.N) (s : Fin 3) (q : Fin 512) : ((outsAt0 (F := Ideal) m c t).2.2 : FVec Ideal S1x3x512 .f32) (ix3 0 s q) = gX (a0 m c) (a3 m c) (gb t) q ⟨8 + s.1, by omega⟩ := by
  unfold outsAt0
  dsimp only
  rw [out13_at, x_eq]

theorem final11 : (dats (F := Ideal) m 0 c).arrAt 11 cfg0.N
      = GY (a0 m c) (a1 m c) (a2 m c) (a3 m c) (a4 m c) (a5 m c) (a6 m c) (a7 m c) (a8 m c) (a9 m c) (a10 m c) := by
  refine (dats m 0 c).arrAt_eq_of_covers 11 _ (by decide +kernel) fun t hf y => ?_
  rw [after0_11]
  blk_simp []
  obtain ⟨s, hs⟩ : ∃ s : Fin 8, s = y 1 := ⟨y 1, rfl⟩
  obtain ⟨q, hq⟩ : ∃ q : Fin 512, q = y 2 := ⟨y 2, rfl⟩
  have hy : y = (ix3 0 s q : S1x8x512.Idx) := by
    rw [hs, hq]; exact (ix3_eta y).symm.trans (congrArg (fun z => (ix3 z (y 1) (y 2) : S1x8x512.Idx)) (Subsingleton.elim (α := Fin 1) _ _))
  rw [hy]
  have he : ∀ X : FVec Ideal S32x8x512 .bf16, X ((win0_11.blk t).view.emb (ix3 0 s q)) = X (ix3 (gb t) s q) := fun X => by
    blk_ext [idx t]
  refine Eq.trans ?_ (he _).symm
  exact o11 m c t s q
theorem final12 : (dats (F := Ideal) m 0 c).arrAt 12 cfg0.N
      = GH (a0 m c) (a2 m c) (a3 m c) (a4 m c) (a5 m c) (a6 m c) (a7 m c) (a8 m c) (a9 m c) (a10 m c) := by
  refine (dats m 0 c).arrAt_eq_of_covers 12 _ (by decide +kernel) fun t hf y => ?_
  rw [after0_12]
  blk_simp []
  obtain ⟨q, hq⟩ : ∃ q : Fin 512, q = y 2 := ⟨y 2, rfl⟩
  have hy : y = (ix3 0 0 q : S1x1x512.Idx) := by
    rw [hq]; exact (ix3_eta y).symm.trans (congrArg₂ (fun z w => (ix3 z w (y 2) : S1x1x512.Idx)) (Subsingleton.elim (α := Fin 1) _ _) (Subsingleton.elim (α := Fin 1) _ _))
  rw [hy]
  have he : ∀ X : FVec Ideal S32x1x512 .f32, X ((win0_12.blk t).view.emb (ix3 0 0 q)) = X (ix3 (gb t) 0 q) := fun X => by
    blk_ext [idx t]
  refine Eq.trans ?_ (he _).symm
  exact o12 m c t q
theorem final13 : (dats (F := Ideal) m 0 c).arrAt 13 cfg0.N = GB (a0 m c) (a3 m c) := by
  refine (dats m 0 c).arrAt_eq_of_covers 13 _ (by decide +kernel) fun t hf y => ?_
  rw [after0_13]
  blk_simp []
  obtain ⟨s, hs⟩ : ∃ s : Fin 3, s = y 1 := ⟨y 1, rfl⟩
  obtain ⟨q, hq⟩ : ∃ q : Fin 512, q = y 2 := ⟨y 2, rfl⟩
  have hy : y = (ix3 0 s q : S1x3x512.Idx) := by
    rw [hs, hq]; exact (ix3_eta y).symm.trans (congrArg (fun z => (ix3 z (y 1) (y 2) : S1x3x512.Idx)) (Subsingleton.elim (α := Fin 1) _ _))
  rw [hy]
  have he : ∀ X : FVec Ideal S32x3x512 .f32, X ((win0_13.blk t).view.emb (ix3 0 s q)) = X (ix3 (gb t) s q) := fun X => by
    blk_ext [idx t]
  refine Eq.trans ?_ (he _).symm
  exact o13 m c t s q
end
end Cert.Rec
end
end
-- ==== Proof.Rec.Ref.lean ====
module

public import proofs.«01_k».proof.Proof.Gen.Reference6Ideal.Read
public import proofs.«01_k».proof.Proof.Rec.Spec

@[expose] public section
set_option maxRecDepth 16384
noncomputable section
namespace Cert.Rec.Ref
open Idealize.ShloMosaic Cert.Reference6Ideal Cert.Reference6Ideal.Read Idealize.SL.Sem

/-! The reference of the recurrence of the samples, read at an index. -/

variable (x0 x1 : FVec Ideal S32x8x512 .f32) (x2 : FVec Ideal S32x512 .f32) (x3 : FVec Ideal S32x3x512 .f32) (x4 : FVec Ideal S4x512 .f32)
  (x5 : FVec Ideal S512 .f32) (x6 : FVec Ideal S8x64x64 .f32) (x7 : FVec Ideal S512 .f32) (x8 : FVec Ideal S8x64x64 .f32) (x9 x10 : FVec Ideal S512 .f32)

theorem r0 (b : Fin 32) (n : Fin 11) (q : Fin 512) : val_main_v0 (F := Ideal) x0 x3 (ix3 b n q) = gX x0 x3 b q n := by
  unfold gX rows
  by_cases h : n.1 < 3
  · rw [dif_pos h]
    pointwise [val_main_v0]
    simp [h]
  · rw [dif_neg h]
    pointwise [val_main_v0]
    simp [h]
theorem r32 (b : Fin 32) (t : Fin 8) (q : Fin 512) : val_main_v32 (F := Ideal) x0 x3 x4 x5 (ix3 b t q) = gC x0 x3 x4 x5 b t q := by
  have e : val_main_v32 (F := Ideal) x0 x3 x4 x5 (ix3 b t q) = x5 (ix1 q) + (0 + val_main_v0 (F := Ideal) x0 x3 (ix3 b ⟨t.1, by omega⟩ q) * x4 (ix2 0 q)
      + val_main_v0 (F := Ideal) x0 x3 (ix3 b ⟨t.1 + 1, by omega⟩ q) * x4 (ix2 1 q) + val_main_v0 (F := Ideal) x0 x3 (ix3 b ⟨t.1 + 2, by omega⟩ q) * x4 (ix2 2 q)
      + val_main_v0 (F := Ideal) x0 x3 (ix3 b ⟨t.1 + 3, by omega⟩ q) * x4 (ix2 3 q)) := by
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst]
    try simp only [Nat.add_comm]
    try rfl
  rw [e]
  simp only [r0, zero_add]
  unfold gC conv
  simp only [add_assoc]
theorem z39 (b : Fin 32) (t : Fin 8) (q : Fin 512) : val_main_v39 (F := Ideal) x0 x3 x4 x5 x6 x7 (ix3 b t q) = gZ x0 x3 x4 x5 x6 x7 b t q := by
  have e : val_main_v39 (F := Ideal) x0 x3 x4 x5 x6 x7 (ix3 b t q) = (∑ d : Fin 64, x6 (ix3 ⟨q.1 / 64, by omega⟩ d ⟨q.1 % 64, by omega⟩) * val_main_v32 (F := Ideal) x0 x3 x4 x5 (ix3 b t ⟨64 * (q.1 / 64) + d.1, by omega⟩)) + x7 (ix1 q) := by
    pointwise [val_main_v39, val_main_v38, val_main_v37, val_main_v36, val_main_v35, val_main_v34, val_main_v33]
    simp only [Nat.mul_comm (q.1 / 64) 64]
  rw [e]
  unfold gZ
  simp only [r32]
  exact congrArg (· + _) (Finset.sum_congr rfl fun d _ => mul_comm _ _)
theorem z51 (b : Fin 32) (t : Fin 8) (q : Fin 512) : val_main_v51 (F := Ideal) x0 x3 x4 x5 x8 x9 (ix3 b t q) = gZ x0 x3 x4 x5 x8 x9 b t q := by
  have e : val_main_v51 (F := Ideal) x0 x3 x4 x5 x8 x9 (ix3 b t q) = (∑ d : Fin 64, x8 (ix3 ⟨q.1 / 64, by omega⟩ d ⟨q.1 % 64, by omega⟩) * val_main_v32 (F := Ideal) x0 x3 x4 x5 (ix3 b t ⟨64 * (q.1 / 64) + d.1, by omega⟩)) + x9 (ix1 q) := by
    pointwise [val_main_v33, val_main_v51, val_main_v50, val_main_v49, val_main_v48, val_main_v47, val_main_v46]
    simp only [Nat.mul_comm (q.1 / 64) 64]
  rw [e]
  unfold gZ
  simp only [r32]
  exact congrArg (· + _) (Finset.sum_congr rfl fun d _ => mul_comm _ _)
theorem r45 (b : Fin 32) (t : Fin 8) (q : Fin 512) : val_main_v45 (F := Ideal) x0 x3 x4 x5 x6 x7 (ix3 b t q) = Ideal.logistic (gZ x0 x3 x4 x5 x6 x7 b t q) := by
  rw [← z39]
  pointwise [val_main_v45, val_main_v44, val_main_v43, val_main_v42, val_main_v41, val_main_v40, val_main_cst_0, val_main_cst_1]
  try rfl
theorem r57 (b : Fin 32) (t : Fin 8) (q : Fin 512) : val_main_v57 (F := Ideal) x0 x3 x4 x5 x8 x9 (ix3 b t q) = Ideal.logistic (gZ x0 x3 x4 x5 x8 x9 b t q) := by
  rw [← z51]
  pointwise [val_main_v57, val_main_v56, val_main_v55, val_main_v54, val_main_v53, val_main_v52, val_main_cst_2, val_main_cst_3]
  try rfl
theorem r59 (q : Fin 512) : val_main_v59 (F := Ideal) x10 (ix1 q) = sp (-(x10 (ix1 q))) := by
  pointwise [val_main_v59, val_main_v58, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  rw [if_neg (not_not.2 rfl)]
  rfl
theorem r64 (b : Fin 32) (t : Fin 8) (q : Fin 512) : val_main_v64 (F := Ideal) x0 x3 x4 x5 x6 x7 x10 (ix3 b t q) = lg (x10 (ix1 q)) (gZ x0 x3 x4 x5 x6 x7 b t q) := by
  unfold lg
  rw [← r45, ← r59]
  pointwise [val_main_v64, val_main_v63, val_main_v62, val_main_v61, val_main_v60, val_main_cst_4]
  try rfl
theorem r65 (b : Fin 32) (t : Fin 8) (q : Fin 512) : val_main_v65 (F := Ideal) x0 x3 x4 x5 x6 x7 x10 (ix3 b t q) = Ideal.exp (lg (x10 (ix1 q)) (gZ x0 x3 x4 x5 x6 x7 b t q)) := by
  rw [← r64]
  pointwise [val_main_v65]
theorem r72 (b : Fin 32) (t : Fin 8) (q : Fin 512) : val_main_v72 (F := Ideal) x0 x3 x4 x5 x6 x7 x8 x9 x10 (ix3 b t q)
    = inp (x10 (ix1 q)) (gZ x0 x3 x4 x5 x6 x7 b t q) (gZ x0 x3 x4 x5 x8 x9 b t q) (gC x0 x3 x4 x5 b t q) := by
  unfold inp
  rw [← r64, ← r57, ← r32]
  pointwise [val_main_v72, val_main_v71, val_main_v70, val_main_v69, val_main_v68, val_main_v67, val_main_v66, val_main_cst_5]
  try rfl
theorem s78 (b : Fin 32) (q : Fin 512) : val_main_v78 (F := Ideal) x0 x2 x3 x4 x5 x6 x7 x8 x9 x10 (ix2 b q) = gH x0 x2 x3 x4 x5 x6 x7 x8 x9 x10 b q 0 (by omega) := by
  have e : val_main_v78 (F := Ideal) x0 x2 x3 x4 x5 x6 x7 x8 x9 x10 (ix2 b q) = val_main_v65 (F := Ideal) x0 x3 x4 x5 x6 x7 x10 (ix3 b 0 q) * x2 (ix2 b q) + val_main_v72 (F := Ideal) x0 x3 x4 x5 x6 x7 x8 x9 x10 (ix3 b 0 q) := by
    pointwise [val_main_v78, val_main_v77, val_main_v76, val_main_v75, val_main_v74, val_main_v73]
    try rfl
  rw [e, r65, r72]
  rfl
theorem s84 (b : Fin 32) (q : Fin 512) : val_main_v84 (F := Ideal) x0 x2 x3 x4 x5 x6 x7 x8 x9 x10 (ix2 b q) = gH x0 x2 x3 x4 x5 x6 x7 x8 x9 x10 b q 1 (by omega) := by
  have e : val_main_v84 (F := Ideal) x0 x2 x3 x4 x5 x6 x7 x8 x9 x10 (ix2 b q) = val_main_v65 (F := Ideal) x0 x3 x4 x5 x6 x7 x10 (ix3 b 1 q) * val_main_v78 (F := Ideal) x0 x2 x3 x4 x5 x6 x7 x8 x9 x10 (ix2 b q) + val_main_v72 (F := Ideal) x0 x3 x4 x5 x6 x7 x8 x9 x10 (ix3 b 1 q) := by
    pointwise [val_main_v84, val_main_v83, val_main_v82, val_main_v81, val_main_v80, val_main_v79]
    try rfl
  rw [e, r65, r72, s78]
  rfl
theorem s90 (b : Fin 32) (q : Fin 512) : val_main_v90 (F := Ideal) x0 x2 x3 x4 x5 x6 x7 x8 x9 x10 (ix2 b q) = gH x0 x2 x3 x4 x5 x6 x7 x8 x9 x10 b q 2 (by omega) := by
  have e : val_main_v90 (F := Ideal) x0 x2 x3 x4 x5 x6 x7 x8 x9 x10 (ix2 b q) = val_main_v65 (F := Ideal) x0 x3 x4 x5 x6 x7 x10 (ix3 b 2 q) * val_main_v84 (F := Ideal) x0 x2 x3 x4 x5 x6 x7 x8 x9 x10 (ix2 b q) + val_main_v72 (F := Ideal) x0 x3 x4 x5 x6 x7 x8 x9 x10 (ix3 b 2 q) := by
    pointwise [val_main_v90, val_main_v89, val_main_v88, val_main_v87, val_main_v86, val_main_v85]
    try rfl
  rw [e, r65, r72, s84]
  rfl
theorem s96 (b : Fin 32) (q : Fin 512) : val_main_v96 (F := Ideal) x0 x2 x3 x4 x5 x6 x7 x8 x9 x10 (ix2 b q) = gH x0 x2 x3 x4 x5 x6 x7 x8 x9 x10 b q 3 (by omega) := by
  have e : val_main_v96 (F := Ideal) x0 x2 x3 x4 x5 x6 x7 x8 x9 x10 (ix2 b q) = val_main_v65 (F := Ideal) x0 x3 x4 x5 x6 x7 x10 (ix3 b 3 q) * val_main_v90 (F := Ideal) x0 x2 x3 x4 x5 x6 x7 x8 x9 x10 (ix2 b q) + val_main_v72 (F := Ideal) x0 x3 x4 x5 x6 x7 x8 x9 x10 (ix3 b 3 q) := by
    pointwise [val_main_v96, val_main_v95, val_main_v94, val_main_v93, val_main_v92, val_main_v91]
    try rfl
  rw [e, r65, r72, s90]
  rfl
theorem s102 (b : Fin 32) (q : Fin 512) : val_main_v102 (F := Ideal) x0 x2 x3 x4 x5 x6 x7 x8 x9 x10 (ix2 b q) = gH x0 x2 x3 x4 x5 x6 x7 x8 x9 x10 b q 4 (by omega) := by
  have e : val_main_v102 (F := Ideal) x0 x2 x3 x4 x5 x6 x7 x8 x9 x10 (ix2 b q) = val_main_v65 (F := Ideal) x0 x3 x4 x5 x6 x7 x10 (ix3 b 4 q) * val_main_v96 (F := Ideal) x0 x2 x3 x4 x5 x6 x7 x8 x9 x10 (ix2 b q) + val_main_v72 (F := Ideal) x0 x3 x4 x5 x6 x7 x8 x9 x10 (ix3 b 4 q) := by
    pointwise [val_main_v102, val_main_v101, val_main_v100, val_main_v99, val_main_v98, val_main_v97]
    try rfl
  rw [e, r65, r72, s96]
  rfl
theorem s108 (b : Fin 32) (q : Fin 512) : val_main_v108 (F := Ideal) x0 x2 x3 x4 x5 x6 x7 x8 x9 x10 (ix2 b q) = gH x0 x2 x3 x4 x5 x6 x7 x8 x9 x10 b q 5 (by omega) := by
  have e : val_main_v108 (F := Ideal) x0 x2 x3 x4 x5 x6 x7 x8 x9 x10 (ix2 b q) = val_main_v65 (F := Ideal) x0 x3 x4 x5 x6 x7 x10 (ix3 b 5 q) * val_main_v102 (F := Ideal) x0 x2 x3 x4 x5 x6 x7 x8 x9 x10 (ix2 b q) + val_main_v72 (F := Ideal) x0 x3 x4 x5 x6 x7 x8 x9 x10 (ix3 b 5 q) := by
    pointwise [val_main_v108, val_main_v107, val_main_v106, val_main_v105, val_main_v104, val_main_v103]
    try rfl
  rw [e, r65, r72, s102]
  rfl
theorem s114 (b : Fin 32) (q : Fin 512) : val_main_v114 (F := Ideal) x0 x2 x3 x4 x5 x6 x7 x8 x9 x10 (ix2 b q) = gH x0 x2 x3 x4 x5 x6 x7 x8 x9 x10 b q 6 (by omega) := by
  have e : val_main_v114 (F := Ideal) x0 x2 x3 x4 x5 x6 x7 x8 x9 x10 (ix2 b q) = val_main_v65 (F := Ideal) x0 x3 x4 x5 x6 x7 x10 (ix3 b 6 q) * val_main_v108 (F := Ideal) x0 x2 x3 x4 x5 x6 x7 x8 x9 x10 (ix2 b q) + val_main_v72 (F := Ideal) x0 x3 x4 x5 x6 x7 x8 x9 x10 (ix3 b 6 q) := by
    pointwise [val_main_v114, val_main_v113, val_main_v112, val_main_v111, val_main_v110, val_main_v109]
    try rfl
  rw [e, r65, r72, s108]
  rfl
theorem s120 (b : Fin 32) (q : Fin 512) : val_main_v120 (F := Ideal) x0 x2 x3 x4 x5 x6 x7 x8 x9 x10 (ix2 b q) = gH x0 x2 x3 x4 x5 x6 x7 x8 x9 x10 b q 7 (by omega) := by
  have e : val_main_v120 (F := Ideal) x0 x2 x3 x4 x5 x6 x7 x8 x9 x10 (ix2 b q) = val_main_v65 (F := Ideal) x0 x3 x4 x5 x6 x7 x10 (ix3 b 7 q) * val_main_v114 (F := Ideal) x0 x2 x3 x4 x5 x6 x7 x8 x9 x10 (ix2 b q) + val_main_v72 (F := Ideal) x0 x3 x4 x5 x6 x7 x8 x9 x10 (ix3 b 7 q) := by
    pointwise [val_main_v120, val_main_v119, val_main_v118, val_main_v117, val_main_v116, val_main_v115]
    try rfl
  rw [e, r65, r72, s114]
  rfl
theorem r129 (b : Fin 32) (t : Fin 8) (q : Fin 512) : val_main_v129 (F := Ideal) x0 x2 x3 x4 x5 x6 x7 x8 x9 x10 (ix3 b t q) = gH x0 x2 x3 x4 x5 x6 x7 x8 x9 x10 b q t.1 t.2 := by
  obtain ⟨t, ht⟩ := t
  interval_cases t
  · rw [← s78]
    pointwise [val_main_v129, val_main_v128, val_main_v127, val_main_v126, val_main_v125, val_main_v124, val_main_v123, val_main_v122, val_main_v121]
    try rfl
  · rw [← s84]
    pointwise [val_main_v129, val_main_v128, val_main_v127, val_main_v126, val_main_v125, val_main_v124, val_main_v123, val_main_v122, val_main_v121]
    try rfl
  · rw [← s90]
    pointwise [val_main_v129, val_main_v128, val_main_v127, val_main_v126, val_main_v125, val_main_v124, val_main_v123, val_main_v122, val_main_v121]
    try rfl
  · rw [← s96]
    pointwise [val_main_v129, val_main_v128, val_main_v127, val_main_v126, val_main_v125, val_main_v124, val_main_v123, val_main_v122, val_main_v121]
    try rfl
  · rw [← s102]
    pointwise [val_main_v129, val_main_v128, val_main_v127, val_main_v126, val_main_v125, val_main_v124, val_main_v123, val_main_v122, val_main_v121]
    try rfl
  · rw [← s108]
    pointwise [val_main_v129, val_main_v128, val_main_v127, val_main_v126, val_main_v125, val_main_v124, val_main_v123, val_main_v122, val_main_v121]
    try rfl
  · rw [← s114]
    pointwise [val_main_v129, val_main_v128, val_main_v127, val_main_v126, val_main_v125, val_main_v124, val_main_v123, val_main_v122, val_main_v121]
    try rfl
  · rw [← s120]
    pointwise [val_main_v129, val_main_v128, val_main_v127, val_main_v126, val_main_v125, val_main_v124, val_main_v123, val_main_v122, val_main_v121]
    try rfl
theorem r142 (b : Fin 32) (t : Fin 8) (q : Fin 512) : val_main_v142 (F := Ideal) x1 (ix3 b t q) = gelu (x1 (ix3 b t q)) := by
  unfold gelu
  pointwise [val_main_v142, val_main_v141, val_main_v140, val_main_v139, val_main_v138, val_main_v137, val_main_v136, val_main_v135, val_main_v134, val_main_v133, val_main_v132, val_main_v131, val_main_v130, val_main_cst_6, val_main_cst_7, val_main_cst_8, val_main_cst_9]
  try rfl
theorem ref144 : val_main_v144 (F := Ideal) x0 x1 x2 x3 x4 x5 x6 x7 x8 x9 x10 = GY x0 x1 x2 x3 x4 x5 x6 x7 x8 x9 x10 :=
  funext fun i => by
    rw [← ix3_eta i]
    refine Eq.trans ?_ (congrArg₂ (· * ·) (r129 x0 x2 x3 x4 x5 x6 x7 x8 x9 x10 (i 0) (i 1) (i 2)) (r142 x1 (i 0) (i 1) (i 2)))
    rfl
theorem ref145 : val_main_v145 (F := Ideal) x0 x2 x3 x4 x5 x6 x7 x8 x9 x10 = GH x0 x2 x3 x4 x5 x6 x7 x8 x9 x10 :=
  funext fun i => by
    have hi : i = (ix3 (i 0) 0 (i 2) : S32x1x512.Idx) := (ix3_eta i).symm.trans (congrArg (fun z => (ix3 (i 0) z (i 2) : S32x1x512.Idx)) (Subsingleton.elim (α := Fin 1) _ _))
    rw [hi]
    refine Eq.trans ?_ (s120 x0 x2 x3 x4 x5 x6 x7 x8 x9 x10 (i 0) (i 2))
    pointwise [val_main_v145]
theorem ref146 : val_main_v146 (F := Ideal) x0 x3 = GB x0 x3 :=
  funext fun i => by
    rw [← ix3_eta i]
    refine Eq.trans ?_ (r0 x0 x3 (i 0) ⟨8 + (i 1).1, by have : (i 1).1 < 3 := (i 1).2; omega⟩ (i 2))
    pointwise [val_main_v146]
end Cert.Rec.Ref
end
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Attn.Out
public import proofs.«01_k».proof.Proof.Attn.Ref
public import proofs.«01_k».proof.Proof.Attn.Pre
public import proofs.«01_k».proof.Proof.Proj.PromptRef
public import proofs.«01_k».proof.Proof.Proj.SampleRef
public import proofs.«01_k».proof.Proof.Tail.Ln2Out
public import proofs.«01_k».proof.Proof.Tail.Ln2sOut
public import proofs.«01_k».proof.Proof.Tail.Ln2Ref
public import proofs.«01_k».proof.Proof.Tail.Ln2sRef
public import proofs.«01_k».proof.Proof.Tail.Out1Kernel
public import proofs.«01_k».proof.Proof.Tail.Out1Ref
public import proofs.«01_k».proof.Proof.Rec.Kernel
public import proofs.«01_k».proof.Proof.Rec.Ref
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's value is the attention's function of its arguments. -/
theorem ref_eq (x0 x1 x2 x3 : FVec Ideal Cert.KernelIdeal.S1x64 .f32) (g : FVec Ideal Cert.KernelIdeal.S1x128 .f32)
    (x5 : FVec Ideal Cert.KernelIdeal.S8x4x4x128x512 .bf16) (x6 : FVec Ideal Cert.KernelIdeal.S8x2048x512 .bf16) (x7 : FVec Ideal Cert.KernelIdeal.S8x4x4x128x512 .bf16)
    (h0 : Attn.IsReal x0) (h1 : Attn.IsReal x1) (h2 : Attn.IsReal x2) (h3 : Attn.IsReal x3) (h5 : Attn.IsReal x5) (h6 : Attn.IsReal x6) (h7 : Attn.IsReal x7) :
    Cert.ReferenceIdeal.Read.val_main_v61 (F := Ideal) x0 x1 x2 x3 g x5 x6 x7 = Attn.G x0 x1 x2 x3 g x5 x6 x7 := by
  funext j
  have hl := (Attn.r15 x0 x1 x2 x3).trans (Attn.lam_real x0 x1 x2 x3 h0 h1 h2 h3)
  obtain ⟨B, t, q, rfl⟩ : ∃ (B : Fin 8) (t : Fin 2048) (q : Fin 512), j = ix3 B t q := ⟨j 0, j 1, j 2, by
    funext a
    match a with
    | ⟨0, _⟩ => rfl
    | ⟨1, _⟩ => rfl
    | ⟨2, _⟩ => rfl⟩
  refine (Attn.r61 x0 x1 x2 x3 g B t q).trans ?_
  exact congrArg (fun O => Attn.normed O g ⟨q.1 % 128, Nat.mod_lt _ (by norm_num)⟩)
    (funext fun d => Attn.r42_real x0 x1 x2 x3 h5 h6 h7 hl B ⟨q.1 / 128, by have := q.2; omega⟩ t d)

/-- The attention's kernel and its reference give equal results, at arguments that are reals. -/
theorem attention : Cert.algebraic_KernelIdeal_ReferenceIdeal_pre_finite_arguments := by
  intro m ρ m' ρ' hpre hag
  have hr := fun c => Attn.pre_reals _ _ _ _ _ _ _ _ (hpre c)
  refine ⟨fun c => Attn.G (Attn.a0 m c) (Attn.a1 m c) (Attn.a2 m c) (Attn.a3 m c) (Attn.a4 m c) (Attn.a5 m c) (Attn.a6 m c) (Attn.a7 m c),
    (θ_run _ _ _).mono (fun r h c => ?_) (Cert.KernelIdeal.Value.run_blocks m ρ),
    (θ_run _ _ _).mono (fun r h c => ?_) (Cert.ReferenceIdeal.Value.run m' ρ')⟩
  · obtain ⟨h0, h1, h2, h3, h5, h6, h7⟩ := hr c
    exact ⟨(h c).1.trans (Attn.final m c h0 h1 h2 h3 h5 h6 h7), (h c).2⟩
  · obtain ⟨h0, h1, h2, h3, h5, h6, h7⟩ := hr c
    obtain ⟨e0, e1, e2, e3, e4, e5, e6, e7⟩ := hag c
    refine ⟨(h c).1.trans ((Cert.ReferenceIdeal.Read.val_main_v61_eq m' c).trans ?_), (h c).2⟩
    rw [e0, e1, e2, e3, e4, e5, e6, e7]
    exact ref_eq _ _ _ _ _ _ _ _ h0 h1 h2 h3 h5 h6 h7

/-- The reference writes no argument, and has no counter. -/
theorem ref_frame : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The projections of the prompt batch: the kernel and its reference give equal results. -/
theorem prompt_projection : Cert.algebraic_Kernel2Ideal_Reference2Ideal := by
  intro m ρ m' ρ' _ hag
  refine ⟨fun c => Proj.Prompt.GQ (Proj.Prompt.a0 m c) (Proj.Prompt.a1 m c),
    fun c => Proj.Prompt.GK (Proj.Prompt.a0 m c) (Proj.Prompt.a1 m c),
    fun c => Proj.Prompt.GV (Proj.Prompt.a0 m c) (Proj.Prompt.a1 m c),
    fun c => Proj.Prompt.GK (Proj.Prompt.a0 m c) (Proj.Prompt.a1 m c),
    fun c => Proj.Prompt.GLin 1024 (by decide) (Proj.Prompt.a0 m c) (Proj.Prompt.a1 m c),
    fun c => Proj.Prompt.GLin 1536 (by decide) (Proj.Prompt.a0 m c) (Proj.Prompt.a1 m c),
    fun c => Proj.Prompt.GLin 2048 (by decide) (Proj.Prompt.a0 m c) (Proj.Prompt.a1 m c),
    (θ_run _ _ _).mono (fun r h c => ?_) (Cert.Kernel2Ideal.Value.run_blocks m ρ),
    (θ_run _ _ _).mono (fun r h c => ?_) (Cert.Reference2Ideal.Value.run m' ρ')⟩
  · obtain ⟨h0, h1, h2, h3, h4, h5, h6, hk⟩ := h c
    exact ⟨h0.trans (Proj.Prompt.final5 m c), h1.trans (Proj.Prompt.final6 m c), h2.trans (Proj.Prompt.final7 m c), h3.trans (Proj.Prompt.final8 m c), h4.trans (Proj.Prompt.final9 m c), h5.trans (Proj.Prompt.final10 m c), h6.trans (Proj.Prompt.final11 m c), hk⟩
  · obtain ⟨h0, h1, h2, h3, h4, h5, h6, hk⟩ := h c
    obtain ⟨e0, e1⟩ := hag c
    exact ⟨h0.trans ((Cert.Reference2Ideal.Read.val_main_v94_eq m' c).trans ((Proj.PromptRef.q_eq _ _).trans (congrArg₂ (Proj.Prompt.GQ) e0 e1))),
      h1.trans ((Cert.Reference2Ideal.Read.val_main_v95_eq m' c).trans ((Proj.PromptRef.kb_eq _ _).trans (congrArg₂ (Proj.Prompt.GK) e0 e1))),
      h2.trans ((Cert.Reference2Ideal.Read.val_main_v98_eq _ _).trans ((Proj.PromptRef.vt_eq _ _).trans (congrArg₂ (Proj.Prompt.GV) e0 e1))),
      h3.trans ((Cert.Reference2Ideal.Read.val_main_v86_eq m' c).trans ((Proj.PromptRef.k_eq _ _).trans (congrArg₂ (Proj.Prompt.GK) e0 e1))),
      h4.trans ((Cert.Reference2Ideal.Read.val_main_v87_eq _ _).trans ((Proj.PromptRef.v_eq _ _).trans (congrArg₂ (Proj.Prompt.GLin 1024 (by decide)) e0 e1))),
      h5.trans ((Cert.Reference2Ideal.Read.val_main_v88_eq _ _).trans ((Proj.PromptRef.xr_eq _ _).trans (congrArg₂ (Proj.Prompt.GLin 1536 (by decide)) e0 e1))),
      h6.trans ((Cert.Reference2Ideal.Read.val_main_v89_eq _ _).trans ((Proj.PromptRef.gate_eq _ _).trans (congrArg₂ (Proj.Prompt.GLin 2048 (by decide)) e0 e1))), hk⟩

/-- The projections of the sampling batch: the kernel and its reference give equal results. -/
theorem sample_projection : Cert.algebraic_Kernel3Ideal_Reference3Ideal := by
  intro m ρ m' ρ' _ hag
  refine ⟨fun c => Proj.Sample.GQ (Proj.Sample.a0 m c) (Proj.Sample.a1 m c),
    fun c => Proj.Sample.GK (Proj.Sample.a0 m c) (Proj.Sample.a1 m c),
    fun c => Proj.Sample.GLin 1024 (by decide) (Proj.Sample.a0 m c) (Proj.Sample.a1 m c),
    fun c => Proj.Sample.GK (Proj.Sample.a0 m c) (Proj.Sample.a1 m c),
    fun c => Proj.Sample.GLin 1024 (by decide) (Proj.Sample.a0 m c) (Proj.Sample.a1 m c),
    fun c => Proj.Sample.GLin 1536 (by decide) (Proj.Sample.a0 m c) (Proj.Sample.a1 m c),
    fun c => Proj.Sample.GLin 2048 (by decide) (Proj.Sample.a0 m c) (Proj.Sample.a1 m c),
    (θ_run _ _ _).mono (fun r h c => ?_) (Cert.Kernel3Ideal.Value.run_blocks m ρ),
    (θ_run _ _ _).mono (fun r h c => ?_) (Cert.Reference3Ideal.Value.run m' ρ')⟩
  · obtain ⟨h0, h1, h2, h3, h4, h5, h6, hk⟩ := h c
    exact ⟨h0.trans (Proj.Sample.final5 m c), h1.trans (Proj.Sample.final6 m c), h2.trans (Proj.Sample.final7 m c), h3.trans (Proj.Sample.final8 m c), h4.trans (Proj.Sample.final9 m c), h5.trans (Proj.Sample.final10 m c), h6.trans (Proj.Sample.final11 m c), hk⟩
  · obtain ⟨h0, h1, h2, h3, h4, h5, h6, hk⟩ := h c
    obtain ⟨e0, e1⟩ := hag c
    exact ⟨h0.trans ((Cert.Reference3Ideal.Read.val_main_v95_eq m' c).trans ((Proj.SampleRef.q_eq _ _).trans (congrArg₂ (Proj.Sample.GQ) e0 e1))),
      h1.trans ((Cert.Reference3Ideal.Read.val_main_v97_eq m' c).trans ((Proj.SampleRef.kb_eq _ _).trans (congrArg₂ (Proj.Sample.GK) e0 e1))),
      h2.trans ((Cert.Reference3Ideal.Read.val_main_v99_eq _ _).trans ((Proj.SampleRef.vb_eq _ _).trans (congrArg₂ (Proj.Sample.GLin 1024 (by decide)) e0 e1))),
      h3.trans ((Cert.Reference3Ideal.Read.val_main_v100_eq m' c).trans ((Proj.SampleRef.k_eq _ _).trans (congrArg₂ (Proj.Sample.GK) e0 e1))),
      h4.trans ((Cert.Reference3Ideal.Read.val_main_v101_eq _ _).trans ((Proj.SampleRef.v_eq _ _).trans (congrArg₂ (Proj.Sample.GLin 1024 (by decide)) e0 e1))),
      h5.trans ((Cert.Reference3Ideal.Read.val_main_v102_eq _ _).trans ((Proj.SampleRef.xr_eq _ _).trans (congrArg₂ (Proj.Sample.GLin 1536 (by decide)) e0 e1))),
      h6.trans ((Cert.Reference3Ideal.Read.val_main_v103_eq _ _).trans ((Proj.SampleRef.gate_eq _ _).trans (congrArg₂ (Proj.Sample.GLin 2048 (by decide)) e0 e1))), hk⟩

/-- The embedding's gate and the second norm: the kernel and its reference give equal results. -/
theorem second_norm : Cert.algebraic_Kernel4Ideal_Reference4Ideal := by
  intro m ρ m' ρ' _ hag
  refine ⟨fun c => Tail.Ln2.G (Tail.Ln2.a0 m c) (Tail.Ln2.a1 m c) (Tail.Ln2.a2 m c) (Tail.Ln2.a3 m c) (Tail.Ln2.a4 m c) (Tail.Ln2.a5 m c) (Tail.Ln2.a6 m c) (Tail.Ln2.a7 m c),
    (θ_run _ _ _).mono (fun r h c => ?_) (Cert.Kernel4Ideal.Value.run_blocks m ρ),
    (θ_run _ _ _).mono (fun r h c => ?_) (Cert.Reference4Ideal.Value.run m' ρ')⟩
  · obtain ⟨h0, hk⟩ := h c
    exact ⟨h0.trans (Tail.Ln2.final m c), hk⟩
  · obtain ⟨h0, hk⟩ := h c
    obtain ⟨e0, e1, e2, e3, e4, e5, e6, e7⟩ := hag c
    refine ⟨h0.trans ((Cert.Reference4Ideal.Read.val_main_v39_eq m' c).trans ?_), hk⟩
    · rw [e0, e1, e2, e3, e4, e5, e6, e7]
      exact Tail.Ln2Ref.ref_eq _ _ _ _ _ _ _ _

/-- The output projection and the norm after it: the kernel and its reference give equal results. -/
theorem output_norm : Cert.algebraic_Kernel5Ideal_Reference5Ideal := by
  intro m ρ m' ρ' _ hag
  refine ⟨fun c => Tail.Out1.G (Tail.Out1.a0 m c) (Tail.Out1.a1 m c) (Tail.Out1.a2 m c) (Tail.Out1.a3 m c) (Tail.Out1.a4 m c) (Tail.Out1.a5 m c),
    fun c => Tail.Out1.GT (Tail.Out1.a0 m c) (Tail.Out1.a1 m c) (Tail.Out1.a2 m c) (Tail.Out1.a3 m c) (Tail.Out1.a4 m c) (Tail.Out1.a5 m c),
    (θ_run _ _ _).mono (fun r h c => ?_) (Cert.Kernel5Ideal.Value.run_blocks m ρ),
    (θ_run _ _ _).mono (fun r h c => ?_) (Cert.Reference5Ideal.Value.run m' ρ')⟩
  · obtain ⟨h0, h1, hk⟩ := h c
    exact ⟨h0.trans (Tail.Out1.final6 m c), h1.trans (Tail.Out1.final7 m c), hk⟩
  · obtain ⟨h0, h1, hk⟩ := h c
    obtain ⟨e0, e1, e2, e3, e4, e5⟩ := hag c
    refine ⟨h0.trans ((Cert.Reference5Ideal.Read.val_main_v30_eq m' c).trans ?_),
      h1.trans ((Cert.Reference5Ideal.Read.val_main_v32_eq m' c).trans ?_), hk⟩
    · rw [e0, e1, e2, e3, e4, e5]
      exact Tail.Out1Ref.ref_eq _ _ _ _ _ _
    · rw [e0, e1, e2, e3, e4, e5]
      exact Tail.Out1Ref.refT_eq _ _ _ _ _ _

theorem ref_frame2 : Cert.quiescent_Reference2Ideal := fun m ρ _ =>
  (θ_run (Cert.Reference2Ideal.defs (F := Ideal)) _ _).mono
    (fun r h => ⟨fun c => (h c).2.2.2.2.2.2.2, sem_eq_zero_of_no_sems (by decide) r.2⟩)
    (Cert.Reference2Ideal.Value.run (F := Ideal) m ρ)

theorem ref_frame3 : Cert.quiescent_Reference3Ideal := fun m ρ _ =>
  (θ_run (Cert.Reference3Ideal.defs (F := Ideal)) _ _).mono
    (fun r h => ⟨fun c => (h c).2.2.2.2.2.2.2, sem_eq_zero_of_no_sems (by decide) r.2⟩)
    (Cert.Reference3Ideal.Value.run (F := Ideal) m ρ)

theorem ref_frame4 : Cert.quiescent_Reference4Ideal := fun m ρ _ =>
  (θ_run (Cert.Reference4Ideal.defs (F := Ideal)) _ _).mono
    (fun r h => ⟨fun c => (h c).2, sem_eq_zero_of_no_sems (by decide) r.2⟩)
    (Cert.Reference4Ideal.Value.run (F := Ideal) m ρ)

theorem ref_frame5 : Cert.quiescent_Reference5Ideal := fun m ρ _ =>
  (θ_run (Cert.Reference5Ideal.defs (F := Ideal)) _ _).mono
    (fun r h => ⟨fun c => (h c).2.2, sem_eq_zero_of_no_sems (by decide) r.2⟩)
    (Cert.Reference5Ideal.Value.run (F := Ideal) m ρ)

/-- The recurrence of the sampling batch: the kernel and its reference give equal results. -/
theorem recurrence : Cert.algebraic_Kernel6Ideal_Reference6Ideal := by
  intro m ρ m' ρ' _ hag
  refine ⟨fun c => Rec.GY (Rec.a0 m c) (Rec.a1 m c) (Rec.a2 m c) (Rec.a3 m c) (Rec.a4 m c) (Rec.a5 m c) (Rec.a6 m c) (Rec.a7 m c) (Rec.a8 m c) (Rec.a9 m c) (Rec.a10 m c),
    fun c => Rec.GH (Rec.a0 m c) (Rec.a2 m c) (Rec.a3 m c) (Rec.a4 m c) (Rec.a5 m c) (Rec.a6 m c) (Rec.a7 m c) (Rec.a8 m c) (Rec.a9 m c) (Rec.a10 m c),
    fun c => Rec.GB (Rec.a0 m c) (Rec.a3 m c),
    (θ_run _ _ _).mono (fun r h c => ?_) (Cert.Kernel6Ideal.Value.run_blocks m ρ),
    (θ_run _ _ _).mono (fun r h c => ?_) (Cert.Reference6Ideal.Value.run m' ρ')⟩
  · obtain ⟨h0, h1, h2, hk⟩ := h c
    exact ⟨h0.trans (Rec.final11 m c), h1.trans (Rec.final12 m c), h2.trans (Rec.final13 m c), hk⟩
  · obtain ⟨h0, h1, h2, hk⟩ := h c
    obtain ⟨e0, e1, e2, e3, e4, e5, e6, e7, e8, e9, e10⟩ := hag c
    refine ⟨h0.trans ((Cert.Reference6Ideal.Read.val_main_v144_eq _).trans ?_),
      h1.trans ((Cert.Reference6Ideal.Read.val_main_v145_eq _).trans ?_),
      h2.trans ((Cert.Reference6Ideal.Read.val_main_v146_eq _).trans ?_), hk⟩
    · refine (Rec.Ref.ref144 _ _ _ _ _ _ _ _ _ _ _).trans ?_
      have f0 : StableHlo.launchContents m' c (Proc.tc.devRef Cert.Reference6Ideal.main_arg0) = Rec.a0 m c := e0
      have f1 : StableHlo.launchContents m' c (Proc.tc.devRef Cert.Reference6Ideal.main_arg1) = Rec.a1 m c := e1
      have f2 : StableHlo.launchContents m' c (Proc.tc.devRef Cert.Reference6Ideal.main_arg2) = Rec.a2 m c := e2
      have f3 : StableHlo.launchContents m' c (Proc.tc.devRef Cert.Reference6Ideal.main_arg3) = Rec.a3 m c := e3
      have f4 : StableHlo.launchContents m' c (Proc.tc.devRef Cert.Reference6Ideal.main_arg4) = Rec.a4 m c := e4
      have f5 : StableHlo.launchContents m' c (Proc.tc.devRef Cert.Reference6Ideal.main_arg5) = Rec.a5 m c := e5
      have f6 : StableHlo.launchContents m' c (Proc.tc.devRef Cert.Reference6Ideal.main_arg6) = Rec.a6 m c := e6
      have f7 : StableHlo.launchContents m' c (Proc.tc.devRef Cert.Reference6Ideal.main_arg7) = Rec.a7 m c := e7
      have f8 : StableHlo.launchContents m' c (Proc.tc.devRef Cert.Reference6Ideal.main_arg8) = Rec.a8 m c := e8
      have f9 : StableHlo.launchContents m' c (Proc.tc.devRef Cert.Reference6Ideal.main_arg9) = Rec.a9 m c := e9
      have f10 : StableHlo.launchContents m' c (Proc.tc.devRef Cert.Reference6Ideal.main_arg10) = Rec.a10 m c := e10
      rw [f0, f1, f2, f3, f4, f5, f6, f7, f8, f9, f10]
    · refine (Rec.Ref.ref145 _ _ _ _ _ _ _ _ _ _).trans ?_
      have f0 : StableHlo.launchContents m' c (Proc.tc.devRef Cert.Reference6Ideal.main_arg0) = Rec.a0 m c := e0
      have f2 : StableHlo.launchContents m' c (Proc.tc.devRef Cert.Reference6Ideal.main_arg2) = Rec.a2 m c := e2
      have f3 : StableHlo.launchContents m' c (Proc.tc.devRef Cert.Reference6Ideal.main_arg3) = Rec.a3 m c := e3
      have f4 : StableHlo.launchContents m' c (Proc.tc.devRef Cert.Reference6Ideal.main_arg4) = Rec.a4 m c := e4
      have f5 : StableHlo.launchContents m' c (Proc.tc.devRef Cert.Reference6Ideal.main_arg5) = Rec.a5 m c := e5
      have f6 : StableHlo.launchContents m' c (Proc.tc.devRef Cert.Reference6Ideal.main_arg6) = Rec.a6 m c := e6
      have f7 : StableHlo.launchContents m' c (Proc.tc.devRef Cert.Reference6Ideal.main_arg7) = Rec.a7 m c := e7
      have f8 : StableHlo.launchContents m' c (Proc.tc.devRef Cert.Reference6Ideal.main_arg8) = Rec.a8 m c := e8
      have f9 : StableHlo.launchContents m' c (Proc.tc.devRef Cert.Reference6Ideal.main_arg9) = Rec.a9 m c := e9
      have f10 : StableHlo.launchContents m' c (Proc.tc.devRef Cert.Reference6Ideal.main_arg10) = Rec.a10 m c := e10
      rw [f0, f2, f3, f4, f5, f6, f7, f8, f9, f10]
    · refine (Rec.Ref.ref146 _ _).trans ?_
      have f0 : StableHlo.launchContents m' c (Proc.tc.devRef Cert.Reference6Ideal.main_arg0) = Rec.a0 m c := e0
      have f3 : StableHlo.launchContents m' c (Proc.tc.devRef Cert.Reference6Ideal.main_arg3) = Rec.a3 m c := e3
      rw [f0, f3]

/-- The two named constants of the recurrence's kernel are the values that its table gives them. -/
theorem constants : Cert.preserves_Kernel6_Kernel6Ideal :=
  ⟨IdealRules.named_const.statement Cert.Kernel6Ideal.κ "cubic" .f32 0xBDD2D3E8#32 (((-((2 * (6693141 / 8388608)) * (Real.log 2)⁻¹)) * (12003091 / 268435456) : ℝ) : EReal) rfl,
    IdealRules.named_const.statement Cert.Kernel6Ideal.κ "slope" .f32 0xC0135761#32 ((-((2 * (6693141 / 8388608)) * (Real.log 2)⁻¹) : ℝ) : EReal) rfl⟩

theorem ref_frame6 : Cert.quiescent_Reference6Ideal := fun m ρ _ =>
  (θ_run (Cert.Reference6Ideal.defs (F := Ideal)) _ _).mono
    (fun r h => ⟨fun c => (h c).2.2.2, sem_eq_zero_of_no_sems (by decide) r.2⟩)
    (Cert.Reference6Ideal.Value.run (F := Ideal) m ρ)

/-- The embedding's gate and the second norm, of the sampling batch: the kernel and its reference give equal results. -/
theorem sample_second_norm : Cert.algebraic_Kernel7Ideal_Reference7Ideal := by
  intro m ρ m' ρ' _ hag
  refine ⟨fun c => Tail.Ln2s.G (Tail.Ln2s.a0 m c) (Tail.Ln2s.a1 m c) (Tail.Ln2s.a2 m c) (Tail.Ln2s.a3 m c) (Tail.Ln2s.a4 m c) (Tail.Ln2s.a5 m c) (Tail.Ln2s.a6 m c) (Tail.Ln2s.a7 m c),
    (θ_run _ _ _).mono (fun r h c => ?_) (Cert.Kernel7Ideal.Value.run_blocks m ρ),
    (θ_run _ _ _).mono (fun r h c => ?_) (Cert.Reference7Ideal.Value.run m' ρ')⟩
  · obtain ⟨h0, hk⟩ := h c
    exact ⟨h0.trans (Tail.Ln2s.final m c), hk⟩
  · obtain ⟨h0, hk⟩ := h c
    obtain ⟨e0, e1, e2, e3, e4, e5, e6, e7⟩ := hag c
    refine ⟨h0.trans ((Cert.Reference7Ideal.Read.val_main_v39_eq m' c).trans ?_), hk⟩
    · rw [e0, e1, e2, e3, e4, e5, e6, e7]
      exact Tail.Ln2sRef.ref_eq _ _ _ _ _ _ _ _

theorem ref_frame7 : Cert.quiescent_Reference7Ideal := fun m ρ _ =>
  (θ_run (Cert.Reference7Ideal.defs (F := Ideal)) _ _).mono
    (fun r h => ⟨fun c => (h c).2, sem_eq_zero_of_no_sems (by decide) r.2⟩)
    (Cert.Reference7Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Attn.preFacts,
    fun m ρ _ => Cert.Kernel.Gen.frame m ρ, fun m ρ _ => Cert.KernelIdeal.Gen.frame m ρ, fun m ρ _ => Cert.KernelIdeal.Gen.frame m ρ, ref_frame, fun m ρ _ => ref_frame m ρ trivial,
    fun m ρ _ => Cert.Kernel2.Gen.frame m ρ, fun m ρ _ => Cert.Kernel2Ideal.Gen.frame m ρ, ref_frame2,
    fun m ρ _ => Cert.Kernel3.Gen.frame m ρ, fun m ρ _ => Cert.Kernel3Ideal.Gen.frame m ρ, ref_frame3,
    fun m ρ _ => Cert.Kernel4.Gen.frame m ρ, fun m ρ _ => Cert.Kernel4Ideal.Gen.frame m ρ, ref_frame4,
    fun m ρ _ => Cert.Kernel5.Gen.frame m ρ, fun m ρ _ => Cert.Kernel5Ideal.Gen.frame m ρ, ref_frame5,
    fun m ρ _ => Cert.Kernel6.Gen.frame m ρ, fun m ρ _ => Cert.Kernel6Ideal.Gen.frame m ρ, ref_frame6,
    fun m ρ _ => Cert.Kernel7.Gen.frame m ρ, fun m ρ _ => Cert.Kernel7Ideal.Gen.frame m ρ, ref_frame7,
    trivial, attention, trivial, prompt_projection, trivial, sample_projection, trivial, second_norm, trivial, output_norm, constants, recurrence, trivial, sample_second_norm⟩

end Cert.Proof

end
